-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Chunks [hPre_chunks_in_range : Cert.Pre_chunks_in_range.Facts] (m : (ℓ : Loc Cert.Chunks.nD Cert.Chunks.τ Cert.Chunks.sig) → Buf (Elt Bits) ℓ) : Prop :=
  ∀ c : Dev Cert.Chunks.nD,
    (Cert.Pre_chunks_in_range.fn (F := Bits) (m ((c.tc : Thread Cert.Chunks.nD Cert.Chunks.τ).loc Cert.Chunks.main_arg0)) (m ((c.tc : Thread Cert.Chunks.nD Cert.Chunks.τ).loc Cert.Chunks.main_arg1))) = (fun _ => 1#1)

def Pre_ChunksIdeal [hPre_chunks_in_range : Cert.Pre_chunks_in_range.Facts] (m : (ℓ : Loc Cert.ChunksIdeal.nD Cert.ChunksIdeal.τ Cert.ChunksIdeal.sig) → Buf (Elt Ideal) ℓ) : Prop :=
  ∀ c : Dev Cert.ChunksIdeal.nD,
    (Cert.Pre_chunks_in_range.fn (F := Ideal) (m ((c.tc : Thread Cert.ChunksIdeal.nD Cert.ChunksIdeal.τ).loc Cert.ChunksIdeal.main_arg0)) (m ((c.tc : Thread Cert.ChunksIdeal.nD Cert.ChunksIdeal.τ).loc Cert.ChunksIdeal.main_arg1))) = (fun _ => 1#1)

def Pre_ChunksReferenceIdeal (m : (ℓ : Loc Cert.ChunksReferenceIdeal.nD Cert.ChunksReferenceIdeal.τ Cert.ChunksReferenceIdeal.sig) → Buf (Elt Ideal) ℓ) : Prop :=
  True

def Pre_ChunksReferenceIdeal_chunks_in_range [hPre_chunks_in_range : Cert.Pre_chunks_in_range.Facts] (m : (ℓ : Loc Cert.ChunksReferenceIdeal.nD Cert.ChunksReferenceIdeal.τ Cert.ChunksReferenceIdeal.sig) → Buf (Elt Ideal) ℓ) : Prop :=
  ∀ c : Dev Cert.ChunksReferenceIdeal.nD,
    (Cert.Pre_chunks_in_range.fn (F := Ideal) (m ((c.tc : Thread Cert.ChunksReferenceIdeal.nD Cert.ChunksReferenceIdeal.τ).loc Cert.ChunksReferenceIdeal.main_arg0)) (m ((c.tc : Thread Cert.ChunksReferenceIdeal.nD Cert.ChunksReferenceIdeal.τ).loc Cert.ChunksReferenceIdeal.main_arg1))) = (fun _ => 1#1)

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresReferenceIdeal (m : (ℓ : Loc Cert.ScoresReferenceIdeal.nD Cert.ScoresReferenceIdeal.τ Cert.ScoresReferenceIdeal.sig) → Buf (Elt Ideal) ℓ) : Prop :=
  True

def Pre_Choose (m : (ℓ : Loc Cert.Choose.nD Cert.Choose.τ Cert.Choose.sig) → Buf (Elt Bits) ℓ) : Prop :=
  True

def Pre_ChooseIdeal (m : (ℓ : Loc Cert.ChooseIdeal.nD Cert.ChooseIdeal.τ Cert.ChooseIdeal.sig) → Buf (Elt Ideal) ℓ) : Prop :=
  True

def Pre_ChooseIdeal_maxima_above [hPre_maxima_above : Cert.Pre_maxima_above.Facts] (m : (ℓ : Loc Cert.ChooseIdeal.nD Cert.ChooseIdeal.τ Cert.ChooseIdeal.sig) → Buf (Elt Ideal) ℓ) : Prop :=
  ∀ c : Dev Cert.ChooseIdeal.nD,
    (Cert.Pre_maxima_above.fn (F := Ideal) (m ((c.tc : Thread Cert.ChooseIdeal.nD Cert.ChooseIdeal.τ).loc Cert.ChooseIdeal.main_arg0))) = (fun _ => 1#1)

def Pre_ChooseReferenceIdeal (m : (ℓ : Loc Cert.ChooseReferenceIdeal.nD Cert.ChooseReferenceIdeal.τ Cert.ChooseReferenceIdeal.sig) → Buf (Elt Ideal) ℓ) : Prop :=
  True

def Pre_ChooseReferenceIdeal_maxima_above [hPre_maxima_above : Cert.Pre_maxima_above.Facts] (m : (ℓ : Loc Cert.ChooseReferenceIdeal.nD Cert.ChooseReferenceIdeal.τ Cert.ChooseReferenceIdeal.sig) → Buf (Elt Ideal) ℓ) : Prop :=
  ∀ c : Dev Cert.ChooseReferenceIdeal.nD,
    (Cert.Pre_maxima_above.fn (F := Ideal) (m ((c.tc : Thread Cert.ChooseReferenceIdeal.nD Cert.ChooseReferenceIdeal.τ).loc Cert.ChooseReferenceIdeal.main_arg0))) = (fun _ => 1#1)

def Pre_Rank (m : (ℓ : Loc Cert.Rank.nD Cert.Rank.τ Cert.Rank.sig) → Buf (Elt Bits) ℓ) : Prop :=
  True

def Pre_RankIdeal (m : (ℓ : Loc Cert.RankIdeal.nD Cert.RankIdeal.τ Cert.RankIdeal.sig) → Buf (Elt Ideal) ℓ) : Prop :=
  True

def Pre_RankIdeal_own_chunks [hPre_own_chunks : Cert.Pre_own_chunks.Facts] (m : (ℓ : Loc Cert.RankIdeal.nD Cert.RankIdeal.τ Cert.RankIdeal.sig) → Buf (Elt Ideal) ℓ) : Prop :=
  ∀ c : Dev Cert.RankIdeal.nD,
    (Cert.Pre_own_chunks.fn (F := Ideal) (m ((c.tc : Thread Cert.RankIdeal.nD Cert.RankIdeal.τ).loc Cert.RankIdeal.main_arg0)) (m ((c.tc : Thread Cert.RankIdeal.nD Cert.RankIdeal.τ).loc Cert.RankIdeal.main_arg1))) = (fun _ => 1#1)

def Pre_RankReferenceIdeal (m : (ℓ : Loc Cert.RankReferenceIdeal.nD Cert.RankReferenceIdeal.τ Cert.RankReferenceIdeal.sig) → Buf (Elt Ideal) ℓ) : Prop :=
  True

def Pre_RankReferenceIdeal_own_chunks [hPre_own_chunks : Cert.Pre_own_chunks.Facts] (m : (ℓ : Loc Cert.RankReferenceIdeal.nD Cert.RankReferenceIdeal.τ Cert.RankReferenceIdeal.sig) → Buf (Elt Ideal) ℓ) : Prop :=
  ∀ c : Dev Cert.RankReferenceIdeal.nD,
    (Cert.Pre_own_chunks.fn (F := Ideal) (m ((c.tc : Thread Cert.RankReferenceIdeal.nD Cert.RankReferenceIdeal.τ).loc Cert.RankReferenceIdeal.main_arg0)) (m ((c.tc : Thread Cert.RankReferenceIdeal.nD Cert.RankReferenceIdeal.τ).loc Cert.RankReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Chunks [hChunks : Cert.Chunks.Facts] [hPre_chunks_in_range : Cert.Pre_chunks_in_range.Facts] : Prop :=
  ∀ (m : (ℓ : Loc Cert.Chunks.nD Cert.Chunks.τ Cert.Chunks.sig) → Buf (Elt Bits) ℓ) (g : Dev Cert.Chunks.nD → PrngReg), Pre_Chunks m →
    θ_run (Cert.Chunks.defs (F := Bits)) (Cert.Chunks.threads (F := Bits)) ⟨m, fun _ => 0, g⟩ (fun r => (∀ c : Dev Cert.Chunks.nD,
      r.2.mem ((c.tc : Thread Cert.Chunks.nD Cert.Chunks.τ).loc Cert.Chunks.main_arg0) = m ((c.tc : Thread Cert.Chunks.nD Cert.Chunks.τ).loc Cert.Chunks.main_arg0)
      ∧ r.2.mem ((c.tc : Thread Cert.Chunks.nD Cert.Chunks.τ).loc Cert.Chunks.main_arg1) = m ((c.tc : Thread Cert.Chunks.nD Cert.Chunks.τ).loc Cert.Chunks.main_arg1))
      ∧ r.2.sem = fun _ => 0)

def quiescent_ChunksIdeal [hChunksIdeal : Cert.ChunksIdeal.Facts] [hPre_chunks_in_range : Cert.Pre_chunks_in_range.Facts] : Prop :=
  ∀ (m : (ℓ : Loc Cert.ChunksIdeal.nD Cert.ChunksIdeal.τ Cert.ChunksIdeal.sig) → Buf (Elt Ideal) ℓ) (g : Dev Cert.ChunksIdeal.nD → PrngReg), Pre_ChunksIdeal m →
    θ_run (Cert.ChunksIdeal.defs (F := Ideal)) (Cert.ChunksIdeal.threads (F := Ideal)) ⟨m, fun _ => 0, g⟩ (fun r => (∀ c : Dev Cert.ChunksIdeal.nD,
      r.2.mem ((c.tc : Thread Cert.ChunksIdeal.nD Cert.ChunksIdeal.τ).loc Cert.ChunksIdeal.main_arg0) = m ((c.tc : Thread Cert.ChunksIdeal.nD Cert.ChunksIdeal.τ).loc Cert.ChunksIdeal.main_arg0)
      ∧ r.2.mem ((c.tc : Thread Cert.ChunksIdeal.nD Cert.ChunksIdeal.τ).loc Cert.ChunksIdeal.main_arg1) = m ((c.tc : Thread Cert.ChunksIdeal.nD Cert.ChunksIdeal.τ).loc Cert.ChunksIdeal.main_arg1))
      ∧ r.2.sem = fun _ => 0)

def quiescent_ChunksReferenceIdeal [hChunksReferenceIdeal : Cert.ChunksReferenceIdeal.Facts] : Prop :=
  ∀ (m : (ℓ : Loc Cert.ChunksReferenceIdeal.nD Cert.ChunksReferenceIdeal.τ Cert.ChunksReferenceIdeal.sig) → Buf (Elt Ideal) ℓ) (g : Dev Cert.ChunksReferenceIdeal.nD → PrngReg), Pre_ChunksReferenceIdeal m →
    θ_run (Cert.ChunksReferenceIdeal.defs (F := Ideal)) (onTc (τ := Cert.ChunksReferenceIdeal.τ) (Cert.ChunksReferenceIdeal.main (F := Ideal))) ⟨m, fun _ => 0, g⟩ (fun r => (∀ c : Dev Cert.ChunksReferenceIdeal.nD,
      r.2.mem ((c.tc : Thread Cert.ChunksReferenceIdeal.nD Cert.ChunksReferenceIdeal.τ).loc Cert.ChunksReferenceIdeal.main_arg0) = m ((c.tc : Thread Cert.ChunksReferenceIdeal.nD Cert.ChunksReferenceIdeal.τ).loc Cert.ChunksReferenceIdeal.main_arg0)
      ∧ r.2.mem ((c.tc : Thread Cert.ChunksReferenceIdeal.nD Cert.ChunksReferenceIdeal.τ).loc Cert.ChunksReferenceIdeal.main_arg1) = m ((c.tc : Thread Cert.ChunksReferenceIdeal.nD Cert.ChunksReferenceIdeal.τ).loc Cert.ChunksReferenceIdeal.main_arg1))
      ∧ r.2.sem = fun _ => 0)

def quiescent_ChunksReferenceIdeal_pre_chunks_in_range [hChunksReferenceIdeal : Cert.ChunksReferenceIdeal.Facts] [hPre_chunks_in_range : Cert.Pre_chunks_in_range.Facts] : Prop :=
  ∀ (m : (ℓ : Loc Cert.ChunksReferenceIdeal.nD Cert.ChunksReferenceIdeal.τ Cert.ChunksReferenceIdeal.sig) → Buf (Elt Ideal) ℓ) (g : Dev Cert.ChunksReferenceIdeal.nD → PrngReg), Pre_ChunksReferenceIdeal_chunks_in_range m →
    θ_run (Cert.ChunksReferenceIdeal.defs (F := Ideal)) (onTc (τ := Cert.ChunksReferenceIdeal.τ) (Cert.ChunksReferenceIdeal.main (F := Ideal))) ⟨m, fun _ => 0, g⟩ (fun r => (∀ c : Dev Cert.ChunksReferenceIdeal.nD,
      r.2.mem ((c.tc : Thread Cert.ChunksReferenceIdeal.nD Cert.ChunksReferenceIdeal.τ).loc Cert.ChunksReferenceIdeal.main_arg0) = m ((c.tc : Thread Cert.ChunksReferenceIdeal.nD Cert.ChunksReferenceIdeal.τ).loc Cert.ChunksReferenceIdeal.main_arg0)
      ∧ r.2.mem ((c.tc : Thread Cert.ChunksReferenceIdeal.nD Cert.ChunksReferenceIdeal.τ).loc Cert.ChunksReferenceIdeal.main_arg1) = m ((c.tc : Thread Cert.ChunksReferenceIdeal.nD Cert.ChunksReferenceIdeal.τ).loc Cert.ChunksReferenceIdeal.main_arg1))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_ScoresReferenceIdeal [hScoresReferenceIdeal : Cert.ScoresReferenceIdeal.Facts] : Prop :=
  ∀ (m : (ℓ : Loc Cert.ScoresReferenceIdeal.nD Cert.ScoresReferenceIdeal.τ Cert.ScoresReferenceIdeal.sig) → Buf (Elt Ideal) ℓ) (g : Dev Cert.ScoresReferenceIdeal.nD → PrngReg), Pre_ScoresReferenceIdeal m →
    θ_run (Cert.ScoresReferenceIdeal.defs (F := Ideal)) (onTc (τ := Cert.ScoresReferenceIdeal.τ) (Cert.ScoresReferenceIdeal.main (F := Ideal))) ⟨m, fun _ => 0, g⟩ (fun r => (∀ c : Dev Cert.ScoresReferenceIdeal.nD,
      r.2.mem ((c.tc : Thread Cert.ScoresReferenceIdeal.nD Cert.ScoresReferenceIdeal.τ).loc Cert.ScoresReferenceIdeal.main_arg0) = m ((c.tc : Thread Cert.ScoresReferenceIdeal.nD Cert.ScoresReferenceIdeal.τ).loc Cert.ScoresReferenceIdeal.main_arg0)
      ∧ r.2.mem ((c.tc : Thread Cert.ScoresReferenceIdeal.nD Cert.ScoresReferenceIdeal.τ).loc Cert.ScoresReferenceIdeal.main_arg1) = m ((c.tc : Thread Cert.ScoresReferenceIdeal.nD Cert.ScoresReferenceIdeal.τ).loc Cert.ScoresReferenceIdeal.main_arg1)
      ∧ r.2.mem ((c.tc : Thread Cert.ScoresReferenceIdeal.nD Cert.ScoresReferenceIdeal.τ).loc Cert.ScoresReferenceIdeal.main_arg2) = m ((c.tc : Thread Cert.ScoresReferenceIdeal.nD Cert.ScoresReferenceIdeal.τ).loc Cert.ScoresReferenceIdeal.main_arg2))
      ∧ r.2.sem = fun _ => 0)

def quiescent_Choose [hChoose : Cert.Choose.Facts] : Prop :=
  ∀ (m : (ℓ : Loc Cert.Choose.nD Cert.Choose.τ Cert.Choose.sig) → Buf (Elt Bits) ℓ) (g : Dev Cert.Choose.nD → PrngReg), Pre_Choose m →
    θ_run (Cert.Choose.defs (F := Bits)) (onTc (τ := Cert.Choose.τ) (Cert.Choose.main (F := Bits))) ⟨m, fun _ => 0, g⟩ (fun r => (∀ c : Dev Cert.Choose.nD,
      r.2.mem ((c.tc : Thread Cert.Choose.nD Cert.Choose.τ).loc Cert.Choose.main_arg0) = m ((c.tc : Thread Cert.Choose.nD Cert.Choose.τ).loc Cert.Choose.main_arg0))
      ∧ r.2.sem = fun _ => 0)

def quiescent_ChooseIdeal [hChooseIdeal : Cert.ChooseIdeal.Facts] : Prop :=
  ∀ (m : (ℓ : Loc Cert.ChooseIdeal.nD Cert.ChooseIdeal.τ Cert.ChooseIdeal.sig) → Buf (Elt Ideal) ℓ) (g : Dev Cert.ChooseIdeal.nD → PrngReg), Pre_ChooseIdeal m →
    θ_run (Cert.ChooseIdeal.defs (F := Ideal)) (onTc (τ := Cert.ChooseIdeal.τ) (Cert.ChooseIdeal.main (F := Ideal))) ⟨m, fun _ => 0, g⟩ (fun r => (∀ c : Dev Cert.ChooseIdeal.nD,
      r.2.mem ((c.tc : Thread Cert.ChooseIdeal.nD Cert.ChooseIdeal.τ).loc Cert.ChooseIdeal.main_arg0) = m ((c.tc : Thread Cert.ChooseIdeal.nD Cert.ChooseIdeal.τ).loc Cert.ChooseIdeal.main_arg0))
      ∧ r.2.sem = fun _ => 0)

def quiescent_ChooseIdeal_pre_maxima_above [hChooseIdeal : Cert.ChooseIdeal.Facts] [hPre_maxima_above : Cert.Pre_maxima_above.Facts] : Prop :=
  ∀ (m : (ℓ : Loc Cert.ChooseIdeal.nD Cert.ChooseIdeal.τ Cert.ChooseIdeal.sig) → Buf (Elt Ideal) ℓ) (g : Dev Cert.ChooseIdeal.nD → PrngReg), Pre_ChooseIdeal_maxima_above m →
    θ_run (Cert.ChooseIdeal.defs (F := Ideal)) (onTc (τ := Cert.ChooseIdeal.τ) (Cert.ChooseIdeal.main (F := Ideal))) ⟨m, fun _ => 0, g⟩ (fun r => (∀ c : Dev Cert.ChooseIdeal.nD,
      r.2.mem ((c.tc : Thread Cert.ChooseIdeal.nD Cert.ChooseIdeal.τ).loc Cert.ChooseIdeal.main_arg0) = m ((c.tc : Thread Cert.ChooseIdeal.nD Cert.ChooseIdeal.τ).loc Cert.ChooseIdeal.main_arg0))
      ∧ r.2.sem = fun _ => 0)

def quiescent_ChooseReferenceIdeal [hChooseReferenceIdeal : Cert.ChooseReferenceIdeal.Facts] : Prop :=
  ∀ (m : (ℓ : Loc Cert.ChooseReferenceIdeal.nD Cert.ChooseReferenceIdeal.τ Cert.ChooseReferenceIdeal.sig) → Buf (Elt Ideal) ℓ) (g : Dev Cert.ChooseReferenceIdeal.nD → PrngReg), Pre_ChooseReferenceIdeal m →
    θ_run (Cert.ChooseReferenceIdeal.defs (F := Ideal)) (onTc (τ := Cert.ChooseReferenceIdeal.τ) (Cert.ChooseReferenceIdeal.main (F := Ideal))) ⟨m, fun _ => 0, g⟩ (fun r => (∀ c : Dev Cert.ChooseReferenceIdeal.nD,
      r.2.mem ((c.tc : Thread Cert.ChooseReferenceIdeal.nD Cert.ChooseReferenceIdeal.τ).loc Cert.ChooseReferenceIdeal.main_arg0) = m ((c.tc : Thread Cert.ChooseReferenceIdeal.nD Cert.ChooseReferenceIdeal.τ).loc Cert.ChooseReferenceIdeal.main_arg0))
      ∧ r.2.sem = fun _ => 0)

def quiescent_ChooseReferenceIdeal_pre_maxima_above [hChooseReferenceIdeal : Cert.ChooseReferenceIdeal.Facts] [hPre_maxima_above : Cert.Pre_maxima_above.Facts] : Prop :=
  ∀ (m : (ℓ : Loc Cert.ChooseReferenceIdeal.nD Cert.ChooseReferenceIdeal.τ Cert.ChooseReferenceIdeal.sig) → Buf (Elt Ideal) ℓ) (g : Dev Cert.ChooseReferenceIdeal.nD → PrngReg), Pre_ChooseReferenceIdeal_maxima_above m →
    θ_run (Cert.ChooseReferenceIdeal.defs (F := Ideal)) (onTc (τ := Cert.ChooseReferenceIdeal.τ) (Cert.ChooseReferenceIdeal.main (F := Ideal))) ⟨m, fun _ => 0, g⟩ (fun r => (∀ c : Dev Cert.ChooseReferenceIdeal.nD,
      r.2.mem ((c.tc : Thread Cert.ChooseReferenceIdeal.nD Cert.ChooseReferenceIdeal.τ).loc Cert.ChooseReferenceIdeal.main_arg0) = m ((c.tc : Thread Cert.ChooseReferenceIdeal.nD Cert.ChooseReferenceIdeal.τ).loc Cert.ChooseReferenceIdeal.main_arg0))
      ∧ r.2.sem = fun _ => 0)

def quiescent_Rank [hRank : Cert.Rank.Facts] : Prop :=
  ∀ (m : (ℓ : Loc Cert.Rank.nD Cert.Rank.τ Cert.Rank.sig) → Buf (Elt Bits) ℓ) (g : Dev Cert.Rank.nD → PrngReg), Pre_Rank m →
    θ_run (Cert.Rank.defs (F := Bits)) (onTc (τ := Cert.Rank.τ) (Cert.Rank.main (F := Bits))) ⟨m, fun _ => 0, g⟩ (fun r => (∀ c : Dev Cert.Rank.nD,
      r.2.mem ((c.tc : Thread Cert.Rank.nD Cert.Rank.τ).loc Cert.Rank.main_arg0) = m ((c.tc : Thread Cert.Rank.nD Cert.Rank.τ).loc Cert.Rank.main_arg0)
      ∧ r.2.mem ((c.tc : Thread Cert.Rank.nD Cert.Rank.τ).loc Cert.Rank.main_arg1) = m ((c.tc : Thread Cert.Rank.nD Cert.Rank.τ).loc Cert.Rank.main_arg1))
      ∧ r.2.sem = fun _ => 0)

def quiescent_RankIdeal [hRankIdeal : Cert.RankIdeal.Facts] : Prop :=
  ∀ (m : (ℓ : Loc Cert.RankIdeal.nD Cert.RankIdeal.τ Cert.RankIdeal.sig) → Buf (Elt Ideal) ℓ) (g : Dev Cert.RankIdeal.nD → PrngReg), Pre_RankIdeal m →
    θ_run (Cert.RankIdeal.defs (F := Ideal)) (onTc (τ := Cert.RankIdeal.τ) (Cert.RankIdeal.main (F := Ideal))) ⟨m, fun _ => 0, g⟩ (fun r => (∀ c : Dev Cert.RankIdeal.nD,
      r.2.mem ((c.tc : Thread Cert.RankIdeal.nD Cert.RankIdeal.τ).loc Cert.RankIdeal.main_arg0) = m ((c.tc : Thread Cert.RankIdeal.nD Cert.RankIdeal.τ).loc Cert.RankIdeal.main_arg0)
      ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ r.2.sem = fun _ => 0)

def quiescent_RankIdeal_pre_own_chunks [hRankIdeal : Cert.RankIdeal.Facts] [hPre_own_chunks : Cert.Pre_own_chunks.Facts] : Prop :=
  ∀ (m : (ℓ : Loc Cert.RankIdeal.nD Cert.RankIdeal.τ Cert.RankIdeal.sig) → Buf (Elt Ideal) ℓ) (g : Dev Cert.RankIdeal.nD → PrngReg), Pre_RankIdeal_own_chunks m →
    θ_run (Cert.RankIdeal.defs (F := Ideal)) (onTc (τ := Cert.RankIdeal.τ) (Cert.RankIdeal.main (F := Ideal))) ⟨m, fun _ => 0, g⟩ (fun r => (∀ c : Dev Cert.RankIdeal.nD,
      r.2.mem ((c.tc : Thread Cert.RankIdeal.nD Cert.RankIdeal.τ).loc Cert.RankIdeal.main_arg0) = m ((c.tc : Thread Cert.RankIdeal.nD Cert.RankIdeal.τ).loc Cert.RankIdeal.main_arg0)
      ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ r.2.sem = fun _ => 0)

def quiescent_RankReferenceIdeal [hRankReferenceIdeal : Cert.RankReferenceIdeal.Facts] : Prop :=
  ∀ (m : (ℓ : Loc Cert.RankReferenceIdeal.nD Cert.RankReferenceIdeal.τ Cert.RankReferenceIdeal.sig) → Buf (Elt Ideal) ℓ) (g : Dev Cert.RankReferenceIdeal.nD → PrngReg), Pre_RankReferenceIdeal m →
    θ_run (Cert.RankReferenceIdeal.defs (F := Ideal)) (onTc (τ := Cert.RankReferenceIdeal.τ) (Cert.RankReferenceIdeal.main (F := Ideal))) ⟨m, fun _ => 0, g⟩ (fun r => (∀ c : Dev Cert.RankReferenceIdeal.nD,
      r.2.mem ((c.tc : Thread Cert.RankReferenceIdeal.nD Cert.RankReferenceIdeal.τ).loc Cert.RankReferenceIdeal.main_arg0) = m ((c.tc : Thread Cert.RankReferenceIdeal.nD Cert.RankReferenceIdeal.τ).loc Cert.RankReferenceIdeal.main_arg0)
      ∧ r.2.mem ((c.tc : Thread Cert.RankReferenceIdeal.nD Cert.RankReferenceIdeal.τ).loc Cert.RankReferenceIdeal.main_arg1) = m ((c.tc : Thread Cert.RankReferenceIdeal.nD Cert.RankReferenceIdeal.τ).loc Cert.RankReferenceIdeal.main_arg1))
      ∧ r.2.sem = fun _ => 0)

def quiescent_RankReferenceIdeal_pre_own_chunks [hRankReferenceIdeal : Cert.RankReferenceIdeal.Facts] [hPre_own_chunks : Cert.Pre_own_chunks.Facts] : Prop :=
  ∀ (m : (ℓ : Loc Cert.RankReferenceIdeal.nD Cert.RankReferenceIdeal.τ Cert.RankReferenceIdeal.sig) → Buf (Elt Ideal) ℓ) (g : Dev Cert.RankReferenceIdeal.nD → PrngReg), Pre_RankReferenceIdeal_own_chunks m →
    θ_run (Cert.RankReferenceIdeal.defs (F := Ideal)) (onTc (τ := Cert.RankReferenceIdeal.τ) (Cert.RankReferenceIdeal.main (F := Ideal))) ⟨m, fun _ => 0, g⟩ (fun r => (∀ c : Dev Cert.RankReferenceIdeal.nD,
      r.2.mem ((c.tc : Thread Cert.RankReferenceIdeal.nD Cert.RankReferenceIdeal.τ).loc Cert.RankReferenceIdeal.main_arg0) = m ((c.tc : Thread Cert.RankReferenceIdeal.nD Cert.RankReferenceIdeal.τ).loc Cert.RankReferenceIdeal.main_arg0)
      ∧ r.2.mem ((c.tc : Thread Cert.RankReferenceIdeal.nD Cert.RankReferenceIdeal.τ).loc Cert.RankReferenceIdeal.main_arg1) = m ((c.tc : Thread Cert.RankReferenceIdeal.nD Cert.RankReferenceIdeal.τ).loc Cert.RankReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Chunks_ChunksIdeal : Prop :=
  True

def algebraic_ChunksIdeal_ChunksReferenceIdeal [hChunksIdeal : Cert.ChunksIdeal.Facts] [hChunksReferenceIdeal : Cert.ChunksReferenceIdeal.Facts] [hPre_chunks_in_range : Cert.Pre_chunks_in_range.Facts] : Prop :=
  ∀ (m : (ℓ : Loc Cert.ChunksIdeal.nD Cert.ChunksIdeal.τ Cert.ChunksIdeal.sig) → Buf (Elt Ideal) ℓ) (g : Dev Cert.ChunksIdeal.nD → PrngReg)
    (m' : (ℓ : Loc Cert.ChunksReferenceIdeal.nD Cert.ChunksReferenceIdeal.τ Cert.ChunksReferenceIdeal.sig) → Buf (Elt Ideal) ℓ) (g' : Dev Cert.ChunksReferenceIdeal.nD → PrngReg), Pre_ChunksIdeal m →
    (∀ c : Dev Cert.ChunksIdeal.nD,
      m' ((c.tc : Thread Cert.ChunksReferenceIdeal.nD Cert.ChunksReferenceIdeal.τ).loc Cert.ChunksReferenceIdeal.main_arg0) = m ((c.tc : Thread Cert.ChunksIdeal.nD Cert.ChunksIdeal.τ).loc Cert.ChunksIdeal.main_arg0)
      ∧ m' ((c.tc : Thread Cert.ChunksReferenceIdeal.nD Cert.ChunksReferenceIdeal.τ).loc Cert.ChunksReferenceIdeal.main_arg1) = m ((c.tc : Thread Cert.ChunksIdeal.nD Cert.ChunksIdeal.τ).loc Cert.ChunksIdeal.main_arg1)) →
    ∃ (v0 : (c : Dev Cert.ChunksIdeal.nD) → Buf (Elt Ideal) ((c.tc : Thread Cert.ChunksIdeal.nD Cert.ChunksIdeal.τ).loc Cert.ChunksIdeal.main_v4)),
      θ_run (Cert.ChunksIdeal.defs (F := Ideal)) (Cert.ChunksIdeal.threads (F := Ideal)) ⟨m, fun _ => 0, g⟩ (fun r => ∀ c : Dev Cert.ChunksIdeal.nD,
          r.2.mem ((c.tc : Thread Cert.ChunksIdeal.nD Cert.ChunksIdeal.τ).loc Cert.ChunksIdeal.main_v4) = v0 c
          ∧ r.2.mem ((c.tc : Thread Cert.ChunksIdeal.nD Cert.ChunksIdeal.τ).loc Cert.ChunksIdeal.main_arg0) = m ((c.tc : Thread Cert.ChunksIdeal.nD Cert.ChunksIdeal.τ).loc Cert.ChunksIdeal.main_arg0)
          ∧ r.2.mem ((c.tc : Thread Cert.ChunksIdeal.nD Cert.ChunksIdeal.τ).loc Cert.ChunksIdeal.main_arg1) = m ((c.tc : Thread Cert.ChunksIdeal.nD Cert.ChunksIdeal.τ).loc Cert.ChunksIdeal.main_arg1))
      ∧ θ_run (Cert.ChunksReferenceIdeal.defs (F := Ideal)) (onTc (τ := Cert.ChunksReferenceIdeal.τ) (Cert.ChunksReferenceIdeal.main (F := Ideal))) ⟨m', fun _ => 0, g'⟩ (fun r => ∀ c : Dev Cert.ChunksReferenceIdeal.nD,
          r.2.mem ((c.tc : Thread Cert.ChunksReferenceIdeal.nD Cert.ChunksReferenceIdeal.τ).loc Cert.ChunksReferenceIdeal.main_v3) = v0 c
          ∧ r.2.mem ((c.tc : Thread Cert.ChunksReferenceIdeal.nD Cert.ChunksReferenceIdeal.τ).loc Cert.ChunksReferenceIdeal.main_arg0) = m' ((c.tc : Thread Cert.ChunksReferenceIdeal.nD Cert.ChunksReferenceIdeal.τ).loc Cert.ChunksReferenceIdeal.main_arg0)
          ∧ r.2.mem ((c.tc : Thread Cert.ChunksReferenceIdeal.nD Cert.ChunksReferenceIdeal.τ).loc Cert.ChunksReferenceIdeal.main_arg1) = m' ((c.tc : Thread Cert.ChunksReferenceIdeal.nD Cert.ChunksReferenceIdeal.τ).loc Cert.ChunksReferenceIdeal.main_arg1))

def preserves_Scores_ScoresIdeal : Prop :=
  True

def algebraic_ScoresIdeal_ScoresReferenceIdeal [hScoresIdeal : Cert.ScoresIdeal.Facts] [hScoresReferenceIdeal : Cert.ScoresReferenceIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresReferenceIdeal.nD Cert.ScoresReferenceIdeal.τ Cert.ScoresReferenceIdeal.sig) → Buf (Elt Ideal) ℓ) (g' : Dev Cert.ScoresReferenceIdeal.nD → PrngReg), Pre_ScoresIdeal m →
    (∀ c : Dev Cert.ScoresIdeal.nD,
      m' ((c.tc : Thread Cert.ScoresReferenceIdeal.nD Cert.ScoresReferenceIdeal.τ).loc Cert.ScoresReferenceIdeal.main_arg0) = m ((c.tc : Thread Cert.ScoresIdeal.nD Cert.ScoresIdeal.τ).loc Cert.ScoresIdeal.main_arg0)
      ∧ m' ((c.tc : Thread Cert.ScoresReferenceIdeal.nD Cert.ScoresReferenceIdeal.τ).loc Cert.ScoresReferenceIdeal.main_arg1) = m ((c.tc : Thread Cert.ScoresIdeal.nD Cert.ScoresIdeal.τ).loc Cert.ScoresIdeal.main_arg1)
      ∧ m' ((c.tc : Thread Cert.ScoresReferenceIdeal.nD Cert.ScoresReferenceIdeal.τ).loc Cert.ScoresReferenceIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v4_0)) (v1 : (c : Dev Cert.ScoresIdeal.nD) → Buf (Elt Ideal) ((c.tc : Thread Cert.ScoresIdeal.nD Cert.ScoresIdeal.τ).loc Cert.ScoresIdeal.main_v4_1)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v4_0) = v0 c
          ∧ r.2.mem ((c.tc : Thread Cert.ScoresIdeal.nD Cert.ScoresIdeal.τ).loc Cert.ScoresIdeal.main_v4_1) = v1 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.ScoresReferenceIdeal.defs (F := Ideal)) (onTc (τ := Cert.ScoresReferenceIdeal.τ) (Cert.ScoresReferenceIdeal.main (F := Ideal))) ⟨m', fun _ => 0, g'⟩ (fun r => ∀ c : Dev Cert.ScoresReferenceIdeal.nD,
          r.2.mem ((c.tc : Thread Cert.ScoresReferenceIdeal.nD Cert.ScoresReferenceIdeal.τ).loc Cert.ScoresReferenceIdeal.main_v12) = v0 c
          ∧ r.2.mem ((c.tc : Thread Cert.ScoresReferenceIdeal.nD Cert.ScoresReferenceIdeal.τ).loc Cert.ScoresReferenceIdeal.main_v16) = v1 c
          ∧ r.2.mem ((c.tc : Thread Cert.ScoresReferenceIdeal.nD Cert.ScoresReferenceIdeal.τ).loc Cert.ScoresReferenceIdeal.main_arg0) = m' ((c.tc : Thread Cert.ScoresReferenceIdeal.nD Cert.ScoresReferenceIdeal.τ).loc Cert.ScoresReferenceIdeal.main_arg0)
          ∧ r.2.mem ((c.tc : Thread Cert.ScoresReferenceIdeal.nD Cert.ScoresReferenceIdeal.τ).loc Cert.ScoresReferenceIdeal.main_arg1) = m' ((c.tc : Thread Cert.ScoresReferenceIdeal.nD Cert.ScoresReferenceIdeal.τ).loc Cert.ScoresReferenceIdeal.main_arg1)
          ∧ r.2.mem ((c.tc : Thread Cert.ScoresReferenceIdeal.nD Cert.ScoresReferenceIdeal.τ).loc Cert.ScoresReferenceIdeal.main_arg2) = m' ((c.tc : Thread Cert.ScoresReferenceIdeal.nD Cert.ScoresReferenceIdeal.τ).loc Cert.ScoresReferenceIdeal.main_arg2))

def preserves_Choose_ChooseIdeal : Prop :=
  True

def algebraic_ChooseIdeal_ChooseReferenceIdeal_pre_maxima_above [hChooseIdeal : Cert.ChooseIdeal.Facts] [hChooseReferenceIdeal : Cert.ChooseReferenceIdeal.Facts] [hPre_maxima_above : Cert.Pre_maxima_above.Facts] : Prop :=
  ∀ (m : (ℓ : Loc Cert.ChooseIdeal.nD Cert.ChooseIdeal.τ Cert.ChooseIdeal.sig) → Buf (Elt Ideal) ℓ) (g : Dev Cert.ChooseIdeal.nD → PrngReg)
    (m' : (ℓ : Loc Cert.ChooseReferenceIdeal.nD Cert.ChooseReferenceIdeal.τ Cert.ChooseReferenceIdeal.sig) → Buf (Elt Ideal) ℓ) (g' : Dev Cert.ChooseReferenceIdeal.nD → PrngReg), Pre_ChooseIdeal_maxima_above m →
    (∀ c : Dev Cert.ChooseIdeal.nD,
      m' ((c.tc : Thread Cert.ChooseReferenceIdeal.nD Cert.ChooseReferenceIdeal.τ).loc Cert.ChooseReferenceIdeal.main_arg0) = m ((c.tc : Thread Cert.ChooseIdeal.nD Cert.ChooseIdeal.τ).loc Cert.ChooseIdeal.main_arg0)) →
    ∃ (v0 : (c : Dev Cert.ChooseIdeal.nD) → Buf (Elt Ideal) ((c.tc : Thread Cert.ChooseIdeal.nD Cert.ChooseIdeal.τ).loc Cert.ChooseIdeal.main_v3)),
      θ_run (Cert.ChooseIdeal.defs (F := Ideal)) (onTc (τ := Cert.ChooseIdeal.τ) (Cert.ChooseIdeal.main (F := Ideal))) ⟨m, fun _ => 0, g⟩ (fun r => ∀ c : Dev Cert.ChooseIdeal.nD,
          r.2.mem ((c.tc : Thread Cert.ChooseIdeal.nD Cert.ChooseIdeal.τ).loc Cert.ChooseIdeal.main_v3) = v0 c
          ∧ r.2.mem ((c.tc : Thread Cert.ChooseIdeal.nD Cert.ChooseIdeal.τ).loc Cert.ChooseIdeal.main_arg0) = m ((c.tc : Thread Cert.ChooseIdeal.nD Cert.ChooseIdeal.τ).loc Cert.ChooseIdeal.main_arg0))
      ∧ θ_run (Cert.ChooseReferenceIdeal.defs (F := Ideal)) (onTc (τ := Cert.ChooseReferenceIdeal.τ) (Cert.ChooseReferenceIdeal.main (F := Ideal))) ⟨m', fun _ => 0, g'⟩ (fun r => ∀ c : Dev Cert.ChooseReferenceIdeal.nD,
          r.2.mem ((c.tc : Thread Cert.ChooseReferenceIdeal.nD Cert.ChooseReferenceIdeal.τ).loc Cert.ChooseReferenceIdeal.main_v16) = v0 c
          ∧ r.2.mem ((c.tc : Thread Cert.ChooseReferenceIdeal.nD Cert.ChooseReferenceIdeal.τ).loc Cert.ChooseReferenceIdeal.main_arg0) = m' ((c.tc : Thread Cert.ChooseReferenceIdeal.nD Cert.ChooseReferenceIdeal.τ).loc Cert.ChooseReferenceIdeal.main_arg0))

def preserves_Rank_RankIdeal : Prop :=
  True

def algebraic_RankIdeal_RankReferenceIdeal_pre_own_chunks [hRankIdeal : Cert.RankIdeal.Facts] [hRankReferenceIdeal : Cert.RankReferenceIdeal.Facts] [hPre_own_chunks : Cert.Pre_own_chunks.Facts] : Prop :=
  ∀ (m : (ℓ : Loc Cert.RankIdeal.nD Cert.RankIdeal.τ Cert.RankIdeal.sig) → Buf (Elt Ideal) ℓ) (g : Dev Cert.RankIdeal.nD → PrngReg)
    (m' : (ℓ : Loc Cert.RankReferenceIdeal.nD Cert.RankReferenceIdeal.τ Cert.RankReferenceIdeal.sig) → Buf (Elt Ideal) ℓ) (g' : Dev Cert.RankReferenceIdeal.nD → PrngReg), Pre_RankIdeal_own_chunks m →
    (∀ c : Dev Cert.RankIdeal.nD,
      m' ((c.tc : Thread Cert.RankReferenceIdeal.nD Cert.RankReferenceIdeal.τ).loc Cert.RankReferenceIdeal.main_arg0) = m ((c.tc : Thread Cert.RankIdeal.nD Cert.RankIdeal.τ).loc Cert.RankIdeal.main_arg0)
      ∧ m' ((c.tc : Thread Cert.RankReferenceIdeal.nD Cert.RankReferenceIdeal.τ).loc Cert.RankReferenceIdeal.main_arg1) = m ((c.tc : Thread Cert.RankIdeal.nD Cert.RankIdeal.τ).loc Cert.RankIdeal.main_arg1)) →
    ∃ (v0 : (c : Dev Cert.RankIdeal.nD) → Buf (Elt Ideal) ((c.tc : Thread Cert.RankIdeal.nD Cert.RankIdeal.τ).loc Cert.RankIdeal.main_v0_0)) (v1 : (c : Dev Cert.RankIdeal.nD) → Buf (Elt Ideal) ((c.tc : Thread Cert.RankIdeal.nD Cert.RankIdeal.τ).loc Cert.RankIdeal.main_v0_1)),
      θ_run (Cert.RankIdeal.defs (F := Ideal)) (onTc (τ := Cert.RankIdeal.τ) (Cert.RankIdeal.main (F := Ideal))) ⟨m, fun _ => 0, g⟩ (fun r => ∀ c : Dev Cert.RankIdeal.nD,
          r.2.mem ((c.tc : Thread Cert.RankIdeal.nD Cert.RankIdeal.τ).loc Cert.RankIdeal.main_v0_0) = v0 c
          ∧ r.2.mem ((c.tc : Thread Cert.RankIdeal.nD Cert.RankIdeal.τ).loc Cert.RankIdeal.main_v0_1) = v1 c
          ∧ r.2.mem ((c.tc : Thread Cert.RankIdeal.nD Cert.RankIdeal.τ).loc Cert.RankIdeal.main_arg0) = m ((c.tc : Thread Cert.RankIdeal.nD Cert.RankIdeal.τ).loc Cert.RankIdeal.main_arg0)
          ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ θ_run (Cert.RankReferenceIdeal.defs (F := Ideal)) (onTc (τ := Cert.RankReferenceIdeal.τ) (Cert.RankReferenceIdeal.main (F := Ideal))) ⟨m', fun _ => 0, g'⟩ (fun r => ∀ c : Dev Cert.RankReferenceIdeal.nD,
          r.2.mem ((c.tc : Thread Cert.RankReferenceIdeal.nD Cert.RankReferenceIdeal.τ).loc Cert.RankReferenceIdeal.main_v25) = v0 c
          ∧ r.2.mem ((c.tc : Thread Cert.RankReferenceIdeal.nD Cert.RankReferenceIdeal.τ).loc Cert.RankReferenceIdeal.main_v26) = v1 c
          ∧ r.2.mem ((c.tc : Thread Cert.RankReferenceIdeal.nD Cert.RankReferenceIdeal.τ).loc Cert.RankReferenceIdeal.main_arg0) = m' ((c.tc : Thread Cert.RankReferenceIdeal.nD Cert.RankReferenceIdeal.τ).loc Cert.RankReferenceIdeal.main_arg0)
          ∧ r.2.mem ((c.tc : Thread Cert.RankReferenceIdeal.nD Cert.RankReferenceIdeal.τ).loc Cert.RankReferenceIdeal.main_arg1) = m' ((c.tc : Thread Cert.RankReferenceIdeal.nD Cert.RankReferenceIdeal.τ).loc Cert.RankReferenceIdeal.main_arg1))

def Claim : Prop :=
  ∃ (hKernel : Cert.Kernel.Facts) (hKernelIdeal : Cert.KernelIdeal.Facts) (hReferenceIdeal : Cert.ReferenceIdeal.Facts) (hChunks : Cert.Chunks.Facts) (hChunksIdeal : Cert.ChunksIdeal.Facts) (hChunksReferenceIdeal : Cert.ChunksReferenceIdeal.Facts) (hScores : Cert.Scores.Facts) (hScoresIdeal : Cert.ScoresIdeal.Facts) (hScoresReferenceIdeal : Cert.ScoresReferenceIdeal.Facts) (hChoose : Cert.Choose.Facts) (hChooseIdeal : Cert.ChooseIdeal.Facts) (hChooseReferenceIdeal : Cert.ChooseReferenceIdeal.Facts) (hRank : Cert.Rank.Facts) (hRankIdeal : Cert.RankIdeal.Facts) (hRankReferenceIdeal : Cert.RankReferenceIdeal.Facts) (hPre_in_range : Cert.Pre_in_range.Facts) (hPre_chunks_in_range : Cert.Pre_chunks_in_range.Facts) (hPre_maxima_above : Cert.Pre_maxima_above.Facts) (hPre_own_chunks : Cert.Pre_own_chunks.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Chunks (hChunks := hChunks) (hPre_chunks_in_range := hPre_chunks_in_range)
    ∧ quiescent_ChunksIdeal (hChunksIdeal := hChunksIdeal) (hPre_chunks_in_range := hPre_chunks_in_range)
    ∧ quiescent_ChunksReferenceIdeal (hChunksReferenceIdeal := hChunksReferenceIdeal)
    ∧ quiescent_ChunksReferenceIdeal_pre_chunks_in_range (hChunksReferenceIdeal := hChunksReferenceIdeal) (hPre_chunks_in_range := hPre_chunks_in_range)
    ∧ quiescent_Scores (hScores := hScores)
    ∧ quiescent_ScoresIdeal (hScoresIdeal := hScoresIdeal)
    ∧ quiescent_ScoresReferenceIdeal (hScoresReferenceIdeal := hScoresReferenceIdeal)
    ∧ quiescent_Choose (hChoose := hChoose)
    ∧ quiescent_ChooseIdeal (hChooseIdeal := hChooseIdeal)
    ∧ quiescent_ChooseIdeal_pre_maxima_above (hChooseIdeal := hChooseIdeal) (hPre_maxima_above := hPre_maxima_above)
    ∧ quiescent_ChooseReferenceIdeal (hChooseReferenceIdeal := hChooseReferenceIdeal)
    ∧ quiescent_ChooseReferenceIdeal_pre_maxima_above (hChooseReferenceIdeal := hChooseReferenceIdeal) (hPre_maxima_above := hPre_maxima_above)
    ∧ quiescent_Rank (hRank := hRank)
    ∧ quiescent_RankIdeal (hRankIdeal := hRankIdeal)
    ∧ quiescent_RankIdeal_pre_own_chunks (hRankIdeal := hRankIdeal) (hPre_own_chunks := hPre_own_chunks)
    ∧ quiescent_RankReferenceIdeal (hRankReferenceIdeal := hRankReferenceIdeal)
    ∧ quiescent_RankReferenceIdeal_pre_own_chunks (hRankReferenceIdeal := hRankReferenceIdeal) (hPre_own_chunks := hPre_own_chunks)
    ∧ preserves_Kernel_KernelIdeal
    ∧ algebraic_KernelIdeal_ReferenceIdeal (hKernelIdeal := hKernelIdeal) (hReferenceIdeal := hReferenceIdeal) (hPre_in_range := hPre_in_range)
    ∧ preserves_Chunks_ChunksIdeal
    ∧ algebraic_ChunksIdeal_ChunksReferenceIdeal (hChunksIdeal := hChunksIdeal) (hChunksReferenceIdeal := hChunksReferenceIdeal) (hPre_chunks_in_range := hPre_chunks_in_range)
    ∧ preserves_Scores_ScoresIdeal
    ∧ algebraic_ScoresIdeal_ScoresReferenceIdeal (hScoresIdeal := hScoresIdeal) (hScoresReferenceIdeal := hScoresReferenceIdeal)
    ∧ preserves_Choose_ChooseIdeal
    ∧ algebraic_ChooseIdeal_ChooseReferenceIdeal_pre_maxima_above (hChooseIdeal := hChooseIdeal) (hChooseReferenceIdeal := hChooseReferenceIdeal) (hPre_maxima_above := hPre_maxima_above)
    ∧ preserves_Rank_RankIdeal
    ∧ algebraic_RankIdeal_RankReferenceIdeal_pre_own_chunks (hRankIdeal := hRankIdeal) (hRankReferenceIdeal := hRankReferenceIdeal) (hPre_own_chunks := hPre_own_chunks)
-- ==== Pre_chunks_in_range.lean ====
abbrev S512x6272x128 : Shape := ⟨3, ![512, 6272, 128]⟩
abbrev S8x512x10 : Shape := ⟨3, ![8, 512, 10]⟩
abbrev S_ : Shape := ⟨0, ![]⟩

class Facts : Prop where
  bcast_S_S8x512x10 : S_.BroadcastsInDim S8x512x10 (![] : Fin 0 → Fin S8x512x10.rank)
  reducesTo_S8x512x10_S_d0_1_2 : S8x512x10.ReducesTo [0, 1, 2] S_
  h_S_ : 0 < S_.numel

variable [Facts]

def fn {F : FTy → Type} [FloatOps F] (main_arg0 : FVec F S512x6272x128 .f32) (main_arg1 : IVec S8x512x10 32) : IVec S_ 1 :=
  let main_c : IVec S_ 32 := constantI S_ 32 0#32
  let main_v0 : IVec S8x512x10 32 := broadcastInDim S8x512x10 ![] bcast_S_S8x512x10 main_c
  let main_v1 : IVec S8x512x10 1 := cmpi .sge main_arg1 main_v0
  let main_c_0 : IVec S_ 32 := constantI S_ 32 3211264#32
  let main_v2 : IVec S8x512x10 32 := broadcastInDim S8x512x10 ![] bcast_S_S8x512x10 main_c_0
  let main_v3 : IVec S8x512x10 1 := cmpi .slt main_arg1 main_v2
  let main_v4 : IVec S8x512x10 1 := andi main_v1 main_v3
  let main_c_1 : IVec S_ 1 := constantI S_ 1 1#1
  let main_v5 : IVec S_ 1 := (fun x v => Host.reduce IntOp.andi x v reducesTo_S8x512x10_S_d0_1_2 h_S_) main_v4 main_c_1
  main_v5
-- ==== Pre_in_range.lean ====
abbrev S4096 : Shape := ⟨1, ![4096]⟩
abbrev S100000x64 : Shape := ⟨2, ![100000, 64]⟩
abbrev S8x512x10 : Shape := ⟨3, ![8, 512, 10]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S8x512x10 : S_.BroadcastsInDim S8x512x10 (![] : Fin 0 → Fin S8x512x10.rank)
  reducesTo_S8x512x10_S_d0_1_2 : S8x512x10.ReducesTo [0, 1, 2] S_

variable [Facts]

def fn {F : FTy → Type} [FloatOps F] (main_arg0 : IVec S4096 32) (main_arg1 : FVec F S100000x64 .f32) (main_arg2 : IVec S8x512x10 32) (main_arg3 : FVec F S8x512x10 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 100000#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S8x512x10 32 := broadcastInDim S8x512x10 ![] bcast_S_S8x512x10 main_c_2
  let main_v7 : IVec S8x512x10 1 := cmpi .sge main_arg2 main_v6
  let main_c_3 : IVec S_ 32 := constantI S_ 32 100000#32
  let main_v8 : IVec S8x512x10 32 := broadcastInDim S8x512x10 ![] bcast_S_S8x512x10 main_c_3
  let main_v9 : IVec S8x512x10 1 := cmpi .slt main_arg2 main_v8
  let main_v10 : IVec S8x512x10 1 := andi main_v7 main_v9
  let main_c_4 : IVec S_ 1 := constantI S_ 1 1#1
  let main_v11 : IVec S_ 1 := (fun x v => Host.reduce IntOp.andi x v reducesTo_S8x512x10_S_d0_1_2 h_S_) main_v10 main_c_4
  let main_v12 : IVec S_ 1 := andi main_v5 main_v11
  main_v12
-- ==== Pre_maxima_above.lean ====
abbrev S49x4096x16 : Shape := ⟨3, ![49, 4096, 16]⟩
abbrev S_ : Shape := ⟨0, ![]⟩

class Facts : Prop where
  bcast_S_S49x4096x16 : S_.BroadcastsInDim S49x4096x16 (![] : Fin 0 → Fin S49x4096x16.rank)
  reducesTo_S49x4096x16_S_d0_1_2 : S49x4096x16.ReducesTo [0, 1, 2] S_
  h_S_ : 0 < S_.numel

variable [Facts]

def fn {F : FTy → Type} [FloatOps F] (main_arg0 : FVec F S49x4096x16 .f32) : IVec S_ 1 :=
  let main_cst : FVec F S_ .f32 := constant S_ .f32 0xFF61B1E6#32
  let main_v0 : FVec F S49x4096x16 .f32 := broadcastInDim S49x4096x16 ![] bcast_S_S49x4096x16 main_cst
  let main_v1 : IVec S49x4096x16 1 := cmpf .ogt main_arg0 main_v0
  let main_c : IVec S_ 1 := constantI S_ 1 1#1
  let main_v2 : IVec S_ 1 := (fun x v => Host.reduce IntOp.andi x v reducesTo_S49x4096x16_S_d0_1_2 h_S_) main_v1 main_c
  main_v2
-- ==== Pre_own_chunks.lean ====
abbrev S4096x1280 : Shape := ⟨2, ![4096, 1280]⟩
abbrev S8x512x10 : Shape := ⟨3, ![8, 512, 10]⟩
abbrev S4096 : Shape := ⟨1, ![4096]⟩
abbrev S8x512x1 : Shape := ⟨3, ![8, 512, 1]⟩
abbrev S_ : Shape := ⟨0, ![]⟩

class Facts : Prop where
  shapeCasts_S4096_S8x512x1 : S4096.ShapeCasts S8x512x1
  bcast_S_S8x512x10 : S_.BroadcastsInDim S8x512x10 (![] : Fin 0 → Fin S8x512x10.rank)
  bcast_S_S8x512x1 : S_.BroadcastsInDim S8x512x1 (![] : Fin 0 → Fin S8x512x1.rank)
  bcast_S8x512x1_S8x512x10_0_1_2 : S8x512x1.BroadcastsInDim S8x512x10 (![0, 1, 2] : Fin 3 → Fin S8x512x10.rank)
  reducesTo_S8x512x10_S_d0_1_2 : S8x512x10.ReducesTo [0, 1, 2] S_
  h_S_ : 0 < S_.numel
  bcast_S_S4096x1280 : S_.BroadcastsInDim S4096x1280 (![] : Fin 0 → Fin S4096x1280.rank)
  reducesTo_S4096x1280_S_d0_1 : S4096x1280.ReducesTo [0, 1] S_

variable [Facts]

def fn_part1 {F : FTy → Type} [FloatOps F] (main_arg0 : FVec F S4096x1280 .f32) (main_v17 : IVec S8x512x10 1) (main_c_4 : IVec S_ 1) : IVec S_ 1 :=
  let main_v18 : IVec S_ 1 := (fun x v => Host.reduce IntOp.andi x v reducesTo_S8x512x10_S_d0_1_2 h_S_) main_v17 main_c_4
  let main_cst : FVec F S_ .f32 := constant S_ .f32 0xFF61B1E6#32
  let main_v19 : FVec F S4096x1280 .f32 := broadcastInDim S4096x1280 ![] bcast_S_S4096x1280 main_cst
  let main_v20 : IVec S4096x1280 1 := cmpf .ogt main_arg0 main_v19
  let main_c_5 : IVec S_ 1 := constantI S_ 1 1#1
  let main_v21 : IVec S_ 1 := (fun x v => Host.reduce IntOp.andi x v reducesTo_S4096x1280_S_d0_1 h_S_) main_v20 main_c_5
  let main_v22 : IVec S_ 1 := andi main_v18 main_v21
  main_v22

def fn {F : FTy → Type} [FloatOps F] (main_arg0 : FVec F S4096x1280 .f32) (main_arg1 : IVec S8x512x10 32) : IVec S_ 1 :=
  let main_v0 : IVec S4096 32 := iotaInDim S4096 32 0
  let main_v1 : IVec S8x512x1 32 := shapeCast S8x512x1 main_v0 shapeCasts_S4096_S8x512x1
  let main_c : IVec S_ 32 := constantI S_ 32 6272#32
  let main_v2 : IVec S8x512x10 32 := broadcastInDim S8x512x10 ![] bcast_S_S8x512x10 main_c
  let main_v3 : IVec S8x512x10 32 := Host.divsi main_arg1 main_v2
  let main_c_0 : IVec S_ 32 := constantI S_ 32 8#32
  let main_v4 : IVec S8x512x1 32 := broadcastInDim S8x512x1 ![] bcast_S_S8x512x1 main_c_0
  let main_v5 : IVec S8x512x1 32 := Host.divsi main_v1 main_v4
  let main_v6 : IVec S8x512x10 32 := broadcastInDim S8x512x10 ![0, 1, 2] bcast_S8x512x1_S8x512x10_0_1_2 main_v5
  let main_v7 : IVec S8x512x10 1 := cmpi .eq main_v3 main_v6
  let main_c_1 : IVec S_ 32 := constantI S_ 32 8#32
  let main_v8 : IVec S8x512x10 32 := broadcastInDim S8x512x10 ![] bcast_S_S8x512x10 main_c_1
  let main_v9 : IVec S8x512x10 32 := Host.remsi main_arg1 main_v8
  let main_c_2 : IVec S_ 32 := constantI S_ 32 8#32
  let main_v10 : IVec S8x512x1 32 := broadcastInDim S8x512x1 ![] bcast_S_S8x512x1 main_c_2
  let main_v11 : IVec S8x512x1 32 := Host.remsi main_v1 main_v10
  let main_v12 : IVec S8x512x10 32 := broadcastInDim S8x512x10 ![0, 1, 2] bcast_S8x512x1_S8x512x10_0_1_2 main_v11
  let main_v13 : IVec S8x512x10 1 := cmpi .eq main_v9 main_v12
  let main_v14 : IVec S8x512x10 1 := andi main_v7 main_v13
  let main_c_3 : IVec S_ 32 := constantI S_ 32 0#32
  let main_v15 : IVec S8x512x10 32 := broadcastInDim S8x512x10 ![] bcast_S_S8x512x10 main_c_3
  let main_v16 : IVec S8x512x10 1 := cmpi .sge main_arg1 main_v15
  let main_v17 : IVec S8x512x10 1 := andi main_v16 main_v14
  let main_c_4 : IVec S_ 1 := constantI S_ 1 1#1
  fn_part1 (F := F) main_arg0 main_v17 main_c_4
-- ==== Kernel.lean ====
abbrev S4096 : Shape := ⟨1, ![4096]⟩
abbrev S100000x64 : Shape := ⟨2, ![100000, 64]⟩
abbrev S8x512x10 : Shape := ⟨3, ![8, 512, 10]⟩
abbrev S50000x128 : Shape := ⟨2, ![50000, 128]⟩
abbrev S_ : Shape := ⟨0, ![]⟩
abbrev S256x16 : Shape := ⟨2, ![256, 16]⟩
abbrev S4096x128 : Shape := ⟨2, ![4096, 128]⟩
abbrev S8x16 : Shape := ⟨2, ![8, 16]⟩
abbrev S4x16x128 : Shape := ⟨3, ![4, 16, 128]⟩
abbrev S1x16x128 : Shape := ⟨3, ![1, 16, 128]⟩
abbrev S16x128 : Shape := ⟨2, ![16, 128]⟩
abbrev S1x16 : Shape := ⟨2, ![1, 16]⟩
abbrev S16 : Shape := ⟨1, ![16]⟩
abbrev S4096x1 : Shape := ⟨2, ![4096, 1]⟩
abbrev S4096x64 : Shape := ⟨2, ![4096, 64]⟩
abbrev S40960 : Shape := ⟨1, ![40960]⟩
abbrev S512x80 : Shape := ⟨2, ![512, 80]⟩
abbrev S40960x128 : Shape := ⟨2, ![40960, 128]⟩
abbrev S16x80 : Shape := ⟨2, ![16, 80]⟩
abbrev S4x80x128 : Shape := ⟨3, ![4, 80, 128]⟩
abbrev S1x80x128 : Shape := ⟨3, ![1, 80, 128]⟩
abbrev S80x128 : Shape := ⟨2, ![80, 128]⟩
abbrev S1x80 : Shape := ⟨2, ![1, 80]⟩
abbrev S80 : Shape := ⟨1, ![80]⟩
abbrev S4096x1280 : Shape := ⟨2, ![4096, 1280]⟩
abbrev S512x64 : Shape := ⟨2, ![512, 64]⟩
abbrev S1x512x10 : Shape := ⟨3, ![1, 512, 10]⟩
abbrev S512x1280 : Shape := ⟨2, ![512, 1280]⟩
abbrev S512x10 : Shape := ⟨2, ![512, 10]⟩
abbrev S512x1 : Shape := ⟨2, ![512, 1]⟩

abbrev nBuf : Table → Nat
  | .hbm => 29
  | .local .tc .vmem => 10
  | .local .scVector .vmem => 4
  | _ => 0

abbrev bufTy : (tb : Table) → Fin (nBuf tb) → BufTy
  | .hbm, ⟨0, _⟩ => ⟨S4096, .i32⟩
  | .hbm, ⟨1, _⟩ => ⟨S100000x64, .f32⟩
  | .hbm, ⟨2, _⟩ => ⟨S8x512x10, .i32⟩
  | .hbm, ⟨3, _⟩ => ⟨S8x512x10, .f32⟩
  | .hbm, ⟨4, _⟩ => ⟨S50000x128, .f32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S256x16, .i32⟩
  | .hbm, ⟨9, _⟩ => ⟨S4096x128, .f32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S_, .i32⟩
  | .hbm, ⟨15, _⟩ => ⟨S4096x1, .i32⟩
  | .hbm, ⟨16, _⟩ => ⟨S4096x1, .i1⟩
  | .hbm, ⟨17, _⟩ => ⟨S4096x64, .f32⟩
  | .hbm, ⟨18, _⟩ => ⟨S4096x64, .f32⟩
  | .hbm, ⟨19, _⟩ => ⟨S4096x64, .i1⟩
  | .hbm, ⟨20, _⟩ => ⟨S4096x64, .f32⟩
  | .hbm, ⟨21, _⟩ => ⟨S40960, .i32⟩
  | .hbm, ⟨22, _⟩ => ⟨S_, .i32⟩
  | .hbm, ⟨23, _⟩ => ⟨S40960, .i32⟩
  | .hbm, ⟨24, _⟩ => ⟨S40960, .i32⟩
  | .hbm, ⟨25, _⟩ => ⟨S512x80, .i32⟩
  | .hbm, ⟨26, _⟩ => ⟨S40960x128, .f32⟩
  | .hbm, ⟨27, _⟩ => ⟨S4096x1280, .f32⟩
  | .hbm, ⟨28, _⟩ => ⟨S4096x64, .f32⟩
  | .local .tc .vmem, ⟨0, _⟩ => ⟨S512x64, .f32⟩
  | .local .tc .vmem, ⟨1, _⟩ => ⟨S512x64, .f32⟩
  | .local .tc .vmem, ⟨2, _⟩ => ⟨S1x512x10, .f32⟩
  | .local .tc .vmem, ⟨3, _⟩ => ⟨S1x512x10, .f32⟩
  | .local .tc .vmem, ⟨4, _⟩ => ⟨S512x1280, .f32⟩
  | .local .tc .vmem, ⟨5, _⟩ => ⟨S512x1280, .f32⟩
  | .local .tc .vmem, ⟨6, _⟩ => ⟨S1x512x10, .i32⟩
  | .local .tc .vmem, ⟨7, _⟩ => ⟨S1x512x10, .i32⟩
  | .local .tc .vmem, ⟨8, _⟩ => ⟨S512x64, .f32⟩
  | .local .tc .vmem, ⟨9, _⟩ => ⟨S512x64, .f32⟩
  | .local .scVector .vmem, ⟨0, _⟩ => ⟨S8x16, .i32⟩
  | .local .scVector .vmem, ⟨1, _⟩ => ⟨S4x16x128, .f32⟩
  | .local .scVector .vmem, ⟨2, _⟩ => ⟨S16x80, .i32⟩
  | .local .scVector .vmem, ⟨3, _⟩ => ⟨S4x80x128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v0_scv : Ref sig .scVector := ⟨.hbm, 4, rfl⟩
abbrev main_v3_scv : Ref sig .scVector := ⟨.hbm, 8, rfl⟩
abbrev main_v4_scv : Ref sig .scVector := ⟨.hbm, 9, rfl⟩
abbrev main_v16_scv : Ref sig .scVector := ⟨.hbm, 25, rfl⟩
abbrev main_v17_scv : Ref sig .scVector := ⟨.hbm, 26, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg1_1 : Ref sig .tc := ⟨.vmem, 3, rfl⟩
abbrev cc2_stg2_0 : Ref sig .tc := ⟨.vmem, 4, rfl⟩
abbrev cc2_stg2_1 : Ref sig .tc := ⟨.vmem, 5, rfl⟩
abbrev cc2_stg3_0 : Ref sig .tc := ⟨.vmem, 6, rfl⟩
abbrev cc2_stg3_1 : Ref sig .tc := ⟨.vmem, 7, rfl⟩
abbrev cc2_stg4_0 : Ref sig .tc := ⟨.vmem, 8, rfl⟩
abbrev cc2_stg4_1 : Ref sig .tc := ⟨.vmem, 9, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41
abbrev cc2_sem4_0 : DmaSem sig := 42
abbrev cc2_sem4_1 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v3 : BitVec 32 := Scalar.muli v1 c8_i32
  let c0_i32_114_r0 : BitVec 32 := 0#32
  ![v3.toNat, 0]
def k0_off2 (i : grid0.Coords) (c0_i32_32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v29 : BitVec 32 := Scalar.addi v2 c0_i32_32
  let c0_i32_116_r1 : BitVec 32 := 0#32
  ![v29.toNat, 0]
abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_226_r0 : BitVec 32 := 0#32
  ![v3.toNat, 0]
def k1_off2 (i : grid1.Coords) (c0_i32_32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v29 : BitVec 32 := Scalar.addi v2 c0_i32_32
  let c0_i32_228_r1 : BitVec 32 := 0#32
  ![v29.toNat, 0]
abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x10 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1280 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x10 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096 : Shape := ⟨1, ![4096]⟩
abbrev S100000x64 : Shape := ⟨2, ![100000, 64]⟩
abbrev S8x512x10 : Shape := ⟨3, ![8, 512, 10]⟩
abbrev S4096x10 : Shape := ⟨2, ![4096, 10]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x64 : Shape := ⟨2, ![4096, 64]⟩
abbrev S4096x10x1 : Shape := ⟨3, ![4096, 10, 1]⟩
abbrev S1x1x1 : Shape := ⟨3, ![1, 1, 1]⟩
abbrev S4096x10x64 : Shape := ⟨3, ![4096, 10, 64]⟩

abbrev nBuf : Space → Nat
  | .hbm => 64
  | .vmem => 0
  | .smem => 0
  | _ => 0

abbrev bufTy : (tb : Table) → Fin (tcTables nBuf tb) → BufTy
  | .hbm, ⟨0, _⟩ => ⟨S4096, .i32⟩
  | .hbm, ⟨1, _⟩ => ⟨S100000x64, .f32⟩
  | .hbm, ⟨2, _⟩ => ⟨S8x512x10, .i32⟩
  | .hbm, ⟨3, _⟩ => ⟨S8x512x10, .f32⟩
  | .hbm, ⟨4, _⟩ => ⟨S4096x10, .i32⟩
  | .hbm, ⟨5, _⟩ => ⟨S4096x10, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x64, .f32⟩
  | .hbm, ⟨25, _⟩ => ⟨S4096x64, .i1⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S_, .i32⟩
  | .hbm, ⟨30, _⟩ => ⟨S4096x10, .i32⟩
  | .hbm, ⟨31, _⟩ => ⟨S4096x10, .i1⟩
  | .hbm, ⟨32, _⟩ => ⟨S_, .i32⟩
  | .hbm, ⟨33, _⟩ => ⟨S4096x10, .i32⟩
  | .hbm, ⟨34, _⟩ => ⟨S4096x10, .i32⟩
  | .hbm, ⟨35, _⟩ => ⟨S4096x10, .i32⟩
  | .hbm, ⟨36, _⟩ => ⟨S4096x10x1, .i32⟩
  | .hbm, ⟨37, _⟩ => ⟨S1, .i32⟩
  | .hbm, ⟨38, _⟩ => ⟨S_, .i32⟩
  | .hbm, ⟨39, _⟩ => ⟨S4096x10x1, .i32⟩
  | .hbm, ⟨40, _⟩ => ⟨S4096x10x1, .i1⟩
  | .hbm, ⟨41, _⟩ => ⟨S1x1x1, .i32⟩
  | .hbm, ⟨42, _⟩ => ⟨S4096x10x1, .i32⟩
  | .hbm, ⟨43, _⟩ => ⟨S4096x10x1, .i1⟩
  | .hbm, ⟨44, _⟩ => ⟨S4096x10x1, .i1⟩
  | .hbm, ⟨45, _⟩ => ⟨S_, .i1⟩
  | .hbm, ⟨46, _⟩ => ⟨S4096x10, .i1⟩
  | .hbm, ⟨47, _⟩ => ⟨S4096x10x64, .f32⟩
  | .hbm, ⟨48, _⟩ => ⟨S4096x10x64, .i1⟩
  | .hbm, ⟨49, _⟩ => ⟨S_, .f32⟩
  | .hbm, ⟨50, _⟩ => ⟨S4096x10x64, .f32⟩
  | .hbm, ⟨51, _⟩ => ⟨S4096x10x64, .f32⟩
  | .hbm, ⟨52, _⟩ => ⟨S4096x10x1, .f32⟩
  | .hbm, ⟨53, _⟩ => ⟨S4096x10x64, .f32⟩
  | .hbm, ⟨54, _⟩ => ⟨S4096x10x64, .f32⟩
  | .hbm, ⟨55, _⟩ => ⟨S_, .f32⟩
  | .hbm, ⟨56, _⟩ => ⟨S4096x64, .f32⟩
  | .hbm, ⟨57, _⟩ => ⟨S_, .f32⟩
  | .hbm, ⟨58, _⟩ => ⟨S4096x64, .f32⟩
  | .hbm, ⟨59, _⟩ => ⟨S4096x64, .f32⟩
  | .hbm, ⟨60, _⟩ => ⟨S_, .f32⟩
  | .hbm, ⟨61, _⟩ => ⟨S4096x64, .f32⟩
  | .hbm, ⟨62, _⟩ => ⟨S4096x64, .f32⟩
  | .hbm, ⟨63, _⟩ => ⟨S4096x64, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v2 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_cst : Ref sig .tc := ⟨.hbm, 55, rfl⟩
abbrev main_v7 : Ref sig .tc := ⟨.hbm, 56, rfl⟩
abbrev main_cst_0 : Ref sig .tc := ⟨.hbm, 57, rfl⟩
abbrev main_v8 : Ref sig .tc := ⟨.hbm, 58, rfl⟩
abbrev main_v9 : Ref sig .tc := ⟨.hbm, 59, rfl⟩
abbrev main_cst_1 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩

abbrev nD : Nat := 1
abbrev τ : Topo := Topo.v7x

variable {F : FTy → Type} [FloatOps F]
-- ==== Chunks.lean ====
abbrev S512x6272x128 : Shape := ⟨3, ![512, 6272, 128]⟩
abbrev S8x512x10 : Shape := ⟨3, ![8, 512, 10]⟩
abbrev S3211264x128 : Shape := ⟨2, ![3211264, 128]⟩
abbrev S40960 : Shape := ⟨1, ![40960]⟩
abbrev S512x80 : Shape := ⟨2, ![512, 80]⟩
abbrev S40960x128 : Shape := ⟨2, ![40960, 128]⟩
abbrev S16x80 : Shape := ⟨2, ![16, 80]⟩
abbrev S4x80x128 : Shape := ⟨3, ![4, 80, 128]⟩
abbrev S_ : Shape := ⟨0, ![]⟩
abbrev S1x80x128 : Shape := ⟨3, ![1, 80, 128]⟩
abbrev S80x128 : Shape := ⟨2, ![80, 128]⟩
abbrev S1x80 : Shape := ⟨2, ![1, 80]⟩
abbrev S80 : Shape := ⟨1, ![80]⟩
abbrev S4096x1280 : Shape := ⟨2, ![4096, 1280]⟩

abbrev nBuf : Table → Nat
  | .hbm => 7
  | .local .scVector .vmem => 2
  | _ => 0

abbrev bufTy : (tb : Table) → Fin (nBuf tb) → BufTy
  | .hbm, ⟨0, _⟩ => ⟨S512x6272x128, .f32⟩
  | .hbm, ⟨1, _⟩ => ⟨S8x512x10, .i32⟩
  | .hbm, ⟨2, _⟩ => ⟨S3211264x128, .f32⟩
  | .hbm, ⟨3, _⟩ => ⟨S40960, .i32⟩
  | .hbm, ⟨4, _⟩ => ⟨S512x80, .i32⟩
  | .hbm, ⟨5, _⟩ => ⟨S40960x128, .f32⟩
  | .hbm, ⟨6, _⟩ => ⟨S4096x1280, .f32⟩
  | .local .scVector .vmem, ⟨0, _⟩ => ⟨S16x80, .i32⟩
  | .local .scVector .vmem, ⟨1, _⟩ => ⟨S4x80x128, .f32⟩
  | _, _ => ⟨S512x6272x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v0_scv : Ref sig .scVector := ⟨.hbm, 2, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v3 : BitVec 32 := Scalar.muli v1 c16_i32
  let c0_i32_226_r0 : BitVec 32 := 0#32
  ![v3.toNat, 0]
def k0_off2 (i : grid0.Coords) (c0_i32_32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1280_i32 : BitVec 32 := 1280#32
  let v2 : BitVec 32 := Scalar.muli v1 c1280_i32
  let v29 : BitVec 32 := Scalar.addi v2 c0_i32_32
  let c0_i32_228_r1 : BitVec 32 := 0#32
  ![v29.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ChunksReferenceIdeal.lean ====
abbrev S512x6272x128 : Shape := ⟨3, ![512, 6272, 128]⟩
abbrev S8x512x10 : Shape := ⟨3, ![8, 512, 10]⟩
abbrev S3211264x128 : Shape := ⟨2, ![3211264, 128]⟩
abbrev S40960 : Shape := ⟨1, ![40960]⟩
abbrev S_ : Shape := ⟨0, ![]⟩
abbrev S40960x1 : Shape := ⟨2, ![40960, 1]⟩
abbrev S1 : Shape := ⟨1, ![1]⟩
abbrev S1x1 : Shape := ⟨2, ![1, 1]⟩
abbrev S40960x128 : Shape := ⟨2, ![40960, 128]⟩
abbrev S4096x1280 : Shape := ⟨2, ![4096, 1280]⟩

abbrev nBuf : Space → Nat
  | .hbm => 28
  | .vmem => 0
  | .smem => 0
  | _ => 0

abbrev bufTy : (tb : Table) → Fin (tcTables nBuf tb) → BufTy
  | .hbm, ⟨0, _⟩ => ⟨S512x6272x128, .f32⟩
  | .hbm, ⟨1, _⟩ => ⟨S8x512x10, .i32⟩
  | .hbm, ⟨2, _⟩ => ⟨S3211264x128, .f32⟩
  | .hbm, ⟨3, _⟩ => ⟨S40960, .i32⟩
  | .hbm, ⟨4, _⟩ => ⟨S_, .i32⟩
  | .hbm, ⟨5, _⟩ => ⟨S40960, .i32⟩
  | .hbm, ⟨6, _⟩ => ⟨S40960, .i1⟩
  | .hbm, ⟨7, _⟩ => ⟨S_, .i32⟩
  | .hbm, ⟨8, _⟩ => ⟨S40960, .i32⟩
  | .hbm, ⟨9, _⟩ => ⟨S40960, .i32⟩
  | .hbm, ⟨10, _⟩ => ⟨S40960, .i32⟩
  | .hbm, ⟨11, _⟩ => ⟨S40960x1, .i32⟩
  | .hbm, ⟨12, _⟩ => ⟨S1, .i32⟩
  | .hbm, ⟨13, _⟩ => ⟨S_, .i32⟩
  | .hbm, ⟨14, _⟩ => ⟨S40960x1, .i32⟩
  | .hbm, ⟨15, _⟩ => ⟨S40960x1, .i1⟩
  | .hbm, ⟨16, _⟩ => ⟨S1x1, .i32⟩
  | .hbm, ⟨17, _⟩ => ⟨S40960x1, .i32⟩
  | .hbm, ⟨18, _⟩ => ⟨S40960x1, .i1⟩
  | .hbm, ⟨19, _⟩ => ⟨S40960x1, .i1⟩
  | .hbm, ⟨20, _⟩ => ⟨S_, .i1⟩
  | .hbm, ⟨21, _⟩ => ⟨S40960, .i1⟩
  | .hbm, ⟨22, _⟩ => ⟨S40960x128, .f32⟩
  | .hbm, ⟨23, _⟩ => ⟨S40960x128, .i1⟩
  | .hbm, ⟨24, _⟩ => ⟨S_, .f32⟩
  | .hbm, ⟨25, _⟩ => ⟨S40960x128, .f32⟩
  | .hbm, ⟨26, _⟩ => ⟨S40960x128, .f32⟩
  | .hbm, ⟨27, _⟩ => ⟨S4096x1280, .f32⟩
  | _, _ => ⟨S512x6272x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Scores.lean ====
abbrev S4096 : Shape := ⟨1, ![4096]⟩
abbrev S4096x64 : Shape := ⟨2, ![4096, 64]⟩
abbrev S100000x64 : Shape := ⟨2, ![100000, 64]⟩
abbrev S_ : Shape := ⟨0, ![]⟩
abbrev S100352x64 : Shape := ⟨2, ![100352, 64]⟩
abbrev S8x512x1 : Shape := ⟨3, ![8, 512, 1]⟩
abbrev S512x6272x128 : Shape := ⟨3, ![512, 6272, 128]⟩
abbrev S49x4096x16 : Shape := ⟨3, ![49, 4096, 16]⟩
abbrev S1x512x1 : Shape := ⟨3, ![1, 512, 1]⟩
abbrev S512x64 : Shape := ⟨2, ![512, 64]⟩
abbrev S2048x64 : Shape := ⟨2, ![2048, 64]⟩
abbrev S64x128x128 : Shape := ⟨3, ![64, 128, 128]⟩
abbrev S1x512x16 : Shape := ⟨3, ![1, 512, 16]⟩
abbrev S512x2048 : Shape := ⟨2, ![512, 2048]⟩
abbrev S512x1 : Shape := ⟨2, ![512, 1]⟩
abbrev S512x128 : Shape := ⟨2, ![512, 128]⟩
abbrev S64x8x128 : Shape := ⟨3, ![64, 8, 128]⟩
abbrev S512x16x128 : Shape := ⟨3, ![512, 16, 128]⟩
abbrev S512x16 : Shape := ⟨2, ![512, 16]⟩

abbrev nBuf : Space → Nat
  | .hbm => 11
  | .vmem => 10
  | .smem => 0
  | _ => 0

abbrev bufTy : (tb : Table) → Fin (tcTables nBuf tb) → BufTy
  | .hbm, ⟨0, _⟩ => ⟨S4096, .i32⟩
  | .hbm, ⟨1, _⟩ => ⟨S4096x64, .f32⟩
  | .hbm, ⟨2, _⟩ => ⟨S100000x64, .f32⟩
  | .hbm, ⟨3, _⟩ => ⟨S100000x64, .bf16⟩
  | .hbm, ⟨4, _⟩ => ⟨S_, .i32⟩
  | .hbm, ⟨5, _⟩ => ⟨S_, .bf16⟩
  | .hbm, ⟨6, _⟩ => ⟨S100352x64, .bf16⟩
  | .hbm, ⟨7, _⟩ => ⟨S4096x64, .bf16⟩
  | .hbm, ⟨8, _⟩ => ⟨S8x512x1, .i32⟩
  | .hbm, ⟨9, _⟩ => ⟨S512x6272x128, .f32⟩
  | .hbm, ⟨10, _⟩ => ⟨S49x4096x16, .f32⟩
  | .local _ .vmem, ⟨0, _⟩ => ⟨S1x512x1, .i32⟩
  | .local _ .vmem, ⟨1, _⟩ => ⟨S1x512x1, .i32⟩
  | .local _ .vmem, ⟨2, _⟩ => ⟨S512x64, .bf16⟩
  | .local _ .vmem, ⟨3, _⟩ => ⟨S512x64, .bf16⟩
  | .local _ .vmem, ⟨4, _⟩ => ⟨S2048x64, .bf16⟩
  | .local _ .vmem, ⟨5, _⟩ => ⟨S2048x64, .bf16⟩
  | .local _ .vmem, ⟨6, _⟩ => ⟨S64x128x128, .f32⟩
  | .local _ .vmem, ⟨7, _⟩ => ⟨S64x128x128, .f32⟩
  | .local _ .vmem, ⟨8, _⟩ => ⟨S1x512x16, .f32⟩
  | .local _ .vmem, ⟨9, _⟩ => ⟨S1x512x16, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 49], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ScoresReferenceIdeal.lean ====
abbrev S4096 : Shape := ⟨1, ![4096]⟩
abbrev S4096x64 : Shape := ⟨2, ![4096, 64]⟩
abbrev S100000x64 : Shape := ⟨2, ![100000, 64]⟩
abbrev S64x100000 : Shape := ⟨2, ![64, 100000]⟩
abbrev S4096x100000 : Shape := ⟨2, ![4096, 100000]⟩
abbrev S100000 : Shape := ⟨1, ![100000]⟩
abbrev S1x100000 : Shape := ⟨2, ![1, 100000]⟩
abbrev S4096x1 : Shape := ⟨2, ![4096, 1]⟩
abbrev S_ : Shape := ⟨0, ![]⟩
abbrev S4096x100352 : Shape := ⟨2, ![4096, 100352]⟩
abbrev S512x8x784x128 : Shape := ⟨4, ![512, 8, 784, 128]⟩
abbrev S512x784x8x128 : Shape := ⟨4, ![512, 784, 8, 128]⟩
abbrev S512x6272x128 : Shape := ⟨3, ![512, 6272, 128]⟩
abbrev S4096x784x128 : Shape := ⟨3, ![4096, 784, 128]⟩
abbrev S4096x784 : Shape := ⟨2, ![4096, 784]⟩
abbrev S4096x49x16 : Shape := ⟨3, ![4096, 49, 16]⟩
abbrev S49x4096x16 : Shape := ⟨3, ![49, 4096, 16]⟩

abbrev nBuf : Space → Nat
  | .hbm => 26
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x64, .f32⟩
  | .hbm, ⟨2, _⟩ => ⟨S100000x64, .f32⟩
  | .hbm, ⟨3, _⟩ => ⟨S64x100000, .f32⟩
  | .hbm, ⟨4, _⟩ => ⟨S4096x100000, .f32⟩
  | .hbm, ⟨5, _⟩ => ⟨S100000, .i32⟩
  | .hbm, ⟨6, _⟩ => ⟨S1x100000, .i32⟩
  | .hbm, ⟨7, _⟩ => ⟨S4096x1, .i32⟩
  | .hbm, ⟨8, _⟩ => ⟨S4096x100000, .i32⟩
  | .hbm, ⟨9, _⟩ => ⟨S4096x100000, .i32⟩
  | .hbm, ⟨10, _⟩ => ⟨S4096x100000, .i1⟩
  | .hbm, ⟨11, _⟩ => ⟨S_, .f32⟩
  | .hbm, ⟨12, _⟩ => ⟨S_, .f32⟩
  | .hbm, ⟨13, _⟩ => ⟨S4096x100000, .f32⟩
  | .hbm, ⟨14, _⟩ => ⟨S4096x100000, .f32⟩
  | .hbm, ⟨15, _⟩ => ⟨S_, .f32⟩
  | .hbm, ⟨16, _⟩ => ⟨S_, .f32⟩
  | .hbm, ⟨17, _⟩ => ⟨S4096x100352, .f32⟩
  | .hbm, ⟨18, _⟩ => ⟨S512x8x784x128, .f32⟩
  | .hbm, ⟨19, _⟩ => ⟨S512x784x8x128, .f32⟩
  | .hbm, ⟨20, _⟩ => ⟨S512x6272x128, .f32⟩
  | .hbm, ⟨21, _⟩ => ⟨S4096x784x128, .f32⟩
  | .hbm, ⟨22, _⟩ => ⟨S_, .f32⟩
  | .hbm, ⟨23, _⟩ => ⟨S4096x784, .f32⟩
  | .hbm, ⟨24, _⟩ => ⟨S4096x49x16, .f32⟩
  | .hbm, ⟨25, _⟩ => ⟨S49x4096x16, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩
abbrev main_cst_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Choose.lean ====
abbrev S49x4096x16 : Shape := ⟨3, ![49, 4096, 16]⟩
abbrev S4096x49x16 : Shape := ⟨3, ![4096, 49, 16]⟩
abbrev S4096x784 : Shape := ⟨2, ![4096, 784]⟩
abbrev S_ : Shape := ⟨0, ![]⟩
abbrev S4096x896 : Shape := ⟨2, ![4096, 896]⟩
abbrev S8x512x10 : Shape := ⟨3, ![8, 512, 10]⟩
abbrev S512x896 : Shape := ⟨2, ![512, 896]⟩
abbrev S1x512x10 : Shape := ⟨3, ![1, 512, 10]⟩
abbrev S512 : Shape := ⟨1, ![512]⟩
abbrev S512x1 : Shape := ⟨2, ![512, 1]⟩
abbrev S512x10 : Shape := ⟨2, ![512, 10]⟩

abbrev nBuf : Space → Nat
  | .hbm => 7
  | .vmem => 4
  | .smem => 0
  | _ => 0

abbrev bufTy : (tb : Table) → Fin (tcTables nBuf tb) → BufTy
  | .hbm, ⟨0, _⟩ => ⟨S49x4096x16, .f32⟩
  | .hbm, ⟨1, _⟩ => ⟨S4096x49x16, .f32⟩
  | .hbm, ⟨2, _⟩ => ⟨S4096x784, .f32⟩
  | .hbm, ⟨3, _⟩ => ⟨S_, .f32⟩
  | .hbm, ⟨4, _⟩ => ⟨S_, .f32⟩
  | .hbm, ⟨5, _⟩ => ⟨S4096x896, .f32⟩
  | .hbm, ⟨6, _⟩ => ⟨S8x512x10, .i32⟩
  | .local _ .vmem, ⟨0, _⟩ => ⟨S512x896, .f32⟩
  | .local _ .vmem, ⟨1, _⟩ => ⟨S512x896, .f32⟩
  | .local _ .vmem, ⟨2, _⟩ => ⟨S1x512x10, .i32⟩
  | .local _ .vmem, ⟨3, _⟩ => ⟨S1x512x10, .i32⟩
  | _, _ => ⟨S49x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x10 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChooseReferenceIdeal.lean ====
abbrev S49x4096x16 : Shape := ⟨3, ![49, 4096, 16]⟩
abbrev S4096x49x16 : Shape := ⟨3, ![4096, 49, 16]⟩
abbrev S4096x784 : Shape := ⟨2, ![4096, 784]⟩
abbrev S4096x10 : Shape := ⟨2, ![4096, 10]⟩
abbrev S4096 : Shape := ⟨1, ![4096]⟩
abbrev S4096x1 : Shape := ⟨2, ![4096, 1]⟩
abbrev S_ : Shape := ⟨0, ![]⟩
abbrev S8x512x10 : Shape := ⟨3, ![8, 512, 10]⟩

abbrev nBuf : Space → Nat
  | .hbm => 24
  | .vmem => 0
  | .smem => 0
  | _ => 0

abbrev bufTy : (tb : Table) → Fin (tcTables nBuf tb) → BufTy
  | .hbm, ⟨0, _⟩ => ⟨S49x4096x16, .f32⟩
  | .hbm, ⟨1, _⟩ => ⟨S4096x49x16, .f32⟩
  | .hbm, ⟨2, _⟩ => ⟨S4096x784, .f32⟩
  | .hbm, ⟨3, _⟩ => ⟨S4096x10, .f32⟩
  | .hbm, ⟨4, _⟩ => ⟨S4096x10, .i32⟩
  | .hbm, ⟨5, _⟩ => ⟨S4096, .i32⟩
  | .hbm, ⟨6, _⟩ => ⟨S4096x1, .i32⟩
  | .hbm, ⟨7, _⟩ => ⟨S_, .i32⟩
  | .hbm, ⟨8, _⟩ => ⟨S4096x1, .i32⟩
  | .hbm, ⟨9, _⟩ => ⟨S4096x1, .i32⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S_, .i32⟩
  | .hbm, ⟨14, _⟩ => ⟨S4096x10, .i32⟩
  | .hbm, ⟨15, _⟩ => ⟨S4096x10, .i32⟩
  | .hbm, ⟨16, _⟩ => ⟨S4096x10, .i32⟩
  | .hbm, ⟨17, _⟩ => ⟨S4096x10, .i32⟩
  | .hbm, ⟨18, _⟩ => ⟨S_, .i32⟩
  | .hbm, ⟨19, _⟩ => ⟨S4096x1, .i32⟩
  | .hbm, ⟨20, _⟩ => ⟨S4096x1, .i32⟩
  | .hbm, ⟨21, _⟩ => ⟨S4096x10, .i32⟩
  | .hbm, ⟨22, _⟩ => ⟨S4096x10, .i32⟩
  | .hbm, ⟨23, _⟩ => ⟨S8x512x10, .i32⟩
  | _, _ => ⟨S49x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_values : Ref sig .tc := ⟨.hbm, 3, rfl⟩
abbrev main_indices : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Rank.lean ====
abbrev S4096x1280 : Shape := ⟨2, ![4096, 1280]⟩
abbrev S8x512x10 : Shape := ⟨3, ![8, 512, 10]⟩
abbrev S512x1280 : Shape := ⟨2, ![512, 1280]⟩
abbrev S1x512x10 : Shape := ⟨3, ![1, 512, 10]⟩
abbrev S512x10 : Shape := ⟨2, ![512, 10]⟩
abbrev S512x1 : Shape := ⟨2, ![512, 1]⟩
abbrev S512x10x1 : Shape := ⟨3, ![512, 10, 1]⟩
abbrev S512x10x128 : Shape := ⟨3, ![512, 10, 128]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1280, .f32⟩
  | .hbm, ⟨1, _⟩ => ⟨S8x512x10, .i32⟩
  | .hbm, ⟨2, _⟩ => ⟨S8x512x10, .i32⟩
  | .hbm, ⟨3, _⟩ => ⟨S8x512x10, .f32⟩
  | .local _ .vmem, ⟨0, _⟩ => ⟨S512x1280, .f32⟩
  | .local _ .vmem, ⟨1, _⟩ => ⟨S512x1280, .f32⟩
  | .local _ .vmem, ⟨2, _⟩ => ⟨S1x512x10, .i32⟩
  | .local _ .vmem, ⟨3, _⟩ => ⟨S1x512x10, .i32⟩
  | .local _ .vmem, ⟨4, _⟩ => ⟨S1x512x10, .i32⟩
  | .local _ .vmem, ⟨5, _⟩ => ⟨S1x512x10, .i32⟩
  | .local _ .vmem, ⟨6, _⟩ => ⟨S1x512x10, .f32⟩
  | .local _ .vmem, ⟨7, _⟩ => ⟨S1x512x10, .f32⟩
  | _, _ => ⟨S4096x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x10 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x10 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RankReferenceIdeal.lean ====
abbrev S4096x1280 : Shape := ⟨2, ![4096, 1280]⟩
abbrev S8x512x10 : Shape := ⟨3, ![8, 512, 10]⟩
abbrev S4096x10 : Shape := ⟨2, ![4096, 10]⟩
abbrev S_ : Shape := ⟨0, ![]⟩
abbrev S128 : Shape := ⟨1, ![128]⟩
abbrev S4096x10x1 : Shape := ⟨3, ![4096, 10, 1]⟩
abbrev S1x1x128 : Shape := ⟨3, ![1, 1, 128]⟩
abbrev S4096x10x128 : Shape := ⟨3, ![4096, 10, 128]⟩
abbrev S1 : Shape := ⟨1, ![1]⟩
abbrev S1x1x1 : Shape := ⟨3, ![1, 1, 1]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x1280, .f32⟩
  | .hbm, ⟨1, _⟩ => ⟨S8x512x10, .i32⟩
  | .hbm, ⟨2, _⟩ => ⟨S4096x10, .i32⟩
  | .hbm, ⟨3, _⟩ => ⟨S_, .i32⟩
  | .hbm, ⟨4, _⟩ => ⟨S4096x10, .i32⟩
  | .hbm, ⟨5, _⟩ => ⟨S4096x10, .i32⟩
  | .hbm, ⟨6, _⟩ => ⟨S_, .i32⟩
  | .hbm, ⟨7, _⟩ => ⟨S4096x10, .i32⟩
  | .hbm, ⟨8, _⟩ => ⟨S4096x10, .i32⟩
  | .hbm, ⟨9, _⟩ => ⟨S128, .i32⟩
  | .hbm, ⟨10, _⟩ => ⟨S4096x10x1, .i32⟩
  | .hbm, ⟨11, _⟩ => ⟨S_, .i32⟩
  | .hbm, ⟨12, _⟩ => ⟨S4096x10x1, .i32⟩
  | .hbm, ⟨13, _⟩ => ⟨S4096x10x1, .i32⟩
  | .hbm, ⟨14, _⟩ => ⟨S1x1x128, .i32⟩
  | .hbm, ⟨15, _⟩ => ⟨S4096x10x128, .i32⟩
  | .hbm, ⟨16, _⟩ => ⟨S4096x10x128, .i32⟩
  | .hbm, ⟨17, _⟩ => ⟨S4096x10x128, .i32⟩
  | .hbm, ⟨18, _⟩ => ⟨S4096x1280, .i32⟩
  | .hbm, ⟨19, _⟩ => ⟨S4096x10, .f32⟩
  | .hbm, ⟨20, _⟩ => ⟨S4096x10, .i32⟩
  | .hbm, ⟨21, _⟩ => ⟨S_, .i32⟩
  | .hbm, ⟨22, _⟩ => ⟨S4096x10, .i32⟩
  | .hbm, ⟨23, _⟩ => ⟨S4096x10, .i1⟩
  | .hbm, ⟨24, _⟩ => ⟨S_, .i32⟩
  | .hbm, ⟨25, _⟩ => ⟨S4096x10, .i32⟩
  | .hbm, ⟨26, _⟩ => ⟨S4096x10, .i32⟩
  | .hbm, ⟨27, _⟩ => ⟨S4096x10, .i32⟩
  | .hbm, ⟨28, _⟩ => ⟨S4096x10x1, .i32⟩
  | .hbm, ⟨29, _⟩ => ⟨S1, .i32⟩
  | .hbm, ⟨30, _⟩ => ⟨S_, .i32⟩
  | .hbm, ⟨31, _⟩ => ⟨S4096x10x1, .i32⟩
  | .hbm, ⟨32, _⟩ => ⟨S4096x10x1, .i1⟩
  | .hbm, ⟨33, _⟩ => ⟨S1x1x1, .i32⟩
  | .hbm, ⟨34, _⟩ => ⟨S4096x10x1, .i32⟩
  | .hbm, ⟨35, _⟩ => ⟨S4096x10x1, .i1⟩
  | .hbm, ⟨36, _⟩ => ⟨S4096x10x1, .i1⟩
  | .hbm, ⟨37, _⟩ => ⟨S_, .i1⟩
  | .hbm, ⟨38, _⟩ => ⟨S4096x10, .i1⟩
  | .hbm, ⟨39, _⟩ => ⟨S4096x10, .i32⟩
  | .hbm, ⟨40, _⟩ => ⟨S_, .i32⟩
  | .hbm, ⟨41, _⟩ => ⟨S4096x10, .i32⟩
  | .hbm, ⟨42, _⟩ => ⟨S4096x10, .i32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .i1⟩
  | .hbm, ⟨49, _⟩ => ⟨S_, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .i1⟩
  | .hbm, ⟨56, _⟩ => ⟨S4096x10, .f32⟩
  | .hbm, ⟨57, _⟩ => ⟨S4096x10, .f32⟩
  | .hbm, ⟨58, _⟩ => ⟨S4096x10, .i1⟩
  | .hbm, ⟨59, _⟩ => ⟨S4096x10, .f32⟩
  | .hbm, ⟨60, _⟩ => ⟨S8x512x10, .i32⟩
  | .hbm, ⟨61, _⟩ => ⟨S8x512x10, .f32⟩
  | _, _ => ⟨S4096x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_c_4 : Ref sig .tc := ⟨.hbm, 40, rfl⟩
abbrev main_call0_v14 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_cst_2 : Ref sig .tc := ⟨.hbm, 46, rfl⟩
abbrev main_v17 : Ref sig .tc := ⟨.hbm, 47, rfl⟩
abbrev main_v18 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_v19 : Ref sig .tc := ⟨.hbm, 52, rfl⟩
abbrev main_cst_4 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_call2_v0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩

abbrev nD : Nat := 1
abbrev τ : Topo := Topo.v7x

variable {F : FTy → Type} [FloatOps F]
-- ==== Proof.Base.lean ====
/-
  What every part of the proof shares: the program as the launch theorem sees it, the resource algebra, and two rules
  for a tile's streams — the indirect gather into one slot of the row scratch, and the pair "wait for a slot's gather,
  copy the slot out to its chunk of the result".
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Kernel
public import proofs.«01_k».proof.Proof.Gen.Pre_in_range
public import proofs.«01_k».proof.Proof.Gen.ReferenceIdeal

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq (q : Fin 2) : (K (F := F)).nSub q = 16 := match q with | 0 => rfl | 1 => rfl
theorem nCore_eq (q : Fin 2) : (K (F := F)).nCore q = 2 := match q with | 0 => rfl | 1 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl | 1 => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) := (Emb.inl : Emb UP (UP × Counters)).trans embR

variable [FloatOps F]

/-! ## What a tile owes while it runs -/

/-- The tile owes `O` throughout, having waited for what `W` lists and for its own transfers besides. -/
def Owing (thr : Thread nD τ) (O : CellTallies nD τ sig (HIx 2)) (W : Waits sig (HIx 2)) : sProp 𝕄 :=
  iprop(∃ W', ⌜∀ p ∈ W', p ∈ W ∨ p.2 = none⌝ ∗ owes thr O W')

theorem Owing.start {thr : Thread nD τ} {O : CellTallies nD τ sig (HIx 2)} {W : Waits sig (HIx 2)} :
    (owes thr O W : sProp 𝕄) ⊢ Owing thr O W := by
  unfold Owing
  iintro H; iexists W; isplitr
  · ipureintro; exact fun _ h => .inl h
  · iexact H

/-- A wait for a transfer of the tile's own, from its flight: what the transfer delivers, and the counter back at zero. -/
theorem wp_await {c : Fin τ.nSC} {i : Fin τ.nSub} {d : Dev nD} {O : CellTallies nD τ sig (HIx 2)} {W : Waits sig (HIx 2)}
    (hO : ∀ g, O g none = 0) {sp sp' : Space} {s s' : Shape} {e e' : EltTy} {sem : DmaSem sig} {κ' : Kind}
    {srcw : Memref sig (V d c i).2.kind sp s' e'} {dstw : Memref sig κ' sp' s e} {hsrc : srcw.view.WordExact} {hdst : dstw.view.WordExact}
    {N : ℕ} (hN : dstw.view.dmaCredit = N) {R : sProp 𝕄} {Q : PUnit → sProp 𝕄} :
    iprop(levAts (K (F := F)).L (K (F := F)).lev ∗ Transfers.Flight countersEmb (V d c i) (.dma sem) (default : HIx 2) N R ∗ Owing (V d c i) O W)
      ⊢ iprop((iprop(R ∗ semVal (V d c i, .dma sem) 0 ∗ Owing (V d c i) O W) -∗ Q ⟨⟩)
          -∗ wp frame (wpE (defs₀ (F := F)) 𝒱₀ (V d c i) none) Set.univ (.op (.waitDma2 sem srcw dstw hsrc hdst) fun _ => .ret ⟨⟩) Q) := by
  unfold Owing
  iintro ⟨Hlv, Hfl, %W', %hW', HO⟩ Hk
  ihave Hmw := (show levAts (K (F := F)).L (K (F := F)).lev ⊢ Transfers.MayWaits (V d c i) (default : HIx 2) O from
    (K (F := F)).mayWaits_none (thr := V d c i) hO) $$ Hlv
  iapply (Transfers.wp_waitLocalO countersEmb 𝒱₀ (V d c i) none (default : HIx 2) hN) $$ [Hfl HO Hmw]
  · isplitl [Hfl]; · iexact Hfl
    isplitl [HO]; · iexact HO
    iapply (Transfers.MayWaits.elim (SemLoc.dma sem)) $$ Hmw
  iintro ⟨HR, Hs, HO⟩
  rw [wp_ret]
  imodintro
  iapply Hk
  isplitl [HR]; · iexact HR
  isplitl [Hs]; · iexact Hs
  iexists _; isplitr
  swap; · iexact HO
  ipureintro; intro p hp
  rcases Finset.mem_insert.mp hp with hp | hp; · exact .inr (hp ▸ rfl)
  exact hW' p hp

/-! ## A slot's gather -/

section Slot

variable {c : Fin τ.nSC} {i : Fin τ.nSub} {d : Dev nD} {s₀ s si : Shape} {a : Nat} {e : EltTy}

/-- A slot whose gather has landed: it reads the rows `p`, and the shares of the table and of the row numbers are back. -/
def Landed (src : Memref sig (V d c i).2.kind .hbm s₀ e) (dst : Memref sig (V d c i).2.kind .vmem s e) (offs : Memref sig (V d c i).2.kind .vmem si .i32)
    (q qo : PosShare TreeShare) (fs : Buf (Elt F) (src.view.loc (V d c i))) (fo : Buf (Elt F) (offs.view.loc (V d c i))) (p : s.Idx → Elt F e) : sProp 𝕄 :=
  iprop((∃ f, ⌜dst.view.read (Elt F) f = p⌝ ∗ (dst.view.loc (V d c i) ↦[dst.view.set]{fullShare} f))
    ∗ (src.view.loc (V d c i) ↦{q} fs) ∗ (offs.view.loc (V d c i) ↦{qo} fo))

/-- A slot free for a gather: it holds anything, with a share of the table, one of the row numbers, and its counter at zero. -/
def Ready (src : Memref sig (V d c i).2.kind .hbm s₀ e) (dst : Memref sig (V d c i).2.kind .vmem s e) (offs : Memref sig (V d c i).2.kind .vmem si .i32)
    (sem : DmaSem sig) (q qo : PosShare TreeShare) (fs : Buf (Elt F) (src.view.loc (V d c i))) (fo : Buf (Elt F) (offs.view.loc (V d c i))) : sProp 𝕄 :=
  iprop((∃ f, (dst.view.loc (V d c i) ↦[dst.view.set]{fullShare} f))
    ∗ (src.view.loc (V d c i) ↦{q} fs) ∗ (offs.view.loc (V d c i) ↦{qo} fo) ∗ semVal (V d c i, .dma sem) 0)

/-- The gather's issue: the slot is in flight, and will read `p`: at row `r` the table's row whose number the list holds at `r`. -/
theorem wp_issue {src : Memref sig (V d c i).2.kind .hbm s₀ e} {dst : Memref sig (V d c i).2.kind .vmem s e} {hg : s₀.Gathers a s}
    {offs : Memref sig (V d c i).2.kind .vmem si .i32} {hn : si.numel = s.size hg.axis'} {sem : DmaSem sig}
    {hp : (V d c i).2.kind = .scVector} {hsrc : src.view.WordExact} {he : e.bits = 32} {hsp : Space.hbm = .hbm ∨ Space.hbm = .shared} {hr : s₀.StreamRows a}
    {q qo : PosShare TreeShare} {fs : Buf (Elt F) (src.view.loc (V d c i))} {fo : Buf (Elt F) (offs.view.loc (V d c i))} {Q : PUnit → sProp 𝕄}
    (N : ℕ) (hN : ∑ j, (dst.slice (s.rowRect hg.axis' j) (s.stride_rowRect hg.axis' j)).view.dmaCredit = N)
    (hs : 0 < s.numel) (hin : ∀ x, (offs.view.read (Elt F) fo x).toNat < s₀.size hg.axis) (p : s.Idx → Elt F e)
    (hval : SparseCore.gatherPayload hg (src.view.read (Elt F) fs) (SparseCore.rows (offs.view.read (Elt F) fo) hn hin) = p) :
    Ready src dst offs sem q qo fs fo
      ⊢ iprop((Transfers.Flight countersEmb (V d c i) (.dma sem) (default : HIx 2) N (Landed src dst offs q qo fs fo p) -∗ Q ⟨⟩)
          -∗ wp frame (wpE (defs₀ (F := F)) 𝒱₀ (V d c i) none) Set.univ (SparseCore.enqueueIndirectGather hp src dst hg offs hn sem hsrc he hsp hr) Q) := by
  unfold Ready
  iintro ⟨⟨%f, Hd⟩, Hs, Ho, Hv⟩ Hk
  ihave Hs' := (pointsTo_split_subset (q := q) (f := fs) (S := Finset.univ) (Finset.subset_univ src.view.set)).1 $$ Hs
  icases Hs' with ⟨Hs, Hsr⟩
  ihave Ho' := (pointsTo_split_subset (q := qo) (f := fo) (S := Finset.univ) (Finset.subset_univ offs.view.set)).1 $$ Ho
  icases Ho' with ⟨Ho, Hor⟩
  rw [show (SparseCore.enqueueIndirectGather hp src dst hg offs hn sem hsrc he hsp hr : Prog (TpuEff nD τ sig (Elt F) Λ₀ (V d c i).2) PUnit)
    = SparseCore.enqueueIndirectGather hp src dst hg offs hn sem hsrc he hsp hr >>= fun _ => .ret ⟨⟩ from rfl]
  iapply (SparseCore.wp_indirectGatherLocal countersEmb 𝒱₀ (V d c i) none (hg := hg) (default : HIx 2) N hN hs hin) $$ [Hs Hd Ho Hv]
  · isplitl [Hs]; · iexact Hs
    isplitl [Hd]; · iexact Hd
    isplitl [Ho]; · iexact Ho
    iexact Hv
  iintro Hfl
  rw [wp_ret]
  imodintro
  iapply Hk
  iapply (Transfers.Flight_mono countersEmb (V d c i) (D := iprop((((src.view.loc (V d c i)) ↦[Finset.univ \ src.view.set]{q} fs)
      ∗ ((offs.view.loc (V d c i)) ↦[Finset.univ \ offs.view.set]{qo} fo)) ∗ _)) ?_)
  rotate_left
  · iapply (Transfers.Flight_frame countersEmb (V d c i))
    isplitl [Hsr Hor]
    · isplitl [Hsr]; · iexact Hsr
      iexact Hor
    · iexact Hfl
  unfold Landed
  iintro ⟨⟨Hsr, Hor⟩, Hd, Hs, Ho⟩
  isplitl [Hd]
  · iexists _; isplitr
    swap; · iexact Hd
    ipureintro
    rw [View.read_write_univ]; exact hval
  isplitl [Hs Hsr]
  · iapply (pointsTo_split_subset (q := q) (f := fs) (S := Finset.univ) (Finset.subset_univ src.view.set)).2
    isplitl [Hs] <;> iassumption
  · iapply (pointsTo_split_subset (q := qo) (f := fo) (S := Finset.univ) (Finset.subset_univ offs.view.set)).2
    isplitl [Ho] <;> iassumption

/-- A chunk of the result still to be written, and the counter of its copy. -/
def Todo (chunk : Memref sig (V d c i).2.kind .hbm s e) (sc : DmaSem sig) (g : Buf (Elt F) (chunk.view.loc (V d c i))) : sProp 𝕄 :=
  iprop((chunk.view.loc (V d c i) ↦[chunk.view.set]{fullShare} g) ∗ semVal (V d c i, .dma sc) 0)

/-- One turn of the loop: wait for the slot's gather, copy the slot out to the chunk, wait for the copy. The chunk then
    holds what the result `G` has there, and the slot is free again. -/
theorem wp_turn {O : CellTallies nD τ sig (HIx 2)} {W : Waits sig (HIx 2)} (hO : ∀ g, O g none = 0)
    {src : Memref sig (V d c i).2.kind .hbm s₀ e} {dst : Memref sig (V d c i).2.kind .vmem s e} {offs : Memref sig (V d c i).2.kind .vmem si .i32}
    {sem sc : DmaSem sig} {q qo : PosShare TreeShare} {fs : Buf (Elt F) (src.view.loc (V d c i))} {fo : Buf (Elt F) (offs.view.loc (V d c i))}
    {p : s.Idx → Elt F e} {N : ℕ} (hN : dst.view.dmaCredit = N) (hN' : 0 < dst.view.dmaCredit)
    {srcw : Memref sig (V d c i).2.kind .hbm s₀ e} {hw₁ : srcw.view.WordExact} {hw₂ : dst.view.WordExact}
    {chunk : Memref sig (V d c i).2.kind .hbm s e} {h₁ : dst.view.WordExact} {h₂ : chunk.view.WordExact}
    {h₃ : DmaTarget.Typed (nD := nD) .vmem (.dma sc) (.here chunk)} {h₄ : dst.view.WordExact} {h₅ : chunk.view.WordExact}
    (hC : 0 < chunk.view.dmaCredit)
    (g G : Buf (Elt F) (chunk.view.loc (V d c i))) (hG : chunk.view.read (Elt F) G = p) {Q : PUnit → sProp 𝕄} :
    iprop(levAts (K (F := F)).L (K (F := F)).lev
        ∗ Transfers.Flight countersEmb (V d c i) (.dma sem) (default : HIx 2) N (Landed src dst offs q qo fs fo p)
        ∗ Todo chunk sc g ∗ Owing (V d c i) O W)
      ⊢ iprop((iprop(Ready src dst offs sem q qo fs fo ∗ Todo chunk sc G ∗ Owing (V d c i) O W) -∗ Q ⟨⟩)
          -∗ wp frame (wpE (defs₀ (F := F)) 𝒱₀ (V d c i) none) Set.univ (SparseCore.waitIndirectGather sem srcw dst hw₁ hw₂) fun _ =>
            wp frame (wpE (defs₀ (F := F)) 𝒱₀ (V d c i) none) Set.univ (Prog.lift (.enqueueDma dst (.here chunk) (.dma sc) h₁ h₂ h₃)) fun _ =>
            wp frame (wpE (defs₀ (F := F)) 𝒱₀ (V d c i) none) Set.univ (Prog.lift (.waitDma2 sc dst chunk h₄ h₅)) Q) := by
  unfold Todo
  iintro ⟨#Hlv, Hfl, ⟨Hc, Hcs⟩, HO⟩ Hk
  unfold SparseCore.waitIndirectGather
  iapply (wp_await hO hN) $$ [Hfl HO]
  · isplitr; · iexact Hlv
    isplitl [Hfl]; · iexact Hfl
    iexact HO
  unfold Landed
  iintro ⟨⟨⟨%f, %hf, Hd⟩, Hs, Ho⟩, Hv, HO⟩
  iapply (Transfers.wp_dmaLocal countersEmb 𝒱₀ (V d c i) none (default : HIx 2) chunk.view.dmaCredit rfl hC (Finset.Subset.refl _)) $$ [Hd Hc Hcs]
  · isplitl [Hd]; · iexact Hd
    isplitl [Hc]; · iexact Hc
    iexact Hcs
  iintro Hfl
  rw [wp_ret]
  imodintro
  iapply (wp_await hO rfl) $$ [Hfl HO]
  · isplitr; · iexact Hlv
    isplitl [Hfl]; · iexact Hfl
    iexact HO
  iintro ⟨⟨Hc, Hd⟩, Hcs, HO⟩
  iapply Hk
  unfold Ready
  isplitl [Hd Hs Ho Hv]
  · isplitl [Hd]; · iexists f; iexact Hd
    isplitl [Hs]; · iexact Hs
    isplitl [Ho]; · iexact Ho
    iexact Hv
  isplitl [Hc Hcs]
  · isplitl [Hc]
    · iapply (Entails.of_eq (pointsTo_congr (fun j hj => ?_))) $$ Hc
      obtain ⟨x, -, rfl⟩ := Finset.mem_map.mp hj
      have hx := congrFun hG x
      rw [View.read_apply] at hx
      rw [View.write_emb_of_mem _ _ (Finset.mem_univ x), ReadAs.apply_same, hf, ← hx, cast_cast, cast_eq]
    · iexact Hcs
  iexact HO

end Slot

/-- The third of four first. -/
theorem sep_third {A B C E : sProp 𝕄} : iprop(A ∗ B ∗ C ∗ E) = iprop(C ∗ A ∗ B ∗ E) := by
  refine BI.Entails.antisymm (show iprop(A ∗ B ∗ C ∗ E) ⊢ iprop(C ∗ A ∗ B ∗ E) from ?_) (show iprop(C ∗ A ∗ B ∗ E) ⊢ iprop(A ∗ B ∗ C ∗ E) from ?_)
  · iintro ⟨H1, H2, H3, H4⟩
    isplitl [H3]; · iexact H3
    isplitl [H1]; · iexact H1
    isplitl [H2]; · iexact H2
    iexact H4
  · iintro ⟨H3, H1, H2, H4⟩
    isplitl [H1]; · iexact H1
    isplitl [H2]; · iexact H2
    isplitl [H3]; · iexact H3
    iexact H4

/-! ## What a subcore owns, taken apart and put together -/

section Own

variable {c : Fin τ.nSC} {i : Fin τ.nSub} {d : Dev nD}

/-- A family of a tile's own counters, out of all its counters. -/
theorem ownSems0_family {n : ℕ} (sem : Fin n → DmaSem sig) (inj : Function.Injective sem)
    (hs : ∀ k, (SemLoc.dma (sem k) : SemLoc sig).isScoped .scVector = true) :
    (ownSems0 (V d c i) : sProp 𝕄)
      = iprop(bigSep Finset.univ (fun k => semVal (V d c i, .dma (sem k)) 0)
          ∗ bigSep (ownCells (V d c i) \ Finset.univ.image fun k => ((V d c i, .dma (sem k)) : GSem nD τ sig)) fun g => semVal g 0) := by
  unfold SparseCore.Cfg.ownSems0
  rw [SparseCore.bigSep_sdiff_split' (t := Finset.univ.image fun k => ((V d c i, .dma (sem k)) : GSem nD τ sig)) fun g hg => by
      obtain ⟨k, -, rfl⟩ := Finset.mem_image.mp hg
      exact mem_ownCells.mpr ⟨rfl, hs k⟩,
    SparseCore.bigSep_image_of_injOn fun k _ k' _ h => inj (by simpa using h)]

/-- Two of a tile's own buffers, out of all its buffers. -/
theorem ownBufs_pair (a b : Ref sig .scVector) (hab : b ≠ a) (ha : ((Proc.scVector c i).devRef a).owner = .proc (.scVector c i))
    (hb : ((Proc.scVector c i).devRef b).owner = .proc (.scVector c i)) :
    (ownBufs (V d c i) : sProp 𝕄)
      = iprop((∃ f, (V d c i).loc a ↦{fullShare} f) ∗ (∃ f, (V d c i).loc b ↦{fullShare} f)
          ∗ bigSep (((ownRefs (τ := τ) (.scVector c i)).erase ((Proc.scVector c i).devRef a)).erase ((Proc.scVector c i).devRef b))
              fun r => iprop(∃ f, ((d, r) : Loc nD τ sig) ↦{fullShare} f)) := by
  unfold SparseCore.Cfg.ownBufs
  refine (SparseCore.bigSep_erase' (SparseCore.Cfg.mem_ownRefs_of_owner ha)).trans ?_
  rw [SparseCore.bigSep_erase' (Finset.mem_erase.mpr ⟨fun e => absurd (Proc.devRef_injective _ e) hab, SparseCore.Cfg.mem_ownRefs_of_owner hb⟩)]

/-- Disjoint parts of a buffer, each at some contents, are their union at some contents. -/
theorem pointsTo_join {ℓ : Loc nD τ sig} {I : Type} [Fintype I] [DecidableEq I] (Kf : I → Finset (Idx ℓ)) (f₀ : Buf (Elt F) ℓ)
    (hd : ∀ t t', t ≠ t' → Disjoint (Kf t) (Kf t')) (hc : Finset.univ.biUnion Kf = Finset.univ) :
    bigSep Finset.univ (fun t => iprop(∃ f, ℓ ↦[Kf t]{fullShare} f)) ⊢ (iprop(∃ f, ℓ ↦{fullShare} f) : sProp 𝕄) := by
  haveI : Inhabited (Buf (Elt F) ℓ) := ⟨f₀⟩
  refine (bigSep_exists_pi _ _).trans ?_
  iintro ⟨%fs, H⟩
  ihave H := (pointsTo_biUnion_join Finset.univ Kf fs f₀ fun t _ t' _ h => hd t t' h) $$ H
  icases H with ⟨%g, -, H⟩
  iexists g
  rw [hc]
  iexact H

end Own

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide]
  rw [SparseCore.bigSep_insert' (by decide), SparseCore.bigSep_insert' (by decide), SparseCore.bigSep_insert' (by decide), bigSep_singleton]

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide]
  iterate 7 rw [SparseCore.bigSep_insert' (by decide)]
  rw [bigSep_singleton]

theorem bigSep_sixteen (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  iterate 15 rw [SparseCore.bigSep_insert' (by decide)]
  rw [bigSep_singleton]

end Cert.Proof

end
-- ==== Proof.Tile0.lean ====
/-
  The first gather's task on one vector subcore: where its pieces lie, and what its streams read.
-/
module

public import proofs.«01_k».proof.Proof.Base
public import Idealize.ShloMosaic.Lib.ValueIdxCore

@[expose] public section

noncomputable section

namespace Cert.Proof.Tile0

open Cert.KernelIdeal Cert.KernelIdeal.Gen Cert.Proof

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

abbrev tLoc (d : Dev nD) : Loc nD τ sig := (SparseCore.T d).loc main_v0
abbrev iLoc (d : Dev nD) : Loc nD τ sig := (SparseCore.T d).loc main_v3
abbrev oLoc (d : Dev nD) : Loc nD τ sig := (SparseCore.T d).loc main_v4

local notation "tV" => (Memref.whole Cert.KernelIdeal.main_v0_scv : Memref Cert.KernelIdeal.sig Kind.scVector Space.hbm Cert.KernelIdeal.S50000x128 EltTy.f32)
local notation "iV" => (Memref.whole Cert.KernelIdeal.main_v3_scv : Memref Cert.KernelIdeal.sig Kind.scVector Space.hbm Cert.KernelIdeal.S256x16 EltTy.i32)
local notation "oV" => (Memref.whole Cert.KernelIdeal.main_v4_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S8x16 EltTy.i32)
local notation "rV" => (Memref.whole Cert.KernelIdeal.cc0_scratch1 : Memref Cert.KernelIdeal.sig Kind.scVector Space.vmem Cert.KernelIdeal.S4x16x128 EltTy.f32)

/-! ## The pieces: which task takes which -/

theorem idiv : 32 ∣ S256x16.size 0 := ⟨8, rfl⟩
theorem odiv : 256 ∣ S4096x128.size 0 := ⟨16, rfl⟩
theorem rdiv : 4 ∣ S4x16x128.size 0 := ⟨1, rfl⟩

/-- Task `w`'s rows of the row numbers, and chunk `k` of its rows of the result. -/
abbrev iSet (w : Fin 32) : Finset S256x16.Idx := (Rect.part (s := S256x16) (a₀ := 0) idiv w).set
abbrev oSet (w : Fin 32) (k : Fin 8) : Finset S4096x128.Idx :=
  (Rect.part (s := S4096x128) (a₀ := 0) odiv ⟨8 * w.val + k.val, by omega⟩).set
abbrev rSet (s : Fin 4) : Finset S4x16x128.Idx := (Rect.part (s := S4x16x128) (a₀ := 0) rdiv s).set

variable (L : grid0.Coords)

abbrev cV : Fin τ.nSC := (L 0).castLE hcore0
abbrev jV : Fin τ.nSub := (L 1).castLE hsub0
theorem c_lt : (L 0).val < 2 := (L 0).isLt
theorem s_lt : (L 1).val < 16 := (L 1).isLt

/-- The task's number: two tasks to a subcore's number, one per SparseCore. -/
abbrev wid : Fin 32 := ⟨2 * (L 1).val + (L 0).val, by have := c_lt L; have := s_lt L; omega⟩

/-! ## The references the task names -/

theorem inb_slot : ∀ (s : Fin 4) (a : Fin 3), (![s.val, 0, 0] : Fin 3 → Nat) a + S1x16x128.size a ≤ S4x16x128.size a := by decide
theorem inb_row : ∀ (k : Fin 8) (a : Fin 2), (![k.val, 0] : Fin 2 → Nat) a + S1x16.size a ≤ S8x16.size a := by decide

abbrev tabM : Memref sig .scVector .hbm S50000x128 .f32 :=
  (tV).slice (Rect.unit (s := S50000x128) ![0, 0] S50000x128.size inb_S50000x128_S50000x128_0_0) (fun _ => rfl)
abbrev partM : Memref sig .scVector .hbm S8x16 .i32 := (iV).slice (Rect.unit (s := S256x16) (k0_off1 L) S8x16.size (k0_off1_inb L)) (fun _ => rfl)
abbrev chunkM (k : Fin 8) : Memref sig .scVector .hbm S16x128 .f32 :=
  (oV).slice (Rect.unit (s := S4096x128) (k0_off2 L (BitVec.ofNat 32 (16 * k.val))) S16x128.size (k0_off2_inb L k)) (fun _ => rfl)
abbrev slotM (s : Fin 4) : Memref sig .scVector .vmem S16x128 .f32 :=
  ((rV).slice (Rect.unit (s := S4x16x128) ![s.val, 0, 0] S1x16x128.size (inb_slot s)) (fun _ => rfl)).squeeze S16x128 squeezes_S1x16x128_S16x128
abbrev rowM (k : Fin 8) : Memref sig .scVector .vmem S16 .i32 :=
  ((sV).slice (Rect.unit (s := S8x16) ![k.val, 0] S1x16.size (inb_row k)) (fun _ => rfl)).squeeze S16 squeezes_S1x16_S16

theorem set_partM : (partM L).view.set = iSet (wid L) := by
  show ((View.whole (main_v3_scv : Ref sig .scVector)).slice _).set = _
  rw [View.set_slice]
  refine Finset.map_refl.trans (congrArg (fun r : Rect _ => r.set) ?_)
  unfold Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]

theorem set_chunkM (k : Fin 8) : (chunkM L k).view.set = oSet (wid L) k := by
  show ((View.whole (main_v4_scv : Ref sig .scVector)).slice _).set = _
  rw [View.set_slice]
  refine Finset.map_refl.trans (congrArg (fun r : Rect _ => r.set) ?_)
  unfold Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_slotM (s : Fin 4) : (slotM s).view.set = rSet s := by
  show (((View.whole (cc0_scratch1 : Ref sig .scVector)).slice (Rect.unit (s := S4x16x128) ![s.val, 0, 0] S1x16x128.size (inb_slot s))).reshape S16x128 squeezes_S1x16x128_S16x128.numel_eq).set = _
  rw [View.set_reshape, View.set_slice]
  refine Finset.map_refl.trans (congrArg (fun r : Rect _ => r.set) ?_)
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-! ## The value -/

/-- The gathered rows: row `r` of the result is the row of the table whose number stands `r`-th in the list. -/
def gathered (t : S50000x128.Idx → Elt F .f32) (n : S256x16.Idx → Elt F .i32) : S4096x128.Idx → Elt F .f32 := fun j =>
  t (ix2 ⟨(n (ix2 ⟨(j 0).val / 16, by have := idx2_lt0 j; omega⟩ ⟨(j 0).val % 16, Nat.mod_lt _ (by decide)⟩)).toNat % 50000, Nat.mod_lt _ (by decide)⟩ (j 1))

/-- The list's scratch, after the fetch, holds the task's rows of the row numbers. -/
def Fetched (n : S256x16.Idx → Elt F .i32) (fo : S8x16.Idx → Elt F .i32) : Prop :=
  ∀ y : S8x16.Idx, fo y = n (ix2 ⟨8 * (wid L).val + (y 0).val, by have := (wid L).isLt; have := idx2_lt0 y; omega⟩ (y 1))

theorem emb_rowM (k : Fin 8) (x : S16.Idx) : (rowM k).view.emb x = ix2 k (x 0) := by
  show (Rect.unit (s := S8x16) ![k.val, 0] S1x16.size (inb_row k)).emb (Shape.reshapeEquiv squeezes_S1x16_S16.numel_eq x) = _
  rw [Shape.reshapeEquiv_eq_of_rowMajor (y := (ix2 (0 : Fin 1) (x 0) : S1x16.Idx)) _ (by
    rw [Shape.rowMajor_val_two, Shape.rowMajor_val_one]; simp)]
  funext a
  match a with
  | 0 => exact Fin.ext (by simp [Rect.emb_apply])
  | 1 => exact Fin.ext (by simp [Rect.emb_apply])

theorem read_rowM (k : Fin 8) (fo : S8x16.Idx → Elt F .i32) (x : S16.Idx) : (rowM k).view.read (Elt F) fo x = fo (ix2 k (x 0)) := by
  rw [View.read_apply, emb_rowM]; rfl

theorem emb_tabM (x : S50000x128.Idx) : tabM.view.emb x = x := by
  show (Rect.unit (s := S50000x128) ![0, 0] S50000x128.size inb_S50000x128_S50000x128_0_0).emb x = x
  funext a
  match a with
  | 0 => exact Fin.ext (by simp [Rect.emb_apply])
  | 1 => exact Fin.ext (by simp [Rect.emb_apply])

theorem emb_chunkM (k : Fin 8) (x : S16x128.Idx) :
    (chunkM L k).view.emb x = ix2 ⟨16 * (8 * (wid L).val + k.val) + (x 0).val, by have := (wid L).isLt; have := idx2_lt0 x; omega⟩ (x 1) := by
  show (Rect.unit (s := S4096x128) (k0_off2 L (BitVec.ofNat 32 (16 * k.val))) S16x128.size (k0_off2_inb L k)).emb x = _
  funext a
  match a with
  | 0 => exact Fin.ext (by simp [Rect.emb_apply, k0_off2_eq]; omega)
  | 1 => exact Fin.ext (by simp [Rect.emb_apply, k0_off2_eq])

theorem emb_partM (y : S8x16.Idx) :
    (partM L).view.emb y = ix2 ⟨8 * (wid L).val + (y 0).val, by have := (wid L).isLt; have := idx2_lt0 y; omega⟩ (y 1) := by
  show (Rect.unit (s := S256x16) (k0_off1 L) S8x16.size (k0_off1_inb L)).emb y = _
  funext a
  match a with
  | 0 => exact Fin.ext (by simp [Rect.emb_apply, k0_off1_eq]; omega)
  | 1 => exact Fin.ext (by simp [Rect.emb_apply, k0_off1_eq])

theorem Fetched.inb {n : S256x16.Idx → Elt F .i32} {fo : S8x16.Idx → Elt F .i32} (h : Fetched L n fo) (hn : ∀ j, (n j).toNat < 50000) (k : Fin 8) :
    ∀ x, ((rowM k).view.read (Elt F) fo x).toNat < S50000x128.size gathers_S50000x128_S16x128.axis := by
  intro x
  rw [read_rowM, h]; exact hn _

/-- Chunk `k`'s gather brings what the gathered rows have at the chunk. -/
theorem payload {t : S50000x128.Idx → Elt F .f32} {n : S256x16.Idx → Elt F .i32} {fo : S8x16.Idx → Elt F .i32} (h : Fetched L n fo)
    (hn : ∀ j, (n j).toNat < 50000) (k : Fin 8) :
    SparseCore.gatherPayload gathers_S50000x128_S16x128 (tabM.view.read (Elt F) t)
        (SparseCore.rows ((rowM k).view.read (Elt F) fo) rfl (h.inb L hn k))
      = (chunkM L k).view.read (Elt F) (gathered t n) := by
  funext x
  rw [View.read_apply, emb_chunkM]
  show t (tabM.view.emb _) = t _
  rw [emb_tabM]
  refine congrArg t ?_
  funext a
  match a with
  | 0 =>
    refine Fin.ext ((congrArg Fin.val (Shape.Gathers.idx_axis gathers_S50000x128_S16x128 _ x)).trans ?_)
    show ((rowM k).view.read (Elt F) fo _).toNat = _ % 50000
    rw [read_rowM, h, Nat.mod_eq_of_lt (hn _)]
    refine congrArg (fun j => (n j).toNat) ?_
    have hx : ((S16.rowMajor.symm ((x 0).cast rfl)) 0).val = (x 0).val := by
      have := Shape.rowMajor_val_one (S16.rowMajor.symm ((x 0).cast rfl))
      rw [Equiv.apply_symm_apply] at this
      exact this.symm
    have hx0 := idx2_lt0 x
    funext a
    match a with
    | 0 => exact Fin.ext (by show 8 * _ + k.val = (16 * (8 * _ + k.val) + (x 0).val) / 16; omega)
    | 1 => exact Fin.ext (by show _ = (16 * (8 * _ + k.val) + (x 0).val) % 16; refine hx.trans ?_; omega)
  | 1 => rfl

/-! ## The task -/

abbrev credit : ℕ := (slotM 0).view.dmaCredit

theorem slot_wait (s : Fin 4) : (slotM s).view.dmaCredit = credit := by
  match s with
  | 0 => decide
  | 1 => decide
  | 2 => decide
  | 3 => decide
theorem slot_credit (s : Fin 4) : ∀ h : S50000x128.Gathers 0 S16x128,
    ∑ j, ((slotM s).slice (S16x128.rowRect h.axis' j) (S16x128.stride_rowRect h.axis' j)).view.dmaCredit = credit := by
  match s with
  | 0 => decide
  | 1 => decide
  | 2 => decide
  | 3 => decide
theorem slot_pos (s : Fin 4) : 0 < (slotM s).view.dmaCredit := by
  rw [slot_wait]; decide
theorem chunk_pos (k : Fin 8) : 0 < (chunkM L k).view.dmaCredit := View.dmaCredit_pos _ (by decide)

/-- The tile's counters: its four slots' and then the list's and the chunks' copies'. -/
abbrev gsem (s : Fin 4) : DmaSem sig := ![cc0_scratch2.sem, cc0_scratch3.sem, cc0_scratch4.sem, cc0_scratch5.sem] s
abbrev csem (k : Fin 8) : DmaSem sig :=
  ![cc0_scoped1.sem, cc0_scoped2.sem, cc0_scoped3.sem, cc0_scoped4.sem, cc0_scoped5.sem, cc0_scoped6.sem, cc0_scoped7.sem, cc0_scoped8.sem] k
abbrev sems : Fin 13 → DmaSem sig := Fin.cons cc0_scoped0.sem (Fin.append gsem csem)

theorem sems_inj : Function.Injective sems := by decide
theorem sems_scoped : ∀ k, (SemLoc.dma (sems k) : SemLoc sig).isScoped .scVector = true := by decide

section Task

variable [FloatOps F] (d : Dev nD)

/-- The counters apart: the list's fetch's, the slots', the chunks' copies', and the rest of the tile's. -/
theorem sems_open :
    (ownSems0 (V d (cV L) (jV L)) : sProp 𝕄)
      = iprop((semVal (V d (cV L) (jV L), .dma cc0_scoped0.sem) 0
          ∗ (bigSep Finset.univ fun s => semVal (V d (cV L) (jV L), .dma (gsem s)) 0)
          ∗ (bigSep Finset.univ fun k => semVal (V d (cV L) (jV L), .dma (csem k)) 0))
          ∗ bigSep (ownCells (V d (cV L) (jV L)) \ Finset.univ.image fun k => ((V d (cV L) (jV L), .dma (sems k)) : GSem nD τ sig)) fun g => semVal g 0) := by
  rw [ownSems0_family sems sems_inj sems_scoped]
  congr 1
  rw [bigSep_univ_equiv ((finSumFinEquiv (m := 1) (n := 12)).symm.symm) _, bigSep_univ_sum, bigSep_univ_of_subsingleton (0 : Fin 1),
    bigSep_univ_equiv (finSumFinEquiv (m := 4) (n := 8)) _, bigSep_univ_sum]
  rfl

/-- The chunks and their copies' counters, paired. -/
theorem todo_pair (g : Buf (Elt F) (oLoc d)) :
    iprop((bigSep Finset.univ fun k => (oLoc d ↦[oSet (wid L) k]{fullShare} g)) ∗ (bigSep Finset.univ fun k => semVal (V d (cV L) (jV L), .dma (csem k)) 0) : sProp 𝕄)
      = bigSep Finset.univ fun k : Fin 8 => Todo (c := cV L) (i := jV L) (d := d) (chunkM L k) (csem k) g := by
  rw [← bigSep_sep']
  refine bigSep_congr fun k _ => ?_
  unfold Todo
  rw [set_chunkM]

/-- The row scratch is its four slots. -/
theorem slots_split (f : Buf (Elt F) ((V d (cV L) (jV L)).loc cc0_scratch1)) :
    ((V d (cV L) (jV L)).loc cc0_scratch1 ↦{fullShare} f : sProp 𝕄)
      = bigSep Finset.univ fun s : Fin 4 => (V d (cV L) (jV L)).loc cc0_scratch1 ↦[rSet s]{fullShare} f := by
  rw [← pointsTo_biUnion Finset.univ _ fun s _ s' _ h => Rect.part_disjoint rdiv h, Rect.biUnion_part rdiv]

/-- Shares of the table and of the fetched list, the slots and their counters: four slots free for a gather. -/
theorem ready_slots (q : PosShare TreeShare) (t : Buf (Elt F) (tLoc d)) (fo : Buf (Elt F) ((V d (cV L) (jV L)).loc cc0_scratch0)) :
    iprop((tLoc d ↦{q} t) ∗ ((V d (cV L) (jV L)).loc cc0_scratch0 ↦{fullShare} fo)
        ∗ (bigSep Finset.univ fun s : Fin 4 => iprop(∃ f, (V d (cV L) (jV L)).loc cc0_scratch1 ↦[rSet s]{fullShare} f))
        ∗ (bigSep Finset.univ fun s => semVal (V d (cV L) (jV L), .dma (gsem s)) 0) : sProp 𝕄)
      = bigSep Finset.univ fun s : Fin 4 => Ready (c := cV L) (i := jV L) (d := d) tabM (slotM s) (rowM 0) (gsem s)
          (pieceOf q 4 (by decide) s) (pieceOf fullShare 4 (by decide) s) t fo := by
  rw [pointsTo_piecesOf (o := 4) Finset.univ t (by decide) q, pointsTo_piecesOf (o := 4) Finset.univ fo (by decide) fullShare,
    ← bigSep_sep', ← bigSep_sep', ← bigSep_sep']
  refine bigSep_congr fun s _ => ?_
  unfold Ready
  rw [set_slotM]
  exact sep_third

/-- What the task is given of the arrays: its rows of the row numbers, a share of the table, its chunks of the result. -/
def held (t : Buf (Elt F) (tLoc d)) (n : Buf (Elt F) (iLoc d)) (g : Buf (Elt F) (oLoc d)) : sProp 𝕄 :=
  iprop((iLoc d ↦[iSet (wid L)]{fullShare} n) ∗ (tLoc d ↦{pieceOf fullShare 32 (by decide) (wid L)} t)
    ∗ bigSep Finset.univ fun k : Fin 8 => (oLoc d ↦[oSet (wid L) k]{fullShare} g))

/-- What slot `s` in flight for chunk `k` will have brought. -/
abbrev landed (q : PosShare TreeShare) (t : Buf (Elt F) (tLoc d)) (n : Buf (Elt F) (iLoc d)) (fo : Buf (Elt F) ((V d (cV L) (jV L)).loc cc0_scratch0))
    (s : Fin 4) (k : Fin 8) : sProp 𝕄 :=
  Landed (c := cV L) (i := jV L) (d := d) tabM (slotM s) (rowM 0) (pieceOf q 4 (by decide) s) (pieceOf fullShare 4 (by decide) s) t fo
    ((chunkM L k).view.read (Elt F) (gathered t n))
abbrev ready (q : PosShare TreeShare) (t : Buf (Elt F) (tLoc d)) (fo : Buf (Elt F) ((V d (cV L) (jV L)).loc cc0_scratch0)) (s : Fin 4) : sProp 𝕄 :=
  Ready (c := cV L) (i := jV L) (d := d) tabM (slotM s) (rowM 0) (gsem s) (pieceOf q 4 (by decide) s) (pieceOf fullShare 4 (by decide) s) t fo

variable {d L} in
/-- Chunk `k`'s gather into slot `s` is issued. -/
theorem issue {q : PosShare TreeShare} {t : Buf (Elt F) (tLoc d)} {n : Buf (Elt F) (iLoc d)} {fo : Buf (Elt F) ((V d (cV L) (jV L)).loc cc0_scratch0)}
    (hfo : Fetched L n fo) (hn : ∀ j : S256x16.Idx, (n j).toNat < 50000) (s : Fin 4) (k : Fin 8) {Q : PUnit → sProp 𝕄}
    {hp : (V d (cV L) (jV L)).2.kind = .scVector} {hsrc : tabM.view.WordExact} {he : EltTy.f32.bits = 32} {hsp : Space.hbm = .hbm ∨ Space.hbm = .shared}
    {hr : S50000x128.StreamRows 0} :
    ready L d q t fo s
      ⊢ iprop((Transfers.Flight countersEmb (V d (cV L) (jV L)) (.dma (gsem s)) (default : HIx 2) credit (landed L d q t n fo s k) -∗ Q ⟨⟩)
          -∗ wp frame (wpE (defs₀ (F := F)) 𝒱₀ (V d (cV L) (jV L)) none) Set.univ
            (SparseCore.enqueueIndirectGather hp tabM (slotM s) gathers_S50000x128_S16x128 (rowM k) rfl (gsem s) hsrc he hsp hr) Q) :=
  wp_issue (F := F) (src := tabM) (dst := slotM s) (offs := rowM k) credit (slot_credit s _) (by decide) (hfo.inb L hn k) _ (payload L hfo hn k)

variable {d L} in
/-- Chunk `k`'s turn: its gather is waited for and copied out. -/
theorem turn {q : PosShare TreeShare} {t : Buf (Elt F) (tLoc d)} {n : Buf (Elt F) (iLoc d)} {fo : Buf (Elt F) ((V d (cV L) (jV L)).loc cc0_scratch0)}
    {O : CellTallies nD τ sig (HIx 2)} {W : Waits sig (HIx 2)} (hO : ∀ g, O g none = 0) (g : Buf (Elt F) (oLoc d)) (s : Fin 4) (k : Fin 8) {Q : PUnit → sProp 𝕄}
    {hw₁ : tabM.view.WordExact} {hw₂ : (slotM s).view.WordExact} {h₁ : (slotM s).view.WordExact} {h₂ : (chunkM L k).view.WordExact}
    {h₃ : DmaTarget.Typed (nD := nD) .vmem (.dma (csem k)) (DmaTarget.here (p := (V d (cV L) (jV L)).2) (chunkM L k))} {h₄ : (slotM s).view.WordExact} {h₅ : (chunkM L k).view.WordExact} :
    iprop(levAts (K (F := F)).L (K (F := F)).lev
        ∗ Transfers.Flight countersEmb (V d (cV L) (jV L)) (.dma (gsem s)) (default : HIx 2) credit (landed L d q t n fo s k)
        ∗ Todo (c := cV L) (i := jV L) (d := d) (chunkM L k) (csem k) g ∗ Owing (V d (cV L) (jV L)) O W)
      ⊢ iprop((iprop(ready L d q t fo s ∗ Todo (c := cV L) (i := jV L) (d := d) (chunkM L k) (csem k) (gathered t n) ∗ Owing (V d (cV L) (jV L)) O W) -∗ Q ⟨⟩)
          -∗ wp frame (wpE (defs₀ (F := F)) 𝒱₀ (V d (cV L) (jV L)) none) Set.univ (SparseCore.waitIndirectGather (gsem s) tabM (slotM s) hw₁ hw₂) fun _ =>
            wp frame (wpE (defs₀ (F := F)) 𝒱₀ (V d (cV L) (jV L)) none) Set.univ (Prog.lift (.enqueueDma (slotM s) (DmaTarget.here (p := (V d (cV L) (jV L)).2) (chunkM L k)) (.dma (csem k)) h₁ h₂ h₃)) fun _ =>
            wp frame (wpE (defs₀ (F := F)) 𝒱₀ (V d (cV L) (jV L)) none) Set.univ (Prog.lift (.waitDma2 (csem k) (slotM s) (chunkM L k) h₄ h₅)) Q) :=
  wp_turn (F := F) (c := cV L) (i := jV L) (d := d) (W := W) hO (src := tabM) (dst := slotM s) (offs := rowM 0) (sem := gsem s) (sc := csem k) (fs := t) (fo := fo)
    (p := (chunkM L k).view.read (Elt F) (gathered t n)) (N := credit) (slot_wait s) (slot_pos s) (srcw := tabM) (chunk := chunkM L k) (chunk_pos L k) g (gathered t n) rfl

set_option maxHeartbeats 4000000 in
set_option maxRecDepth 16384 in
/-- The task on vector subcore `(L 0, L 1)` of device `d`: it fetches its rows of the row numbers, gathers chunk by chunk through the
    four slots, and leaves its chunks of the result at the gathered rows. -/
theorem tile_body (hF : (K (F := F)).Facts) (t : Buf (Elt F) (tLoc d)) (n : Buf (Elt F) (iLoc d)) (g : Buf (Elt F) (oLoc d))
    (hn : ∀ j : S256x16.Idx, (n j).toNat < 50000) (O : CellTallies nD τ sig (HIx 2)) (W : Waits sig (HIx 2)) (hO : ∀ g, O g none = 0) :
    iprop(levAts (K (F := F)).L (K (F := F)).lev ∗ emp ∗ held L d t n g
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) iV (Memref.isWhole_whole _) oV (Memref.isWhole_whole _)
            sV (Memref.isWhole_whole _) rV (Memref.isWhole_whole _) cc0_scratch2 cc0_scratch3 cc0_scratch4 cc0_scratch5
            cc0_scoped0 cc0_scoped1 cc0_scoped2 cc0_scoped3 cc0_scoped4 cc0_scoped5 cc0_scoped6 cc0_scoped7 cc0_scoped8)
          fun _ => iprop(held L d t n (gathered t n)
            ∗ scopedBufs (V d (cV L) (jV L)) ∗ scopedSems0 (V d (cV L) (jV L))
            ∗ Owing (V d (cV L) (jV L)) O W) := by
  simp only [cc0_gather_k_eq_skeleton]; unfold cc0_gather_k_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [bind_assoc, pure_bind]
  rw [(K (F := F)).scopedBufs_V hF d (cV L) (jV L), SparseCore.Cfg.scopedSems0_V (Val := Elt F) d (cV L) (jV L), sems_open,
    ownBufs_pair (c := cV L) (i := jV L) (d := d) cc0_scratch0 cc0_scratch1 (by decide) rfl rfl]
  unfold held
  iintro ⟨#Hlv, -, ⟨Hi, Ht, Ho⟩, ⟨⟨%fs, Hs⟩, ⟨%fr, Hr⟩, Hbufs⟩, ⟨⟨HsA, HsG, HsC⟩, Hsems⟩, HO⟩
  ihave HO := Owing.start $$ HO
  -- the list's fetch
  simp only [wp_bind, wp_pure]
  ihave Hi := (Entails.of_eq (show (iLoc d ↦[iSet (wid L)]{fullShare} n : sProp 𝕄)
      = ((partM L).view.loc (V d (cV L) (jV L)) ↦[(partM L).view.set]{fullShare} n) by rw [set_partM])) $$ Hi
  iapply (Transfers.wp_dmaLocal countersEmb 𝒱₀ (V d (cV L) (jV L)) none (default : HIx 2) (src := partM L) (dst := sV) (sV).view.dmaCredit rfl
    (View.dmaCredit_pos _ (by decide)) (Finset.subset_univ _)) $$ [Hi Hs HsA]
  · isplitl [Hi]; · iexact Hi
    isplitl [Hs]; · iexact Hs
    iexact HsA
  iintro Hfl
  rw [wp_ret]
  imodintro
  iapply (wp_await hO rfl) $$ [Hfl HO]
  · isplitr; · iexact Hlv
    isplitl [Hfl]; · iexact Hfl
    iexact HO
  iintro ⟨⟨Hs, Hi⟩, HsA, HO⟩
  generalize hfo' : View.write (Elt F) (sV).view fs _ Finset.univ = fo
  have hfo : Fetched L n fo := by
    subst hfo'
    intro y
    rw [View.write_whole_univ, ReadAs.apply_same, View.read_apply, emb_partM]; rfl
  -- the slots and the chunks
  ihave Hr := (show ((V d (cV L) (jV L)).loc cc0_scratch1 ↦{fullShare} fr : sProp 𝕄)
      ⊢ bigSep Finset.univ fun s : Fin 4 => iprop(∃ f, (V d (cV L) (jV L)).loc cc0_scratch1 ↦[rSet s]{fullShare} f) from
    (Entails.of_eq (slots_split L d fr)).trans (bigSep_mono fun s _ => exists_intro (Φ := fun f => iprop((V d (cV L) (jV L)).loc cc0_scratch1 ↦[rSet s]{fullShare} f)) fr)) $$ Hr
  ihave HR := (Entails.of_eq ((ready_slots L d _ t fo).trans (bigSep_four _))) $$ [Ht Hs Hr HsG]
  · isplitl [Ht]; · iexact Ht
    isplitl [Hs]; · iexact Hs
    isplitl [Hr]; · iexact Hr
    iexact HsG
  icases HR with ⟨HR0, HR1, HR2, HR3⟩
  ihave HC := (Entails.of_eq ((todo_pair L d g).trans (bigSep_eight _))) $$ [Ho HsC]
  · isplitl [Ho]; · iexact Ho
    iexact HsC
  icases HC with ⟨HC0, HC1, HC2, HC3, HC4, HC5, HC6, HC7⟩
  iapply (issue hfo hn 0 0) $$ HR0
  iintro HF0
  iapply (issue hfo hn 1 1) $$ HR1
  iintro HF1
  iapply (issue hfo hn 2 2) $$ HR2
  iintro HF2
  iapply (issue hfo hn 3 3) $$ HR3
  iintro HF3
  iapply (turn hO g 0 0) $$ [HF0 HC0 HO]
  · isplitr; · iexact Hlv
    isplitl [HF0]; · iexact HF0
    isplitl [HC0]; · iexact HC0
    iexact HO
  iintro ⟨HR0, HC0, HO⟩
  iapply (issue hfo hn 0 4) $$ HR0
  iintro HF0
  iapply (turn hO g 1 1) $$ [HF1 HC1 HO]
  · isplitr; · iexact Hlv
    isplitl [HF1]; · iexact HF1
    isplitl [HC1]; · iexact HC1
    iexact HO
  iintro ⟨HR1, HC1, HO⟩
  iapply (issue hfo hn 1 5) $$ HR1
  iintro HF1
  iapply (turn hO g 2 2) $$ [HF2 HC2 HO]
  · isplitr; · iexact Hlv
    isplitl [HF2]; · iexact HF2
    isplitl [HC2]; · iexact HC2
    iexact HO
  iintro ⟨HR2, HC2, HO⟩
  iapply (issue hfo hn 2 6) $$ HR2
  iintro HF2
  iapply (turn hO g 3 3) $$ [HF3 HC3 HO]
  · isplitr; · iexact Hlv
    isplitl [HF3]; · iexact HF3
    isplitl [HC3]; · iexact HC3
    iexact HO
  iintro ⟨HR3, HC3, HO⟩
  iapply (issue hfo hn 3 7) $$ HR3
  iintro HF3
  iapply (turn hO g 0 4) $$ [HF0 HC4 HO]
  · isplitr; · iexact Hlv
    isplitl [HF0]; · iexact HF0
    isplitl [HC4]; · iexact HC4
    iexact HO
  iintro ⟨HR0, HC4, HO⟩
  iapply (turn hO g 1 5) $$ [HF1 HC5 HO]
  · isplitr; · iexact Hlv
    isplitl [HF1]; · iexact HF1
    isplitl [HC5]; · iexact HC5
    iexact HO
  iintro ⟨HR1, HC5, HO⟩
  iapply (turn hO g 2 6) $$ [HF2 HC6 HO]
  · isplitr; · iexact Hlv
    isplitl [HF2]; · iexact HF2
    isplitl [HC6]; · iexact HC6
    iexact HO
  iintro ⟨HR2, HC6, HO⟩
  iapply (turn hO g 3 7) $$ [HF3 HC7 HO]
  · isplitr; · iexact Hlv
    isplitl [HF3]; · iexact HF3
    isplitl [HC7]; · iexact HC7
    iexact HO
  iintro ⟨HR3, HC7, HO⟩
  imodintro
  -- everything back
  ihave HR := (Entails.of_eq ((ready_slots L d _ t fo).trans (bigSep_four _)).symm) $$ [HR0 HR1 HR2 HR3]
  · isplitl [HR0]; · iexact HR0
    isplitl [HR1]; · iexact HR1
    isplitl [HR2]; · iexact HR2
    iexact HR3
  icases HR with ⟨Ht, Hs, Hr, HsG⟩
  ihave HC := (Entails.of_eq ((todo_pair L d (gathered t n)).trans (bigSep_eight _)).symm) $$ [HC0 HC1 HC2 HC3 HC4 HC5 HC6 HC7]
  · isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    iexact HC7
  icases HC with ⟨Ho, HsC⟩
  ihave Hr := (pointsTo_join (ℓ := (V d (cV L) (jV L)).loc cc0_scratch1) rSet fr (fun _ _ h => Rect.part_disjoint rdiv h) (Rect.biUnion_part rdiv)) $$ Hr
  isplitl [Hi Ht Ho]
  · isplitl [Hi]
    · iapply (Entails.of_eq (show (iLoc d ↦[iSet (wid L)]{fullShare} n : sProp 𝕄)
        = ((partM L).view.loc (V d (cV L) (jV L)) ↦[(partM L).view.set]{fullShare} n) by rw [set_partM]).symm)
      iexact Hi
    isplitl [Ht]; · iexact Ht
    iexact Ho
  isplitl [Hs Hr Hbufs]
  · isplitl [Hs]; · iexists _; iexact Hs
    isplitl [Hr]; · iexact Hr
    iexact Hbufs
  isplitl [HsA HsG HsC Hsems]
  · isplitl [HsA HsG HsC]
    · isplitl [HsA]; · iexact HsA
      isplitl [HsG]; · iexact HsG
      iexact HsC
    iexact Hsems
  iexact HO

end Task

end Cert.Proof.Tile0

end
-- ==== Proof.Tile1.lean ====
/-
  The second gather's task on one vector subcore: where its pieces lie, and what its streams read.
-/
module

public import proofs.«01_k».proof.Proof.Base
public import Idealize.ShloMosaic.Lib.ValueIdxCore

@[expose] public section

noncomputable section

namespace Cert.Proof.Tile1

open Cert.KernelIdeal Cert.KernelIdeal.Gen Cert.Proof

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 2) (Elt F) ℕ UU ℕ

abbrev tLoc (d : Dev nD) : Loc nD τ sig := (SparseCore.T d).loc main_v0
abbrev iLoc (d : Dev nD) : Loc nD τ sig := (SparseCore.T d).loc main_v16
abbrev oLoc (d : Dev nD) : Loc nD τ sig := (SparseCore.T d).loc main_v17

local notation "tV" => (Memref.whole Cert.KernelIdeal.main_v0_scv : Memref Cert.KernelIdeal.sig Kind.scVector Space.hbm Cert.KernelIdeal.S50000x128 EltTy.f32)
local notation "iV" => (Memref.whole Cert.KernelIdeal.main_v16_scv : Memref Cert.KernelIdeal.sig Kind.scVector Space.hbm Cert.KernelIdeal.S512x80 EltTy.i32)
local notation "oV" => (Memref.whole Cert.KernelIdeal.main_v17_scv : Memref Cert.KernelIdeal.sig Kind.scVector Space.hbm Cert.KernelIdeal.S40960x128 EltTy.f32)
local notation "sV" => (Memref.whole Cert.KernelIdeal.cc1_scratch0 : Memref Cert.KernelIdeal.sig Kind.scVector Space.vmem Cert.KernelIdeal.S16x80 EltTy.i32)
local notation "rV" => (Memref.whole Cert.KernelIdeal.cc1_scratch1 : Memref Cert.KernelIdeal.sig Kind.scVector Space.vmem Cert.KernelIdeal.S4x80x128 EltTy.f32)

/-! ## The pieces: which task takes which -/

theorem idiv : 32 ∣ S512x80.size 0 := ⟨16, rfl⟩
theorem odiv : 512 ∣ S40960x128.size 0 := ⟨80, rfl⟩
theorem rdiv : 4 ∣ S4x80x128.size 0 := ⟨1, rfl⟩

/-- Task `w`'s rows of the row numbers, and chunk `k` of its rows of the result. -/
abbrev iSet (w : Fin 32) : Finset S512x80.Idx := (Rect.part (s := S512x80) (a₀ := 0) idiv w).set
abbrev oSet (w : Fin 32) (k : Fin 16) : Finset S40960x128.Idx :=
  (Rect.part (s := S40960x128) (a₀ := 0) odiv ⟨16 * w.val + k.val, by omega⟩).set
abbrev rSet (s : Fin 4) : Finset S4x80x128.Idx := (Rect.part (s := S4x80x128) (a₀ := 0) rdiv s).set

variable (L : grid1.Coords)

abbrev cV : Fin τ.nSC := (L 0).castLE hcore1
abbrev jV : Fin τ.nSub := (L 1).castLE hsub1
theorem c_lt : (L 0).val < 2 := (L 0).isLt
theorem s_lt : (L 1).val < 16 := (L 1).isLt

/-- The task's number: two tasks to a subcore's number, one per SparseCore. -/
abbrev wid : Fin 32 := ⟨2 * (L 1).val + (L 0).val, by have := c_lt L; have := s_lt L; omega⟩

/-! ## The references the task names -/

theorem inb_slot : ∀ (s : Fin 4) (a : Fin 3), (![s.val, 0, 0] : Fin 3 → Nat) a + S1x80x128.size a ≤ S4x80x128.size a := by decide
theorem inb_row : ∀ (k : Fin 16) (a : Fin 2), (![k.val, 0] : Fin 2 → Nat) a + S1x80.size a ≤ S16x80.size a := by decide

abbrev tabM : Memref sig .scVector .hbm S50000x128 .f32 :=
  (tV).slice (Rect.unit (s := S50000x128) ![0, 0] S50000x128.size inb_S50000x128_S50000x128_0_0) (fun _ => rfl)
abbrev partM : Memref sig .scVector .hbm S16x80 .i32 := (iV).slice (Rect.unit (s := S512x80) (k1_off1 L) S16x80.size (k1_off1_inb L)) (fun _ => rfl)
abbrev chunkM (k : Fin 16) : Memref sig .scVector .hbm S80x128 .f32 :=
  (oV).slice (Rect.unit (s := S40960x128) (k1_off2 L (BitVec.ofNat 32 (80 * k.val))) S80x128.size (k1_off2_inb L k)) (fun _ => rfl)
abbrev slotM (s : Fin 4) : Memref sig .scVector .vmem S80x128 .f32 :=
  ((rV).slice (Rect.unit (s := S4x80x128) ![s.val, 0, 0] S1x80x128.size (inb_slot s)) (fun _ => rfl)).squeeze S80x128 squeezes_S1x80x128_S80x128
abbrev rowM (k : Fin 16) : Memref sig .scVector .vmem S80 .i32 :=
  ((sV).slice (Rect.unit (s := S16x80) ![k.val, 0] S1x80.size (inb_row k)) (fun _ => rfl)).squeeze S80 squeezes_S1x80_S80

theorem set_partM : (partM L).view.set = iSet (wid L) := by
  show ((View.whole (main_v16_scv : Ref sig .scVector)).slice _).set = _
  rw [View.set_slice]
  refine Finset.map_refl.trans (congrArg (fun r : Rect _ => r.set) ?_)
  unfold Rect.part Rect.block
  congr 1 <;> funext a
  · rw [k1_off1_eq]
    match a with
    | 0 => simp [Shape.partIx, Shape.partSize]; omega
    | 1 => simp [Shape.partIx, Shape.partSize]
  · match a with
    | 0 => simp [Shape.partSize]
    | 1 => simp [Shape.partSize]

theorem set_chunkM (k : Fin 16) : (chunkM L k).view.set = oSet (wid L) k := by
  show ((View.whole (main_v17_scv : Ref sig .scVector)).slice _).set = _
  rw [View.set_slice]
  refine Finset.map_refl.trans (congrArg (fun r : Rect _ => r.set) ?_)
  unfold Rect.part Rect.block
  congr 1 <;> funext a
  · rw [k1_off2_eq]
    match a with
    | 0 => simp [Shape.partIx, Shape.partSize]; omega
    | 1 => simp [Shape.partIx, Shape.partSize]
  · match a with
    | 0 => simp [Shape.partSize]
    | 1 => simp [Shape.partSize]

theorem set_slotM (s : Fin 4) : (slotM s).view.set = rSet s := by
  show (((View.whole (cc1_scratch1 : Ref sig .scVector)).slice (Rect.unit (s := S4x80x128) ![s.val, 0, 0] S1x80x128.size (inb_slot s))).reshape S80x128 squeezes_S1x80x128_S80x128.numel_eq).set = _
  rw [View.set_reshape, View.set_slice]
  refine Finset.map_refl.trans (congrArg (fun r : Rect _ => r.set) ?_)
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-! ## The value -/

/-- The gathered rows: row `r` of the result is the row of the table whose number stands `r`-th in the list. -/
def gathered (t : S50000x128.Idx → Elt F .f32) (n : S512x80.Idx → Elt F .i32) : S40960x128.Idx → Elt F .f32 := fun j =>
  t (ix2 ⟨(n (ix2 ⟨(j 0).val / 80, by have := idx2_lt0 j; omega⟩ ⟨(j 0).val % 80, Nat.mod_lt _ (by decide)⟩)).toNat % 50000, Nat.mod_lt _ (by decide)⟩ (j 1))

/-- The list's scratch, after the fetch, holds the task's rows of the row numbers. -/
def Fetched (n : S512x80.Idx → Elt F .i32) (fo : S16x80.Idx → Elt F .i32) : Prop :=
  ∀ y : S16x80.Idx, fo y = n (ix2 ⟨16 * (wid L).val + (y 0).val, by have := (wid L).isLt; have := idx2_lt0 y; omega⟩ (y 1))

theorem emb_rowM (k : Fin 16) (x : S80.Idx) : (rowM k).view.emb x = ix2 k (x 0) := by
  show (Rect.unit (s := S16x80) ![k.val, 0] S1x80.size (inb_row k)).emb (Shape.reshapeEquiv squeezes_S1x80_S80.numel_eq x) = _
  rw [Shape.reshapeEquiv_eq_of_rowMajor (y := (ix2 (0 : Fin 1) (x 0) : S1x80.Idx)) _ (by
    rw [Shape.rowMajor_val_two, Shape.rowMajor_val_one]; simp)]
  funext a
  match a with
  | 0 => exact Fin.ext (by simp [Rect.emb_apply])
  | 1 => exact Fin.ext (by simp [Rect.emb_apply])

theorem read_rowM (k : Fin 16) (fo : S16x80.Idx → Elt F .i32) (x : S80.Idx) : (rowM k).view.read (Elt F) fo x = fo (ix2 k (x 0)) := by
  rw [View.read_apply, emb_rowM]; rfl

theorem emb_tabM (x : S50000x128.Idx) : tabM.view.emb x = x := by
  show (Rect.unit (s := S50000x128) ![0, 0] S50000x128.size inb_S50000x128_S50000x128_0_0).emb x = x
  funext a
  match a with
  | 0 => exact Fin.ext (by simp [Rect.emb_apply])
  | 1 => exact Fin.ext (by simp [Rect.emb_apply])

theorem emb_chunkM (k : Fin 16) (x : S80x128.Idx) :
    (chunkM L k).view.emb x = ix2 ⟨80 * (16 * (wid L).val + k.val) + (x 0).val, by have := (wid L).isLt; have := idx2_lt0 x; omega⟩ (x 1) := by
  show (Rect.unit (s := S40960x128) (k1_off2 L (BitVec.ofNat 32 (80 * k.val))) S80x128.size (k1_off2_inb L k)).emb x = _
  funext a
  match a with
  | 0 => exact Fin.ext (by simp [Rect.emb_apply, k1_off2_eq]; omega)
  | 1 => exact Fin.ext (by simp [Rect.emb_apply, k1_off2_eq])

theorem emb_partM (y : S16x80.Idx) :
    (partM L).view.emb y = ix2 ⟨16 * (wid L).val + (y 0).val, by have := (wid L).isLt; have := idx2_lt0 y; omega⟩ (y 1) := by
  show (Rect.unit (s := S512x80) (k1_off1 L) S16x80.size (k1_off1_inb L)).emb y = _
  funext a
  match a with
  | 0 => exact Fin.ext (by simp [Rect.emb_apply, k1_off1_eq]; omega)
  | 1 => exact Fin.ext (by simp [Rect.emb_apply, k1_off1_eq])

theorem Fetched.inb {n : S512x80.Idx → Elt F .i32} {fo : S16x80.Idx → Elt F .i32} (h : Fetched L n fo) (hn : ∀ j, (n j).toNat < 50000) (k : Fin 16) :
    ∀ x, ((rowM k).view.read (Elt F) fo x).toNat < S50000x128.size gathers_S50000x128_S80x128.axis := by
  intro x
  rw [read_rowM, h]; exact hn _

/-- Chunk `k`'s gather brings what the gathered rows have at the chunk. -/
theorem payload {t : S50000x128.Idx → Elt F .f32} {n : S512x80.Idx → Elt F .i32} {fo : S16x80.Idx → Elt F .i32} (h : Fetched L n fo)
    (hn : ∀ j, (n j).toNat < 50000) (k : Fin 16) :
    SparseCore.gatherPayload gathers_S50000x128_S80x128 (tabM.view.read (Elt F) t)
        (SparseCore.rows ((rowM k).view.read (Elt F) fo) rfl (h.inb L hn k))
      = (chunkM L k).view.read (Elt F) (gathered t n) := by
  funext x
  rw [View.read_apply, emb_chunkM]
  show t (tabM.view.emb _) = t _
  rw [emb_tabM]
  refine congrArg t ?_
  funext a
  match a with
  | 0 =>
    refine Fin.ext ((congrArg Fin.val (Shape.Gathers.idx_axis gathers_S50000x128_S80x128 _ x)).trans ?_)
    show ((rowM k).view.read (Elt F) fo _).toNat = _ % 50000
    rw [read_rowM, h, Nat.mod_eq_of_lt (hn _)]
    refine congrArg (fun j => (n j).toNat) ?_
    have hx : ((S80.rowMajor.symm ((x 0).cast rfl)) 0).val = (x 0).val := by
      have := Shape.rowMajor_val_one (S80.rowMajor.symm ((x 0).cast rfl))
      rw [Equiv.apply_symm_apply] at this
      exact this.symm
    have hx0 := idx2_lt0 x
    funext a
    match a with
    | 0 => exact Fin.ext (by show 16 * _ + k.val = (80 * (16 * _ + k.val) + (x 0).val) / 80; omega)
    | 1 => exact Fin.ext (by show _ = (80 * (16 * _ + k.val) + (x 0).val) % 80; refine hx.trans ?_; omega)
  | 1 => rfl

/-! ## The task -/

abbrev credit : ℕ := (slotM 0).view.dmaCredit

theorem slot_wait (s : Fin 4) : (slotM s).view.dmaCredit = credit := by
  match s with
  | 0 => decide
  | 1 => decide
  | 2 => decide
  | 3 => decide
theorem slot_credit (s : Fin 4) : ∀ h : S50000x128.Gathers 0 S80x128,
    ∑ j, ((slotM s).slice (S80x128.rowRect h.axis' j) (S80x128.stride_rowRect h.axis' j)).view.dmaCredit = credit := by
  match s with
  | 0 => decide
  | 1 => decide
  | 2 => decide
  | 3 => decide
theorem slot_pos (s : Fin 4) : 0 < (slotM s).view.dmaCredit := by
  rw [slot_wait]; decide
theorem chunk_pos (k : Fin 16) : 0 < (chunkM L k).view.dmaCredit := View.dmaCredit_pos _ (by decide)

/-- The tile's counters: its four slots' and then the list's and the chunks' copies'. -/
abbrev gsem (s : Fin 4) : DmaSem sig := ![cc1_scratch2.sem, cc1_scratch3.sem, cc1_scratch4.sem, cc1_scratch5.sem] s
abbrev csem (k : Fin 16) : DmaSem sig :=
  ![cc1_scoped1.sem, cc1_scoped2.sem, cc1_scoped3.sem, cc1_scoped4.sem, cc1_scoped5.sem, cc1_scoped6.sem, cc1_scoped7.sem, cc1_scoped8.sem, cc1_scoped9.sem, cc1_scoped10.sem, cc1_scoped11.sem, cc1_scoped12.sem, cc1_scoped13.sem, cc1_scoped14.sem, cc1_scoped15.sem, cc1_scoped16.sem] k
abbrev sems : Fin 21 → DmaSem sig := Fin.cons cc1_scoped0.sem (Fin.append gsem csem)

theorem sems_inj : Function.Injective sems := by decide
theorem sems_scoped : ∀ k, (SemLoc.dma (sems k) : SemLoc sig).isScoped .scVector = true := by decide

section Task

variable [FloatOps F] (d : Dev nD)

/-- The counters apart: the list's fetch's, the slots', the chunks' copies', and the rest of the tile's. -/
theorem sems_open :
    (ownSems0 (V d (cV L) (jV L)) : sProp 𝕄)
      = iprop((semVal (V d (cV L) (jV L), .dma cc1_scoped0.sem) 0
          ∗ (bigSep Finset.univ fun s => semVal (V d (cV L) (jV L), .dma (gsem s)) 0)
          ∗ (bigSep Finset.univ fun k => semVal (V d (cV L) (jV L), .dma (csem k)) 0))
          ∗ bigSep (ownCells (V d (cV L) (jV L)) \ Finset.univ.image fun k => ((V d (cV L) (jV L), .dma (sems k)) : GSem nD τ sig)) fun g => semVal g 0) := by
  rw [ownSems0_family sems sems_inj sems_scoped]
  congr 1
  rw [bigSep_univ_equiv ((finSumFinEquiv (m := 1) (n := 20)).symm.symm) _, bigSep_univ_sum, bigSep_univ_of_subsingleton (0 : Fin 1),
    bigSep_univ_equiv (finSumFinEquiv (m := 4) (n := 16)) _, bigSep_univ_sum]
  rfl

/-- The chunks and their copies' counters, paired. -/
theorem todo_pair (g : Buf (Elt F) (oLoc d)) :
    iprop((bigSep Finset.univ fun k => (oLoc d ↦[oSet (wid L) k]{fullShare} g)) ∗ (bigSep Finset.univ fun k => semVal (V d (cV L) (jV L), .dma (csem k)) 0) : sProp 𝕄)
      = bigSep Finset.univ fun k : Fin 16 => Todo (c := cV L) (i := jV L) (d := d) (chunkM L k) (csem k) g := by
  rw [← bigSep_sep']
  refine bigSep_congr fun k _ => ?_
  unfold Todo
  rw [set_chunkM]

/-- The row scratch is its four slots. -/
theorem slots_split (f : Buf (Elt F) ((V d (cV L) (jV L)).loc cc1_scratch1)) :
    ((V d (cV L) (jV L)).loc cc1_scratch1 ↦{fullShare} f : sProp 𝕄)
      = bigSep Finset.univ fun s : Fin 4 => (V d (cV L) (jV L)).loc cc1_scratch1 ↦[rSet s]{fullShare} f := by
  rw [← pointsTo_biUnion Finset.univ _ fun s _ s' _ h => Rect.part_disjoint rdiv h, Rect.biUnion_part rdiv]

/-- Shares of the table and of the fetched list, the slots and their counters: four slots free for a gather. -/
theorem ready_slots (q : PosShare TreeShare) (t : Buf (Elt F) (tLoc d)) (fo : Buf (Elt F) ((V d (cV L) (jV L)).loc cc1_scratch0)) :
    iprop((tLoc d ↦{q} t) ∗ ((V d (cV L) (jV L)).loc cc1_scratch0 ↦{fullShare} fo)
        ∗ (bigSep Finset.univ fun s : Fin 4 => iprop(∃ f, (V d (cV L) (jV L)).loc cc1_scratch1 ↦[rSet s]{fullShare} f))
        ∗ (bigSep Finset.univ fun s => semVal (V d (cV L) (jV L), .dma (gsem s)) 0) : sProp 𝕄)
      = bigSep Finset.univ fun s : Fin 4 => Ready (c := cV L) (i := jV L) (d := d) tabM (slotM s) (rowM 0) (gsem s)
          (pieceOf q 4 (by decide) s) (pieceOf fullShare 4 (by decide) s) t fo := by
  rw [pointsTo_piecesOf (o := 4) Finset.univ t (by decide) q, pointsTo_piecesOf (o := 4) Finset.univ fo (by decide) fullShare,
    ← bigSep_sep', ← bigSep_sep', ← bigSep_sep']
  refine bigSep_congr fun s _ => ?_
  unfold Ready
  rw [set_slotM]
  exact sep_third

/-- What the task is given of the arrays: its rows of the row numbers, a share of the table, its chunks of the result. -/
def held (t : Buf (Elt F) (tLoc d)) (n : Buf (Elt F) (iLoc d)) (g : Buf (Elt F) (oLoc d)) : sProp 𝕄 :=
  iprop((iLoc d ↦[iSet (wid L)]{fullShare} n) ∗ (tLoc d ↦{pieceOf fullShare 32 (by decide) (wid L)} t)
    ∗ bigSep Finset.univ fun k : Fin 16 => (oLoc d ↦[oSet (wid L) k]{fullShare} g))

/-- What slot `s` in flight for chunk `k` will have brought. -/
abbrev landed (q : PosShare TreeShare) (t : Buf (Elt F) (tLoc d)) (n : Buf (Elt F) (iLoc d)) (fo : Buf (Elt F) ((V d (cV L) (jV L)).loc cc1_scratch0))
    (s : Fin 4) (k : Fin 16) : sProp 𝕄 :=
  Landed (c := cV L) (i := jV L) (d := d) tabM (slotM s) (rowM 0) (pieceOf q 4 (by decide) s) (pieceOf fullShare 4 (by decide) s) t fo
    ((chunkM L k).view.read (Elt F) (gathered t n))
abbrev ready (q : PosShare TreeShare) (t : Buf (Elt F) (tLoc d)) (fo : Buf (Elt F) ((V d (cV L) (jV L)).loc cc1_scratch0)) (s : Fin 4) : sProp 𝕄 :=
  Ready (c := cV L) (i := jV L) (d := d) tabM (slotM s) (rowM 0) (gsem s) (pieceOf q 4 (by decide) s) (pieceOf fullShare 4 (by decide) s) t fo

variable {d L} in
/-- Chunk `k`'s gather into slot `s` is issued. -/
theorem issue {q : PosShare TreeShare} {t : Buf (Elt F) (tLoc d)} {n : Buf (Elt F) (iLoc d)} {fo : Buf (Elt F) ((V d (cV L) (jV L)).loc cc1_scratch0)}
    (hfo : Fetched L n fo) (hn : ∀ j : S512x80.Idx, (n j).toNat < 50000) (s : Fin 4) (k : Fin 16) {Q : PUnit → sProp 𝕄}
    {hp : (V d (cV L) (jV L)).2.kind = .scVector} {hsrc : tabM.view.WordExact} {he : EltTy.f32.bits = 32} {hsp : Space.hbm = .hbm ∨ Space.hbm = .shared}
    {hr : S50000x128.StreamRows 0} :
    ready L d q t fo s
      ⊢ iprop((Transfers.Flight countersEmb (V d (cV L) (jV L)) (.dma (gsem s)) (default : HIx 2) credit (landed L d q t n fo s k) -∗ Q ⟨⟩)
          -∗ wp frame (wpE (defs₀ (F := F)) 𝒱₀ (V d (cV L) (jV L)) none) Set.univ
            (SparseCore.enqueueIndirectGather hp tabM (slotM s) gathers_S50000x128_S80x128 (rowM k) rfl (gsem s) hsrc he hsp hr) Q) :=
  wp_issue (F := F) (src := tabM) (dst := slotM s) (offs := rowM k) credit (slot_credit s _) (by decide) (hfo.inb L hn k) _ (payload L hfo hn k)

variable {d L} in
/-- Chunk `k`'s turn: its gather is waited for and copied out. -/
theorem turn {q : PosShare TreeShare} {t : Buf (Elt F) (tLoc d)} {n : Buf (Elt F) (iLoc d)} {fo : Buf (Elt F) ((V d (cV L) (jV L)).loc cc1_scratch0)}
    {O : CellTallies nD τ sig (HIx 2)} {W : Waits sig (HIx 2)} (hO : ∀ g, O g none = 0) (g : Buf (Elt F) (oLoc d)) (s : Fin 4) (k : Fin 16) {Q : PUnit → sProp 𝕄}
    {hw₁ : tabM.view.WordExact} {hw₂ : (slotM s).view.WordExact} {h₁ : (slotM s).view.WordExact} {h₂ : (chunkM L k).view.WordExact}
    {h₃ : DmaTarget.Typed (nD := nD) .vmem (.dma (csem k)) (DmaTarget.here (p := (V d (cV L) (jV L)).2) (chunkM L k))} {h₄ : (slotM s).view.WordExact} {h₅ : (chunkM L k).view.WordExact} :
    iprop(levAts (K (F := F)).L (K (F := F)).lev
        ∗ Transfers.Flight countersEmb (V d (cV L) (jV L)) (.dma (gsem s)) (default : HIx 2) credit (landed L d q t n fo s k)
        ∗ Todo (c := cV L) (i := jV L) (d := d) (chunkM L k) (csem k) g ∗ Owing (V d (cV L) (jV L)) O W)
      ⊢ iprop((iprop(ready L d q t fo s ∗ Todo (c := cV L) (i := jV L) (d := d) (chunkM L k) (csem k) (gathered t n) ∗ Owing (V d (cV L) (jV L)) O W) -∗ Q ⟨⟩)
          -∗ wp frame (wpE (defs₀ (F := F)) 𝒱₀ (V d (cV L) (jV L)) none) Set.univ (SparseCore.waitIndirectGather (gsem s) tabM (slotM s) hw₁ hw₂) fun _ =>
            wp frame (wpE (defs₀ (F := F)) 𝒱₀ (V d (cV L) (jV L)) none) Set.univ (Prog.lift (.enqueueDma (slotM s) (DmaTarget.here (p := (V d (cV L) (jV L)).2) (chunkM L k)) (.dma (csem k)) h₁ h₂ h₃)) fun _ =>
            wp frame (wpE (defs₀ (F := F)) 𝒱₀ (V d (cV L) (jV L)) none) Set.univ (Prog.lift (.waitDma2 (csem k) (slotM s) (chunkM L k) h₄ h₅)) Q) :=
  wp_turn (F := F) (c := cV L) (i := jV L) (d := d) (W := W) hO (src := tabM) (dst := slotM s) (offs := rowM 0) (sem := gsem s) (sc := csem k) (fs := t) (fo := fo)
    (p := (chunkM L k).view.read (Elt F) (gathered t n)) (N := credit) (slot_wait s) (slot_pos s) (srcw := tabM) (chunk := chunkM L k) (chunk_pos L k) g (gathered t n) rfl

set_option maxHeartbeats 4000000 in
set_option maxRecDepth 16384 in
/-- The task on vector subcore `(L 0, L 1)` of device `d`: it fetches its rows of the row numbers, gathers chunk by chunk through the
    four slots, and leaves its chunks of the result at the gathered rows. -/
theorem tile_body (hF : (K (F := F)).Facts) (t : Buf (Elt F) (tLoc d)) (n : Buf (Elt F) (iLoc d)) (g : Buf (Elt F) (oLoc d))
    (hn : ∀ j : S512x80.Idx, (n j).toNat < 50000) (O : CellTallies nD τ sig (HIx 2)) (W : Waits sig (HIx 2)) (hO : ∀ g, O g none = 0) :
    iprop(levAts (K (F := F)).L (K (F := F)).lev ∗ emp ∗ held L d t n g
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_k L tV (Memref.isWhole_whole _) iV (Memref.isWhole_whole _) oV (Memref.isWhole_whole _)
            sV (Memref.isWhole_whole _) rV (Memref.isWhole_whole _) cc1_scratch2 cc1_scratch3 cc1_scratch4 cc1_scratch5
            cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16)
          fun _ => iprop(held L d t n (gathered t n)
            ∗ scopedBufs (V d (cV L) (jV L)) ∗ scopedSems0 (V d (cV L) (jV L))
            ∗ Owing (V d (cV L) (jV L)) O W) := by
  simp only [cc1_gather_k_eq_skeleton]; unfold cc1_gather_k_skel
  simp only [k1_part15_eq_skeleton]; unfold k1_part15_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel
  simp only [bind_assoc, pure_bind]
  rw [(K (F := F)).scopedBufs_V hF d (cV L) (jV L), SparseCore.Cfg.scopedSems0_V (Val := Elt F) d (cV L) (jV L), sems_open,
    ownBufs_pair (c := cV L) (i := jV L) (d := d) cc1_scratch0 cc1_scratch1 (by decide) rfl rfl]
  unfold held
  iintro ⟨#Hlv, -, ⟨Hi, Ht, Ho⟩, ⟨⟨%fs, Hs⟩, ⟨%fr, Hr⟩, Hbufs⟩, ⟨⟨HsA, HsG, HsC⟩, Hsems⟩, HO⟩
  ihave HO := Owing.start $$ HO
  -- the list's fetch
  simp only [wp_bind, wp_pure]
  ihave Hi := (Entails.of_eq (show (iLoc d ↦[iSet (wid L)]{fullShare} n : sProp 𝕄)
      = ((partM L).view.loc (V d (cV L) (jV L)) ↦[(partM L).view.set]{fullShare} n) by rw [set_partM])) $$ Hi
  iapply (Transfers.wp_dmaLocal countersEmb 𝒱₀ (V d (cV L) (jV L)) none (default : HIx 2) (src := partM L) (dst := sV) (sV).view.dmaCredit rfl
    (View.dmaCredit_pos _ (by decide)) (Finset.subset_univ _)) $$ [Hi Hs HsA]
  · isplitl [Hi]; · iexact Hi
    isplitl [Hs]; · iexact Hs
    iexact HsA
  iintro Hfl
  rw [wp_ret]
  imodintro
  iapply (wp_await hO rfl) $$ [Hfl HO]
  · isplitr; · iexact Hlv
    isplitl [Hfl]; · iexact Hfl
    iexact HO
  iintro ⟨⟨Hs, Hi⟩, HsA, HO⟩
  generalize hfo' : View.write (Elt F) (sV).view fs _ Finset.univ = fo
  have hfo : Fetched L n fo := by
    subst hfo'
    intro y
    rw [View.write_whole_univ, ReadAs.apply_same, View.read_apply, emb_partM]; rfl
  -- the slots and the chunks
  ihave Hr := (show ((V d (cV L) (jV L)).loc cc1_scratch1 ↦{fullShare} fr : sProp 𝕄)
      ⊢ bigSep Finset.univ fun s : Fin 4 => iprop(∃ f, (V d (cV L) (jV L)).loc cc1_scratch1 ↦[rSet s]{fullShare} f) from
    (Entails.of_eq (slots_split L d fr)).trans (bigSep_mono fun s _ => exists_intro (Φ := fun f => iprop((V d (cV L) (jV L)).loc cc1_scratch1 ↦[rSet s]{fullShare} f)) fr)) $$ Hr
  ihave HR := (Entails.of_eq ((ready_slots L d _ t fo).trans (bigSep_four _))) $$ [Ht Hs Hr HsG]
  · isplitl [Ht]; · iexact Ht
    isplitl [Hs]; · iexact Hs
    isplitl [Hr]; · iexact Hr
    iexact HsG
  icases HR with ⟨HR0, HR1, HR2, HR3⟩
  ihave HC := (Entails.of_eq ((todo_pair L d g).trans (bigSep_sixteen _))) $$ [Ho HsC]
  · isplitl [Ho]; · iexact Ho
    iexact HsC
  icases HC with ⟨HC0, HC1, HC2, HC3, HC4, HC5, HC6, HC7, HC8, HC9, HC10, HC11, HC12, HC13, HC14, HC15⟩
  iapply (issue hfo hn 0 0) $$ HR0
  iintro HF0
  iapply (issue hfo hn 1 1) $$ HR1
  iintro HF1
  iapply (issue hfo hn 2 2) $$ HR2
  iintro HF2
  iapply (issue hfo hn 3 3) $$ HR3
  iintro HF3
  iapply (turn hO g 0 0) $$ [HF0 HC0 HO]
  · isplitr; · iexact Hlv
    isplitl [HF0]; · iexact HF0
    isplitl [HC0]; · iexact HC0
    iexact HO
  iintro ⟨HR0, HC0, HO⟩
  iapply (issue hfo hn 0 4) $$ HR0
  iintro HF0
  iapply (turn hO g 1 1) $$ [HF1 HC1 HO]
  · isplitr; · iexact Hlv
    isplitl [HF1]; · iexact HF1
    isplitl [HC1]; · iexact HC1
    iexact HO
  iintro ⟨HR1, HC1, HO⟩
  iapply (issue hfo hn 1 5) $$ HR1
  iintro HF1
  iapply (turn hO g 2 2) $$ [HF2 HC2 HO]
  · isplitr; · iexact Hlv
    isplitl [HF2]; · iexact HF2
    isplitl [HC2]; · iexact HC2
    iexact HO
  iintro ⟨HR2, HC2, HO⟩
  iapply (issue hfo hn 2 6) $$ HR2
  iintro HF2
  iapply (turn hO g 3 3) $$ [HF3 HC3 HO]
  · isplitr; · iexact Hlv
    isplitl [HF3]; · iexact HF3
    isplitl [HC3]; · iexact HC3
    iexact HO
  iintro ⟨HR3, HC3, HO⟩
  iapply (issue hfo hn 3 7) $$ HR3
  iintro HF3
  iapply (turn hO g 0 4) $$ [HF0 HC4 HO]
  · isplitr; · iexact Hlv
    isplitl [HF0]; · iexact HF0
    isplitl [HC4]; · iexact HC4
    iexact HO
  iintro ⟨HR0, HC4, HO⟩
  iapply (issue hfo hn 0 8) $$ HR0
  iintro HF0
  iapply (turn hO g 1 5) $$ [HF1 HC5 HO]
  · isplitr; · iexact Hlv
    isplitl [HF1]; · iexact HF1
    isplitl [HC5]; · iexact HC5
    iexact HO
  iintro ⟨HR1, HC5, HO⟩
  iapply (issue hfo hn 1 9) $$ HR1
  iintro HF1
  iapply (turn hO g 2 6) $$ [HF2 HC6 HO]
  · isplitr; · iexact Hlv
    isplitl [HF2]; · iexact HF2
    isplitl [HC6]; · iexact HC6
    iexact HO
  iintro ⟨HR2, HC6, HO⟩
  iapply (issue hfo hn 2 10) $$ HR2
  iintro HF2
  iapply (turn hO g 3 7) $$ [HF3 HC7 HO]
  · isplitr; · iexact Hlv
    isplitl [HF3]; · iexact HF3
    isplitl [HC7]; · iexact HC7
    iexact HO
  iintro ⟨HR3, HC7, HO⟩
  iapply (issue hfo hn 3 11) $$ HR3
  iintro HF3
  iapply (turn hO g 0 8) $$ [HF0 HC8 HO]
  · isplitr; · iexact Hlv
    isplitl [HF0]; · iexact HF0
    isplitl [HC8]; · iexact HC8
    iexact HO
  iintro ⟨HR0, HC8, HO⟩
  iapply (issue hfo hn 0 12) $$ HR0
  iintro HF0
  iapply (turn hO g 1 9) $$ [HF1 HC9 HO]
  · isplitr; · iexact Hlv
    isplitl [HF1]; · iexact HF1
    isplitl [HC9]; · iexact HC9
    iexact HO
  iintro ⟨HR1, HC9, HO⟩
  iapply (issue hfo hn 1 13) $$ HR1
  iintro HF1
  iapply (turn hO g 2 10) $$ [HF2 HC10 HO]
  · isplitr; · iexact Hlv
    isplitl [HF2]; · iexact HF2
    isplitl [HC10]; · iexact HC10
    iexact HO
  iintro ⟨HR2, HC10, HO⟩
  iapply (issue hfo hn 2 14) $$ HR2
  iintro HF2
  iapply (turn hO g 3 11) $$ [HF3 HC11 HO]
  · isplitr; · iexact Hlv
    isplitl [HF3]; · iexact HF3
    isplitl [HC11]; · iexact HC11
    iexact HO
  iintro ⟨HR3, HC11, HO⟩
  iapply (issue hfo hn 3 15) $$ HR3
  iintro HF3
  iapply (turn hO g 0 12) $$ [HF0 HC12 HO]
  · isplitr; · iexact Hlv
    isplitl [HF0]; · iexact HF0
    isplitl [HC12]; · iexact HC12
    iexact HO
  iintro ⟨HR0, HC12, HO⟩
  iapply (turn hO g 1 13) $$ [HF1 HC13 HO]
  · isplitr; · iexact Hlv
    isplitl [HF1]; · iexact HF1
    isplitl [HC13]; · iexact HC13
    iexact HO
  iintro ⟨HR1, HC13, HO⟩
  iapply (turn hO g 2 14) $$ [HF2 HC14 HO]
  · isplitr; · iexact Hlv
    isplitl [HF2]; · iexact HF2
    isplitl [HC14]; · iexact HC14
    iexact HO
  iintro ⟨HR2, HC14, HO⟩
  iapply (turn hO g 3 15) $$ [HF3 HC15 HO]
  · isplitr; · iexact Hlv
    isplitl [HF3]; · iexact HF3
    isplitl [HC15]; · iexact HC15
    iexact HO
  iintro ⟨HR3, HC15, HO⟩
  imodintro
  -- everything back
  ihave HR := (Entails.of_eq ((ready_slots L d _ t fo).trans (bigSep_four _)).symm) $$ [HR0 HR1 HR2 HR3]
  · isplitl [HR0]; · iexact HR0
    isplitl [HR1]; · iexact HR1
    isplitl [HR2]; · iexact HR2
    iexact HR3
  icases HR with ⟨Ht, Hs, Hr, HsG⟩
  ihave HC := (Entails.of_eq ((todo_pair L d (gathered t n)).trans (bigSep_sixteen _)).symm) $$ [HC0 HC1 HC2 HC3 HC4 HC5 HC6 HC7 HC8 HC9 HC10 HC11 HC12 HC13 HC14 HC15]
  · isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    isplitl [HC7]; · iexact HC7
    isplitl [HC8]; · iexact HC8
    isplitl [HC9]; · iexact HC9
    isplitl [HC10]; · iexact HC10
    isplitl [HC11]; · iexact HC11
    isplitl [HC12]; · iexact HC12
    isplitl [HC13]; · iexact HC13
    isplitl [HC14]; · iexact HC14
    iexact HC15
  icases HC with ⟨Ho, HsC⟩
  ihave Hr := (pointsTo_join (ℓ := (V d (cV L) (jV L)).loc cc1_scratch1) rSet fr (fun _ _ h => Rect.part_disjoint rdiv h) (Rect.biUnion_part rdiv)) $$ Hr
  isplitl [Hi Ht Ho]
  · isplitl [Hi]
    · iapply (Entails.of_eq (show (iLoc d ↦[iSet (wid L)]{fullShare} n : sProp 𝕄)
        = ((partM L).view.loc (V d (cV L) (jV L)) ↦[(partM L).view.set]{fullShare} n) by rw [set_partM]).symm)
      iexact Hi
    isplitl [Ht]; · iexact Ht
    iexact Ho
  isplitl [Hs Hr Hbufs]
  · isplitl [Hs]; · iexists _; iexact Hs
    isplitl [Hr]; · iexact Hr
    iexact Hbufs
  isplitl [HsA HsG HsC Hsems]
  · isplitl [HsA HsG HsC]
    · isplitl [HsA]; · iexact HsA
      isplitl [HsG]; · iexact HsG
      iexact HsC
    iexact Hsems
  iexact HO

end Task

end Cert.Proof.Tile1

end
-- ==== Proof.Split.lean ====
/-
  Each gather's three arrays, held whole on the TensorCore, are the parts its 32 tasks are given: the table in 32 shares, the row
  numbers in 32 parts, the result in the tasks' chunks.
-/
module

public import proofs.«01_k».proof.Proof.Tile0
public import proofs.«01_k».proof.Proof.Tile1

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- A conjunction over `m * n` indices, as `m` conjunctions over `n`. -/
theorem bigSep_mul {m n : ℕ} (Φ : Fin (m * n) → sProp 𝕄) :
    bigSep Finset.univ Φ = bigSep Finset.univ fun w : Fin m => bigSep Finset.univ fun k : Fin n => Φ (finProdFinEquiv (w, k)) := by
  rw [bigSep_univ_equiv finProdFinEquiv Φ, bigSep_univ_prod]

/-- A conjunction over the 32 tasks, by SparseCore and subcore: task `2 s + c` is subcore `s` of SparseCore `c`. -/
theorem bigSep_tasks (Φ : Fin 32 → sProp 𝕄) :
    bigSep Finset.univ Φ = bigSep Finset.univ fun c : Fin 2 => bigSep Finset.univ fun s : Fin 16 =>
      Φ ⟨2 * s.val + c.val, by have := c.isLt; have := s.isLt; omega⟩ := by
  rw [bigSep_univ_equiv ((Equiv.prodComm (Fin 2) (Fin 16)).trans (finProdFinEquiv : Fin 16 × Fin 2 ≃ Fin (16 * 2))) Φ, bigSep_univ_prod]
  refine bigSep_congr fun c _ => bigSep_congr fun s _ => congrArg Φ (Fin.ext ?_)
  show c.val + 2 * s.val = 2 * s.val + c.val
  omega

/-- The task's coordinates in the first gather's grid. -/
def L0 (c : Fin 2) (s : Fin 16) : grid0.Coords :=
  fun | 0 => c | 1 => s | ⟨_ + 2, h⟩ => absurd h (Nat.not_lt.2 (Nat.le_add_left _ _))
/-- The task's coordinates in the second gather's grid. -/
def L1 (c : Fin 2) (s : Fin 16) : grid1.Coords :=
  fun | 0 => c | 1 => s | ⟨_ + 2, h⟩ => absurd h (Nat.not_lt.2 (Nat.le_add_left _ _))

namespace Tile0

/-- The first gather's arrays are what its tasks are given. -/
theorem arrays_eq (d : Dev nD) (t : Buf (Elt F) (tLoc d)) (n : Buf (Elt F) (iLoc d)) (g : Buf (Elt F) (oLoc d)) :
    (bigSep Finset.univ fun c : Fin 2 => bigSep Finset.univ fun s : Fin 16 => held (L0 c s) d t n g : sProp 𝕄)
      = iprop((iLoc d ↦{fullShare} n) ∗ (tLoc d ↦{fullShare} t) ∗ (oLoc d ↦{fullShare} g)) := by
  have h1 : (iLoc d ↦{fullShare} n : sProp 𝕄) = bigSep Finset.univ fun w : Fin 32 => iLoc d ↦[iSet w]{fullShare} n := by
    rw [← pointsTo_biUnion Finset.univ (ℓ := iLoc d) iSet (fun i _ j _ h => Rect.part_disjoint idiv h), show Finset.univ.biUnion iSet = Finset.univ from Rect.biUnion_part idiv]; try rfl
  have h2 : (tLoc d ↦{fullShare} t : sProp 𝕄) = bigSep Finset.univ fun w : Fin 32 => tLoc d ↦{pieceOf fullShare 32 (by decide) w} t :=
    pointsTo_piecesOf Finset.univ t (by decide) fullShare
  have h3 : (oLoc d ↦{fullShare} g : sProp 𝕄) = bigSep Finset.univ fun w : Fin 32 => bigSep Finset.univ fun k : Fin 8 => oLoc d ↦[oSet w k]{fullShare} g := by
    have h : (oLoc d ↦{fullShare} g : sProp 𝕄)
        = bigSep Finset.univ fun j : Fin 256 => oLoc d ↦[(Rect.part (s := S4096x128) (a₀ := 0) odiv j).set]{fullShare} g := by
      rw [← pointsTo_biUnion Finset.univ (ℓ := oLoc d) (fun j : Fin 256 => (Rect.part (s := S4096x128) (a₀ := 0) odiv j).set)
        (fun i _ j _ h => Rect.part_disjoint odiv h), Rect.biUnion_part odiv]; try rfl
    rw [h, bigSep_mul (m := 32) (n := 8)]
    refine bigSep_congr fun w _ => bigSep_congr fun k _ => ?_
    rw [show (finProdFinEquiv (w, k) : Fin (32 * 8)) = ⟨8 * w.val + k.val, by have := w.isLt; have := k.isLt; omega⟩ from
      Fin.ext (show k.val + 8 * w.val = 8 * w.val + k.val by omega)]
  rw [h1, h2, h3, ← bigSep_sep', ← bigSep_sep', bigSep_tasks]
  rfl

end Tile0

namespace Tile1

/-- The second gather's arrays are what its tasks are given. -/
theorem arrays_eq (d : Dev nD) (t : Buf (Elt F) (tLoc d)) (n : Buf (Elt F) (iLoc d)) (g : Buf (Elt F) (oLoc d)) :
    (bigSep Finset.univ fun c : Fin 2 => bigSep Finset.univ fun s : Fin 16 => held (L1 c s) d t n g : sProp 𝕄)
      = iprop((iLoc d ↦{fullShare} n) ∗ (tLoc d ↦{fullShare} t) ∗ (oLoc d ↦{fullShare} g)) := by
  have h1 : (iLoc d ↦{fullShare} n : sProp 𝕄) = bigSep Finset.univ fun w : Fin 32 => iLoc d ↦[iSet w]{fullShare} n := by
    rw [← pointsTo_biUnion Finset.univ (ℓ := iLoc d) iSet (fun i _ j _ h => Rect.part_disjoint idiv h), show Finset.univ.biUnion iSet = Finset.univ from Rect.biUnion_part idiv]; try rfl
  have h2 : (tLoc d ↦{fullShare} t : sProp 𝕄) = bigSep Finset.univ fun w : Fin 32 => tLoc d ↦{pieceOf fullShare 32 (by decide) w} t :=
    pointsTo_piecesOf Finset.univ t (by decide) fullShare
  have h3 : (oLoc d ↦{fullShare} g : sProp 𝕄) = bigSep Finset.univ fun w : Fin 32 => bigSep Finset.univ fun k : Fin 16 => oLoc d ↦[oSet w k]{fullShare} g := by
    have h : (oLoc d ↦{fullShare} g : sProp 𝕄)
        = bigSep Finset.univ fun j : Fin 512 => oLoc d ↦[(Rect.part (s := S40960x128) (a₀ := 0) odiv j).set]{fullShare} g := by
      rw [← pointsTo_biUnion Finset.univ (ℓ := oLoc d) (fun j : Fin 512 => (Rect.part (s := S40960x128) (a₀ := 0) odiv j).set)
        (fun i _ j _ h => Rect.part_disjoint odiv h), Rect.biUnion_part odiv]; try rfl
    rw [h, bigSep_mul (m := 32) (n := 16)]
    refine bigSep_congr fun w _ => bigSep_congr fun k _ => ?_
    rw [show (finProdFinEquiv (w, k) : Fin (32 * 16)) = ⟨16 * w.val + k.val, by have := w.isLt; have := k.isLt; omega⟩ from
      Fin.ext (show k.val + 16 * w.val = 16 * w.val + k.val by omega)]
  rw [h1, h2, h3, ← bigSep_sep', ← bigSep_sep', bigSep_tasks]
  rfl

end Tile1

end Cert.Proof

end
-- ==== Proof.Blend.lean ====
/-
  The TensorCore call that blends: its body run once at a grid point, its proof data from any contents of the device's
  buffers, and the rule for the whole call as it stands in @main after the two SparseCore calls.
-/
module

public import proofs.«01_k».proof.Proof.Base
public import Idealize.ShloMosaic.Lib.Pipeline.FrameBody
public import Idealize.ShloMosaic.Lib.Pipeline.Frame

@[expose] public section

noncomputable section

namespace Cert.Proof.Blend

open Cert.Proof
open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 2) (Elt F) ℕ UU ℕ

/-! ## The body at one grid point -/

/-- What the body writes, from the weights, the indices, the fetched row pairs and the items' own rows of its block. -/
def blended (w : S1x512x10.Idx → Elt F .f32) (n : S1x512x10.Idx → Elt F .i32) (r : S512x1280.Idx → Elt F .f32)
    (e : S512x64.Idx → Elt F .f32) : S512x64.Idx → Elt F .f32 :=
  k2_pay1 (k2_pay12 (k2_pay2 w) (k2_pay3 n) (k2_pay4 r)
      (k2_pay8 (k2_pay2 w) (k2_pay3 n) (k2_pay4 r) (k2_pay5 w n r) (k2_pay6 n r) (k2_pay7 w)) (k2_pay9 (k2_pay4 r)) (k2_pay10 (k2_pay4 r)) (k2_pay11 (k2_pay3 n)))
    (k2_pay13 e) k2_pay14

/-- The unit rectangle at the origin over a whole shape names every element by its own index. -/
theorem emb_all {s : Shape} {off : Fin s.rank → ℕ} (inb : ∀ a, off a + s.size a ≤ s.size a) (h : ∀ a, off a = 0) (x : s.Idx) :
    (Rect.unit off s.size inb).emb x = x := by
  funext a; apply Fin.ext; simp [Rect.emb_apply, h a]

/-- A load through it reads the whole memref. -/
theorem readAt_all {κ : Kind} {sp : Space} {s : Shape} {e : EltTy} {off : Fin s.rank → ℕ} (M : Memref sig κ sp s e)
    (inb : ∀ a, off a + s.size a ≤ s.size a) (h : ∀ a, off a = 0) {f : M.view.ty.Contents (Elt F)} {X : s.Idx → Elt F e}
    (hf : View.read (Elt F) M.view f = X) : View.readAt (Elt F) M.view (Rect.unit off s.size inb).toLoadRect f = X := by
  funext x
  rw [← hf]
  exact congrArg (View.read (Elt F) M.view f) (emb_all inb h x)

/-- The body reads its four inputs and leaves `blended` of them in the result's staging buffer. -/
theorem body_run (c : Dev nD) (i : grid2.Coords)
    (M1 : Memref sig .tc .vmem S512x64 .f32) (h1 : M1.IsWhole) (M2 : Memref sig .tc .vmem S1x512x10 .f32) (h2 : M2.IsWhole)
    (M3 : Memref sig .tc .vmem S512x1280 .f32) (h3 : M3.IsWhole) (M4 : Memref sig .tc .vmem S1x512x10 .i32) (h4 : M4.IsWhole)
    (M5 : Memref sig .tc .vmem S512x64 .f32) (h5 : M5.IsWhole)
    (e : S512x64.Idx → Elt F .f32) (w : S1x512x10.Idx → Elt F .f32) (r : S512x1280.Idx → Elt F .f32) (n : S1x512x10.Idx → Elt F .i32)
    (g : S512x64.Idx → Elt F .f32) (E : Set ℕ) (Q : PUnit → sProp 𝕄) :
    iprop((owns (c : Thread nD τ) M1 fullShare e ∗ owns (c : Thread nD τ) M2 fullShare w ∗ owns (c : Thread nD τ) M3 fullShare r
          ∗ owns (c : Thread nD τ) M4 fullShare n ∗ owns (c : Thread nD τ) M5 fullShare g)
        ∗ ((owns (c : Thread nD τ) M1 fullShare e ∗ owns (c : Thread nD τ) M2 fullShare w ∗ owns (c : Thread nD τ) M3 fullShare r
          ∗ owns (c : Thread nD τ) M4 fullShare n ∗ owns (c : Thread nD τ) M5 fullShare (blended w n r e)) -∗ Q ⟨⟩))
      ⊢ wp frame (wpE (defs₀ (F := F)) Variants.none (c : Thread nD τ) none) E (cc2__blend_body i M1 h1 M2 h2 M3 h3 M4 h4 M5 h5) Q := by
  unfold owns
  iintro ⟨⟨⟨%f1, %hf1, H1⟩, ⟨%f2, %hf2, H2⟩, ⟨%f3, %hf3, H3⟩, ⟨%f4, %hf4, H4⟩, ⟨%f5, %hf5, H5⟩⟩, Hk⟩
  rw [cc2__blend_body_eq_skeleton]; unfold cc2__blend_body_skel
  rw [k2_part1_eq_skeleton, k2_part2_eq_skeleton, k2_part3_eq_skeleton]; unfold k2_part1_skel k2_part2_skel k2_part3_skel
  sl_exec!
  sl_step
  iapply Hk
  isplitl [H1]; · iexists f1; isplitr; (· ipureintro; exact hf1); iexact H1
  isplitl [H2]; · iexists f2; isplitr; (· ipureintro; exact hf2); iexact H2
  isplitl [H3]; · iexists f3; isplitr; (· ipureintro; exact hf3); iexact H3
  isplitl [H4]; · iexists f4; isplitr; (· ipureintro; exact hf4); iexact H4
  iexists _; isplitr; swap; (· iexact H5)
  ipureintro
  have l1 : View.readAt (Elt F) M1.view (Rect.unit ![0, 0] S512x64.size inb_S512x64_S512x64_0_0).toLoadRect f1 = e := readAt_all _ _ (by decide) hf1
  have l2 : View.readAt (Elt F) M2.view (Rect.unit ![0, 0, 0] S1x512x10.size inb_S1x512x10_S1x512x10_0_0_0).toLoadRect f2 = w := readAt_all _ _ (by decide) hf2
  have l3 : View.readAt (Elt F) M3.view (Rect.unit ![0, 0] S512x1280.size inb_S512x1280_S512x1280_0_0).toLoadRect f3 = r := readAt_all _ _ (by decide) hf3
  have l4 : View.readAt (Elt F) M4.view (Rect.unit ![0, 0, 0] S1x512x10.size inb_S1x512x10_S1x512x10_0_0_0).toLoadRect f4 = n := readAt_all _ _ (by decide) hf4
  unfold body_run.sl.H5_1
  rw [l1, l2, l3, l4]
  funext y
  have hy := View.read_writes_cons_emb M5.view M5.view.junk (Rect.unit ![0, 0] S512x64.size inb_S512x64_S512x64_0_0) (blended w n r e) [] y
  rw [show (Rect.unit ![0, 0] S512x64.size inb_S512x64_S512x64_0_0).emb y = y from emb_all _ (by decide) y] at hy
  exact hy

/-! ## The call's proof data, from any contents of the device's buffers -/

variable (V : (c : Dev nD) → (b : Ref sig .tc) → Buf (Elt F) ((c : Thread nD τ).loc b))

/-- Each input window's block at a grid point, read off its array: the items' own rows; -/
abbrev blk0 (c : Dev nD) (t : Fin cfg2.N) : S512x64.Idx → Elt F .f32 := ((cfg2.win 0).blk t).view.read (Elt F) (V c main_v12)
/-- the weights; -/
abbrev blk1 (c : Dev nD) (t : Fin cfg2.N) : S1x512x10.Idx → Elt F .f32 := ((cfg2.win 1).blk t).view.read (Elt F) (V c main_arg3)
/-- the neighbours' row pairs; -/
abbrev blk2 (c : Dev nD) (t : Fin cfg2.N) : S512x1280.Idx → Elt F .f32 := ((cfg2.win 2).blk t).view.read (Elt F) (V c main_v18)
/-- the neighbours' indices. -/
abbrev blk3 (c : Dev nD) (t : Fin cfg2.N) : S1x512x10.Idx → Elt F .i32 := ((cfg2.win 3).blk t).view.read (Elt F) (V c main_arg2)

/-- What the result's staging buffer holds after the body at a grid point. -/
abbrev outBlk (c : Dev nD) (t : Fin cfg2.N) : S512x64.Idx → Elt F .f32 := blended (blk1 V c t) (blk3 V c t) (blk2 V c t) (blk0 V c t)

/-- The waits recorded on the TensorCore sit at or below the level the two SparseCore calls leave them at. -/
def low (c : Dev nD) : Set (SemLoc sig × HIx 2) := {p | (K (F := F)).lev (SparseCore.T c, p.1) p.2 ≤ 16}

/-- The proof data: every array at its contents when the call is reached; after the body each input's staging buffer as
    fetched and the result's at `outBlk`; nothing owed. -/
def dat (c : Dev nD) : Dat τ (Elt F) (HIx 2) ℕ UU ℕ cfg2 c where
  A w := V c (Pipeline.arrRef spec2 w)
  after w t := match w with
    | ⟨0, _⟩ => blk0 V c t
    | ⟨1, _⟩ => blk1 V c t
    | ⟨2, _⟩ => blk2 V c t
    | ⟨3, _⟩ => blk3 V c t
    | ⟨4, _⟩ => outBlk V c t
  Φ _ := BI.emp
  q _ := fullShare
  owed _ := 0
  recorded _ := low (F := F) c

abbrev adm : (p : Fin 1) → (pcfgs (F := F) p).Adm := fun p => (cfgs p).toPCfg_adm

def pdats : (p : Fin 1) → (c : Dev nD) → Dat τ (Elt F) (HIx 2) ℕ UU ℕ (Pipeline.pin (pcfgs (F := F)) adm p) c
  | ⟨0, _⟩ => fun c => dat V c

theorem before0 (c : Dev nD) (t : Fin cfg2.N) (d) : (dat V c).before 0 t d = blk0 V c t := by
  unfold Dat.before; rw [if_pos (fetch2_0 t)]; rfl
theorem before1 (c : Dev nD) (t : Fin cfg2.N) (d) : (dat V c).before 1 t d = blk1 V c t := by
  unfold Dat.before; rw [if_pos (fetch2_1 t)]; rfl
theorem before2 (c : Dev nD) (t : Fin cfg2.N) (d) : (dat V c).before 2 t d = blk2 V c t := by
  unfold Dat.before; rw [if_pos (fetch2_2 t)]; rfl
theorem before3 (c : Dev nD) (t : Fin cfg2.N) (d) : (dat V c).before 3 t d = blk3 V c t := by
  unfold Dat.before; rw [if_pos (fetch2_3 t)]; rfl

/-- The body meets its obligation at every grid point. -/
theorem body_obligation (c : Dev nD) : BodyObligation (dat V c) (defs₀ (F := F)) Variants.none (none : HIx 2) Set.univ := fun t => by
  rw [bigSep_W2, bigSep_W2]
  rw [show (dat V c).owesAt (none : HIx 2) t.succ = (dat V c).owesAt (none : HIx 2) t.castSucc from rfl,
    show (dat V c).Φ t.succ = (dat V c).Φ t.castSucc from rfl]
  iintro ⟨HΦ, Howes, ⟨%d0, H0⟩, ⟨%d1, H1⟩, ⟨%d2, H2⟩, ⟨%d3, H3⟩, ⟨%d4, H4⟩⟩
  rw [before0, before1, before2, before3]
  iapply (body_run c (grid2.coords t) (win2_0.stage (cfg2.slots t 0)) (hstage2_0 ((cfg2.slots t 0).cast nbuf2_0))
    (win2_1.stage (cfg2.slots t 1)) (hstage2_1 ((cfg2.slots t 1).cast nbuf2_1)) (win2_2.stage (cfg2.slots t 2)) (hstage2_2 ((cfg2.slots t 2).cast nbuf2_2))
    (win2_3.stage (cfg2.slots t 3)) (hstage2_3 ((cfg2.slots t 3).cast nbuf2_3)) (win2_4.stage (cfg2.slots t 4)) (hstage2_4 ((cfg2.slots t 4).cast nbuf2_4))
    (blk0 V c t) (blk1 V c t) (blk2 V c t) (blk3 V c t) ((dat V c).before 4 t d4) Set.univ _)
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## The call in @main -/

/-- What the TensorCore owes between calls: nothing, its recorded waits low. -/
abbrev Idle (c : Dev nD) : sProp 𝕄 := iprop(∃ W, ⌜(K (F := F)).WBelow (SparseCore.T c) W 16⌝ ∗ owes (SparseCore.T c) (0 : CellTallies nD τ sig (HIx 2)) W)

/-- What the call leaves: its arrays at their final contents and every other buffer as it was. -/
abbrev Left (c : Dev nD) : sProp 𝕄 :=
  iprop((pdats V 0 c).arrays ((pdats V 0 c).arrAt · cfg2.N) ∗ Pipeline.unscopedRest (Ix := HIx 2) (Name := ℕ) (U := UU) (Lvl := ℕ) spec2 c (V c))

set_option backward.isDefEq.respectTransparency.types false in
/-- The call over the device's buffers: entered by taking its arrays out of them, left with the arrays at what the
    pipeline computes. -/
def reg : Pipeline.RegionSeg (pcfgs (F := F)) adm (pdats V) (none : HIx 2) defs₀ 𝒱₀ (K (F := F)).L (K (F := F)).lev 0 where
  win := launch2.win.to₀
  block_pos := launch2.block_pos
  stage_whole := launch2.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ Idle c)
  post c := iprop(Left V c ∗ Idle c)
  X _ := BI.emp
  Y _ := BI.emp
  Z c := Pipeline.unscopedRest (Ix := HIx 2) (Name := ℕ) (U := UU) (Lvl := ℕ) spec2 c (V c)
  hentry c := by
    rw [Pipeline.ownSems0_none]
    have hsplit := Pipeline.arrays_of_unscopedBufs (p := 0) (pcfgs (F := F)) adm (pdats V) launch2.win launch2.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = (BI.emp : sProp 𝕄) from rfl]
    iintro ⟨-, -, -⟩; iempintro
  hout c := by
    rw [Pipeline.ownSems0_none, show (pdats V 0 c).Φ (Fin.last _) = (BI.emp : sProp 𝕄) from rfl]
    iintro -
    isplitr; · iempintro
    isplitr; · iempintro
    iapply (Entails.of_eq (scopedRest2_eq c).symm); iempintro
  hexit c := by
    iintro ⟨Ha, HO, -, Hrest⟩
    imodintro
    isplitl [Ha Hrest]
    · isplitl [Ha] <;> iassumption
    unfold Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

/-- The call under the pipelines' own bodies. -/
abbrev entry0 : Prog (TpuEff nD τ sig (Elt F) (ΛP (F := F)) .tc) PUnit.{1} := .op (.customCall (Pipeline.entry 0) ()) fun _ => .ret ⟨⟩

/-- The pipeline's launch state on a device. -/
abbrev Ghost (c : Dev nD) : sProp 𝕄 :=
  iprop(Pipeline.cellsGhost (Pipeline.pin (pcfgs (F := F)) adm) EP 0 c ∗ Pipeline.toksInit (Pipeline.pin (pcfgs (F := F)) adm) EP 0 c)

set_option backward.isDefEq.respectTransparency.types false in
/-- The pipeline's region rule at this pipeline. -/
theorem wp_region [∀ e, Nonempty (Elt F e)] (c : Dev nD) (Q : PUnit.{1} → sProp 𝕄) :
    iprop(((boundary (SparseCore.T c) ∗ Left V c ∗ Idle c) -∗ wp frame (wpE (D (F := F)) 𝒱 (SparseCore.T c) none) Set.univ (.ret ⟨⟩) Q)
      ∗ boundary (SparseCore.T c) ∗ (unscopedBufs c (V c) ∗ Idle c) ∗ levAts (K (F := F)).L (K (F := F)).lev ∗ Ghost (F := F) c)
      ⊢ wp frame (wpE (D (F := F)) 𝒱 (SparseCore.T c) none) Set.univ (entry0 (F := F)) Q :=
  @Pipeline.RegionSeg.wp nD τ sig (Elt F) (HIx 2) _ ℕ _ UU _ ℕ Λ₀ (Fin 1) _ (pcfgs (F := F)) adm (pdats V) (none : HIx 2) cellOf_inj EP defs₀ 𝒱₀
    (K (F := F)).L (K (F := F)).lev _ _ _ _ 0 (reg V) c none (by intro u hu; cases hu) PUnit.{1} (fun _ => .ret ⟨⟩) Q

/-- The call under the pipelines' own bodies: from the boundary, the device's buffers, nothing owed, the level facts and the
    pipeline's launch state, it runs to its arrays' final contents. -/
theorem wp_entry [∀ e, Nonempty (Elt F e)] (c : Dev nD) (Q : PUnit.{1} → sProp 𝕄) :
    iprop((boundary (SparseCore.T c) ∗ unscopedBufs c (V c) ∗ Idle c) ∗ levAts (K (F := F)).L (K (F := F)).lev ∗ Ghost (F := F) c
        ∗ ((boundary (SparseCore.T c) ∗ Left V c ∗ Idle c) -∗ Q ⟨⟩))
      ⊢ wp frame (wpE (D (F := F)) 𝒱 (SparseCore.T c) none) Set.univ (entry0 (F := F)) Q := by
  refine BIBase.Entails.trans ?_ (wp_region V c Q)
  iintro ⟨⟨Hb, Hu, HO⟩, Hlev, ⟨Hg, Ht⟩, Hk⟩
  isplitl [Hk]
  · iintro ⟨Hb, Hl, HO⟩
    rw [wp_ret]
    imodintro
    iapply Hk
    isplitl [Hb]; · iexact Hb
    isplitl [Hl] <;> iassumption
  isplitl [Hb]; · iexact Hb
  isplitl [Hu HO]; · isplitl [Hu] <;> iassumption
  isplitl [Hlev]; · iexact Hlev
  isplitl [Hg] <;> iassumption

/-- The call as it stands in @main. -/
theorem wp_call [∀ e, Nonempty (Elt F e)] (c : Dev nD) (Q : PUnit.{1} → sProp 𝕄) :
    iprop((boundary (SparseCore.T c) ∗ unscopedBufs c (V c) ∗ Idle c) ∗ levAts (K (F := F)).L (K (F := F)).lev ∗ Ghost (F := F) c
        ∗ ((boundary (SparseCore.T c) ∗ Left V c ∗ Idle c) -∗ Q ⟨⟩))
      ⊢ wp frame (wpE ((K (F := F)).defs (D (F := F))) 𝒱 (SparseCore.T c) none) Set.univ
          (Prog.lift (.customCall (SparseCore.inner (Pipeline.entry 0)) ())) Q :=
  (wp_entry V c Q).trans ((K (F := F)).wp_liftProg (D (F := F)) 𝒱 (SparseCore.T c) Set.univ none (entry0 (F := F)) Q)

end Cert.Proof.Blend

end
-- ==== Proof.Host.lean ====
/-
  @main as its three stretches of host operations around the two gathers and the blend, and what the device's buffers hold
  after each of them.
-/
module

public import proofs.«01_k».proof.Proof.Split
public import proofs.«01_k».proof.Proof.Blend

@[expose] public section

noncomputable section

namespace Cert.Proof

open Cert.KernelIdeal Cert.KernelIdeal.Gen

open Idealize.ShloMosaic
open Idealize.ShloMosaic.TcCoe
open Idealize.ShloMosaic.StableHlo (seq after)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-! ## The stretches of host operations -/

/-- Up to the first gather: the table as pairs of rows, and the item numbers halved. -/
def ops1 : List (HloOp τ sig (Elt F)) :=
  [StableHlo.reshape main_arg1 main_v0 (rfl : (.f32 : EltTy) = .f32) shapeCasts_S100000x64_S50000x128,
    StableHlo.nullary main_c (constantI S_ 32 1#32),
    StableHlo.unary main_c main_v1 (broadcastInDim S4096 ![] bcast_S_S4096 : (⟨S_, .i32⟩ : BufTy).Contents (Elt F) → (⟨S4096, .i32⟩ : BufTy).Contents (Elt F)),
    StableHlo.binary main_arg0 main_v1 main_v2 (Host.shrsi : (⟨S4096, .i32⟩ : BufTy).Contents (Elt F) → (⟨S4096, .i32⟩ : BufTy).Contents (Elt F) → (⟨S4096, .i32⟩ : BufTy).Contents (Elt F)),
    StableHlo.reshape main_v2 main_v3 (rfl : (.i32 : EltTy) = .i32) shapeCasts_S4096_S256x16]

/-- Between the gathers: the half of each gathered pair by the item number's parity, and the neighbours' numbers halved. -/
def ops2 : List (HloOp τ sig (Elt F)) :=
  [StableHlo.nullary main_c_0 (constantI S_ 32 1#32),
    StableHlo.unary main_c_0 main_v5 (broadcastInDim S4096 ![] bcast_S_S4096 : (⟨S_, .i32⟩ : BufTy).Contents (Elt F) → (⟨S4096, .i32⟩ : BufTy).Contents (Elt F)),
    StableHlo.binary main_arg0 main_v5 main_v6 (andi : (⟨S4096, .i32⟩ : BufTy).Contents (Elt F) → (⟨S4096, .i32⟩ : BufTy).Contents (Elt F) → (⟨S4096, .i32⟩ : BufTy).Contents (Elt F)),
    StableHlo.unary main_v6 main_v7 (broadcastInDim S4096x1 ![0] bcast_S4096_S4096x1_0 : (⟨S4096, .i32⟩ : BufTy).Contents (Elt F) → (⟨S4096x1, .i32⟩ : BufTy).Contents (Elt F)),
    StableHlo.nullary main_c_1 (constantI S_ 32 1#32),
    StableHlo.unary main_c_1 main_v8 (broadcastInDim S4096x1 ![] bcast_S_S4096x1 : (⟨S_, .i32⟩ : BufTy).Contents (Elt F) → (⟨S4096x1, .i32⟩ : BufTy).Contents (Elt F)),
    StableHlo.binary main_v7 main_v8 main_v9 (cmpi .eq : (⟨S4096x1, .i32⟩ : BufTy).Contents (Elt F) → (⟨S4096x1, .i32⟩ : BufTy).Contents (Elt F) → (⟨S4096x1, .i1⟩ : BufTy).Contents (Elt F)),
    StableHlo.unary main_v4 main_v10 ((extractStridedSlice S4096x64 ![0, 64] · slices_S4096x128_S4096x64_0_64) : (⟨S4096x128, .f32⟩ : BufTy).Contents (Elt F) → (⟨S4096x64, .f32⟩ : BufTy).Contents (Elt F)),
    StableHlo.unary main_v4 main_v11 ((extractStridedSlice S4096x64 ![0, 0] · slices_S4096x128_S4096x64_0_0) : (⟨S4096x128, .f32⟩ : BufTy).Contents (Elt F) → (⟨S4096x64, .f32⟩ : BufTy).Contents (Elt F)),
    StableHlo.TRef.unary (.of main_v9 : StableHlo.TRef sig ⟨S4096x1, .i1⟩) main_call0.v0 (broadcastInDim S4096x64 ![0, 1] bcast_S4096x1_S4096x64_0_1),
    StableHlo.TRef.ternary main_call0.v0 (.of main_v10 : StableHlo.TRef sig ⟨S4096x64, .f32⟩) (.of main_v11 : StableHlo.TRef sig ⟨S4096x64, .f32⟩) main_call0.v1 select,
    StableHlo.reshape main_arg2 main_v13 (rfl : (.i32 : EltTy) = .i32) shapeCasts_S8x512x10_S40960,
    StableHlo.nullary main_c_2 (constantI S_ 32 1#32),
    StableHlo.unary main_c_2 main_v14 (broadcastInDim S40960 ![] bcast_S_S40960 : (⟨S_, .i32⟩ : BufTy).Contents (Elt F) → (⟨S40960, .i32⟩ : BufTy).Contents (Elt F)),
    StableHlo.binary main_v13 main_v14 main_v15 (Host.shrsi : (⟨S40960, .i32⟩ : BufTy).Contents (Elt F) → (⟨S40960, .i32⟩ : BufTy).Contents (Elt F) → (⟨S40960, .i32⟩ : BufTy).Contents (Elt F)),
    StableHlo.reshape main_v15 main_v16 (rfl : (.i32 : EltTy) = .i32) shapeCasts_S40960_S512x80]

/-- Up to the blend: an item's ten pairs of rows side by side. -/
def ops3 : List (HloOp τ sig (Elt F)) :=
  [StableHlo.reshape main_v17 main_v18 (rfl : (.f32 : EltTy) = .f32) shapeCasts_S40960x128_S4096x1280]

/-- @main is the three stretches, with a gather after each of the first two and the blend at the end. -/
theorem main_eq (d : Dev nD) : main (F := F) d
    = seq ops1 >>= fun _ => (K (F := F)).run d 0 >>= fun _ => seq ops2 >>= fun _ => (K (F := F)).run d 1 >>= fun _ => seq ops3 >>= fun _ =>
        (Prog.lift (.customCall (SparseCore.inner (Pipeline.entry 0)) ()) >>= fun _ => pure ⟨⟩) := by
  unfold main fn_where.body
  simp only [ops1, ops2, ops3, seq, bind_assoc, pure_bind]

/-! ## What the buffers hold -/

variable (m : (ℓ : Loc nD τ sig) → Buf (Elt F) ℓ) (d : Dev nD)

/-- The device's buffers at the first gather, -/
def V1 : Valuation τ sig (Elt F) := after ops1 fun b => m (d, b)
/-- after it, -/
def V2 : Valuation τ sig (Elt F) := Function.update (V1 m d) main_v4 (Tile0.gathered (V1 m d main_v0) (V1 m d main_v3))
/-- at the second gather, -/
def V3 : Valuation τ sig (Elt F) := after ops2 (V2 m d)
/-- after it, -/
def V4 : Valuation τ sig (Elt F) := Function.update (V3 m d) main_v17 (Tile1.gathered (V3 m d main_v0) (V3 m d main_v16))
/-- and at the blend. -/
def V5 : Valuation τ sig (Elt F) := after ops3 (V4 m d)

/-- Both gathers' row numbers name rows of the table. -/
def Ok : Prop := ∀ d : Dev nD, (∀ j : S256x16.Idx, (V1 m d main_v3 j).toNat < 50000) ∧ ∀ j : S512x80.Idx, (V3 m d main_v16 j).toNat < 50000

/-- The buffers the first stretch writes, -/
def written1 : List (Ref sig .tc) := [main_v0, main_c, main_v1, main_v2, main_v3]
/-- those the second writes, -/
def written2 : List (Ref sig .tc) :=
  [main_c_0, main_v5, main_v6, main_v7, main_c_1, main_v8, main_v9, main_v10, main_v11, main_call0_v0, main_v12, main_v13, main_c_2, main_v14, main_v15, main_v16]
/-- and those the third writes. -/
def written3 : List (Ref sig .tc) := [main_v18]

theorem ops1_writes : (ops1 (F := F)).Forall fun op => op.writes ⊆ (written1.map (Proc.devRef (τ := τ) .tc)).toFinset :=
  StableHlo.forall_writes_sub_of_map rfl
theorem ops2_writes : (ops2 (F := F)).Forall fun op => op.writes ⊆ (written2.map (Proc.devRef (τ := τ) .tc)).toFinset :=
  StableHlo.forall_writes_sub_of_map rfl
theorem ops3_writes : (ops3 (F := F)).Forall fun op => op.writes ⊆ (written3.map (Proc.devRef (τ := τ) .tc)).toFinset :=
  StableHlo.forall_writes_sub_of_map rfl

/-- A buffer that nothing writes holds at the blend what it held at launch. -/
theorem V5_of_not_written {r : Ref sig .tc} (hr : r ∉ written1 ∧ r ∉ written2 ∧ r ∉ written3 ∧ r ≠ main_v4 ∧ r ≠ main_v17) : V5 m d r = m (d, r) := by
  have h1 : V1 m d r = m (d, r) := StableHlo.after_of_writes_sub ops1 _ ops1_writes hr.1
  have h2 : V2 m d r = V1 m d r := Function.update_of_ne (StableHlo.devRef_ne_of_ne hr.2.2.2.1) _ _
  have h3 : V3 m d r = V2 m d r := StableHlo.after_of_writes_sub ops2 _ ops2_writes hr.2.1
  have h4 : V4 m d r = V3 m d r := Function.update_of_ne (StableHlo.devRef_ne_of_ne hr.2.2.2.2) _ _
  have h5 : V5 m d r = V4 m d r := StableHlo.after_of_writes_sub ops3 _ ops3_writes hr.2.2.1
  rw [h5, h4, h3, h2, h1]

theorem V5_arg0 : V5 m d main_arg0 = m (d, main_arg0) := V5_of_not_written m d (by decide)
theorem V5_arg1 : V5 m d main_arg1 = m (d, main_arg1) := V5_of_not_written m d (by decide)
theorem V5_arg2 : V5 m d main_arg2 = m (d, main_arg2) := V5_of_not_written m d (by decide)
theorem V5_arg3 : V5 m d main_arg3 = m (d, main_arg3) := V5_of_not_written m d (by decide)

/-! ## The stretches' side conditions -/

theorem ops1_sub : ∀ op ∈ (ops1 : List (HloOp τ sig (Elt F))), op.bufs ⊆ Pipeline.ucRefs τ sig := fun op h =>
  Pipeline.sub_ucRefs op (List.forall_iff_forall_mem.mp (show (ops1 (F := F)).Forall fun op => op.bufs ⊆ StableHlo.tcRefs τ sig from
    ⟨StableHlo.reshape_bufs_sub .., StableHlo.nullary_bufs_sub .., StableHlo.unary_bufs_sub .., StableHlo.binary_bufs_sub .., StableHlo.reshape_bufs_sub ..⟩) op h)
theorem ops2_sub : ∀ op ∈ (ops2 : List (HloOp τ sig (Elt F))), op.bufs ⊆ Pipeline.ucRefs τ sig := fun op h =>
  Pipeline.sub_ucRefs op (List.forall_iff_forall_mem.mp (show (ops2 (F := F)).Forall fun op => op.bufs ⊆ StableHlo.tcRefs τ sig from
    ⟨StableHlo.nullary_bufs_sub .., StableHlo.unary_bufs_sub .., StableHlo.binary_bufs_sub .., StableHlo.unary_bufs_sub .., StableHlo.nullary_bufs_sub ..,
      StableHlo.unary_bufs_sub .., StableHlo.binary_bufs_sub .., StableHlo.unary_bufs_sub .., StableHlo.unary_bufs_sub .., StableHlo.unary_bufs_sub ..,
      StableHlo.ternary_bufs_sub .., StableHlo.reshape_bufs_sub .., StableHlo.nullary_bufs_sub .., StableHlo.unary_bufs_sub .., StableHlo.binary_bufs_sub ..,
      StableHlo.reshape_bufs_sub ..⟩) op h)
theorem ops3_sub : ∀ op ∈ (ops3 : List (HloOp τ sig (Elt F))), op.bufs ⊆ Pipeline.ucRefs τ sig := fun op h =>
  Pipeline.sub_ucRefs op (List.forall_iff_forall_mem.mp (show (ops3 (F := F)).Forall fun op => op.bufs ⊆ StableHlo.tcRefs τ sig from
    StableHlo.reshape_bufs_sub ..) op h)
theorem ops1_fresh : ∀ op ∈ (ops1 : List (HloOp τ sig (Elt F))), op.fresh = ∅ := fun op h =>
  List.forall_iff_forall_mem.mp (StableHlo.forall_fresh_of_map (ops := ops1 (F := F)) rfl) op h
theorem ops2_fresh : ∀ op ∈ (ops2 : List (HloOp τ sig (Elt F))), op.fresh = ∅ := fun op h =>
  List.forall_iff_forall_mem.mp (StableHlo.forall_fresh_of_map (ops := ops2 (F := F)) rfl) op h
theorem ops3_fresh : ∀ op ∈ (ops3 : List (HloOp τ sig (Elt F))), op.fresh = ∅ := fun op h =>
  List.forall_iff_forall_mem.mp (StableHlo.forall_fresh_of_map (ops := ops3 (F := F)) rfl) op h

end Cert.Proof

end
-- ==== Proof.Run.lean ====
/-
  The program's run, at any float type: what each call hands its tasks and takes back, @main on the TensorCore, and the
  launch. Every run ends with the arguments as they were, the result at `out`, and every semaphore at zero.
-/
module

public import proofs.«01_k».proof.Proof.Host

@[expose] public section

noncomputable section

namespace Cert.Proof

open Cert.KernelIdeal Cert.KernelIdeal.Gen

open Idealize.ShloMosaic
open Idealize.ShloMosaic.TcCoe
open Idealize.ShloMosaic.StableHlo (seq after)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

variable (m : (ℓ : Loc nD τ sig) → Buf (Elt F) ℓ) (ρ : Dev nD → PrngReg)

/-! ## What the calls hand over -/

/-- What the task on subcore `s` of SparseCore `c` is given at each call, -/
def given (q : Fin 2) (d : Dev nD) (c : Fin 2) (s : Fin 16) : sProp 𝕄 := match q with
  | 0 => Tile0.held (L0 c s) d (V1 m d main_v0) (V1 m d main_v3) (V1 m d main_v4)
  | 1 => Tile1.held (L1 c s) d (V3 m d main_v0) (V3 m d main_v16) (V3 m d main_v17)
/-- and what it gives back: the same, its chunks of the result at the gathered rows. -/
def returned (q : Fin 2) (d : Dev nD) (c : Fin 2) (s : Fin 16) : sProp 𝕄 := match q with
  | 0 => Tile0.held (L0 c s) d (V1 m d main_v0) (V1 m d main_v3) (Tile0.gathered (V1 m d main_v0) (V1 m d main_v3))
  | 1 => Tile1.held (L1 c s) d (V3 m d main_v0) (V3 m d main_v16) (Tile1.gathered (V3 m d main_v0) (V3 m d main_v16))

instance storable_held0 (L : grid0.Coords) (d : Dev nD) (t n g) : BI.Storable (upEmb : UEmb _ 𝕄) (Tile0.held L d t n g) := by
  unfold Tile0.held; infer_instance
instance storable_held1 (L : grid1.Coords) (d : Dev nD) (t n g) : BI.Storable (upEmb : UEmb _ 𝕄) (Tile1.held L d t n g) := by
  unfold Tile1.held; infer_instance
instance storable_given (q : Fin 2) (d : Dev nD) (c : Fin 2) (s : Fin 16) : BI.Storable (upEmb : UEmb _ 𝕄) (given m q d c s) :=
  match q with
  | 0 => storable_held0 ..
  | 1 => storable_held1 ..
instance storable_returned (q : Fin 2) (d : Dev nD) (c : Fin 2) (s : Fin 16) : BI.Storable (upEmb : UEmb _ 𝕄) (returned m q d c s) :=
  match q with
  | 0 => storable_held0 ..
  | 1 => storable_held1 ..

/-- The calls' payloads: a SparseCore is handed what its sixteen tasks are given, and hands back what they give back. -/
def P : (K (F := F)).Pay (nD := nD) (Val := Elt F) (Name := ℕ) (U := UU) where
  st := fun q d c => bigSep Finset.univ fun s : Fin 16 => given m q d (Fin.cast (nCore_eq q) c) s
  dn := fun q d c => bigSep Finset.univ fun s : Fin 16 => returned m q d (Fin.cast (nCore_eq q) c) s
  go := fun q d c i => given m q d (Fin.cast (nCore_eq q) c) (Fin.cast (nSub_eq q) i)
  td := fun q d c i => returned m q d (Fin.cast (nCore_eq q) c) (Fin.cast (nSub_eq q) i)
  x := fun _ _ => iprop(emp)

instance P_storable : (P (F := F) m).IsStorable where
  st q d c := (inferInstance : BI.Storable (upEmb : UEmb _ 𝕄) (bigSep Finset.univ fun s : Fin 16 => given m q d (Fin.cast (nCore_eq q) c) s))
  dn q d c := (inferInstance : BI.Storable (upEmb : UEmb _ 𝕄) (bigSep Finset.univ fun s : Fin 16 => returned m q d (Fin.cast (nCore_eq q) c) s))
  go q d c i := storable_given ..
  td q d c i := storable_returned ..

/-! ## The tasks -/

theorem defs₀_vector0 (c : Fin τ.nSC) (s : Fin τ.nSub) :
    defs₀ (F := F) (.scVector c s) 0 ()
      = SparseCore.onTile hcore0 hsub0 (fun c s => cc0_gather_k (L0 c s) (Memref.whole main_v0_scv) (Memref.isWhole_whole _) (Memref.whole main_v3_scv) (Memref.isWhole_whole _) (Memref.whole main_v4_scv) (Memref.isWhole_whole _)
            (Memref.whole cc0_scratch0) (Memref.isWhole_whole _) (Memref.whole cc0_scratch1) (Memref.isWhole_whole _) cc0_scratch2 cc0_scratch3 cc0_scratch4 cc0_scratch5
            cc0_scoped0 cc0_scoped1 cc0_scoped2 cc0_scoped3 cc0_scoped4 cc0_scoped5 cc0_scoped6 cc0_scoped7 cc0_scoped8) ⟨⟩ c s := rfl

theorem defs₀_vector1 (c : Fin τ.nSC) (s : Fin τ.nSub) :
    defs₀ (F := F) (.scVector c s) 1 ()
      = SparseCore.onTile hcore1 hsub1 (fun c s => cc1_gather_k (L1 c s) (Memref.whole main_v0_scv) (Memref.isWhole_whole _) (Memref.whole main_v16_scv) (Memref.isWhole_whole _) (Memref.whole main_v17_scv) (Memref.isWhole_whole _)
            (Memref.whole cc1_scratch0) (Memref.isWhole_whole _) (Memref.whole cc1_scratch1) (Memref.isWhole_whole _) cc1_scratch2 cc1_scratch3 cc1_scratch4 cc1_scratch5
            cc1_scoped0 cc1_scoped1 cc1_scoped2 cc1_scoped3 cc1_scoped4 cc1_scoped5 cc1_scoped6 cc1_scoped7 cc1_scoped8 cc1_scoped9 cc1_scoped10 cc1_scoped11
            cc1_scoped12 cc1_scoped13 cc1_scoped14 cc1_scoped15 cc1_scoped16) ⟨⟩ c s := rfl

/-- What a task recorded besides its own transfers' waits is what the launch allows. -/
theorem obl_post {thr : Thread nD τ} {A B C : sProp 𝕄} {O : CellTallies nD τ sig (HIx 2)} {W : Waits sig (HIx 2)} {q : Fin 2} :
    iprop(A ∗ B ∗ C ∗ Owing thr O W)
      ⊢ iprop(A ∗ B ∗ C ∗ ∃ W', ⌜∀ p ∈ W', p ∈ W ∨ p.2 = none ∨ p.2 = some q⌝ ∗ owes thr O W') := by
  unfold Owing
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The first gather's tasks. -/
theorem tileObl0 (hok : Ok m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (Tile0.tile_body (L0 ⟨_, hci.1⟩ ⟨_, hci.2⟩) d facts (V1 m d main_v0) (V1 m d main_v3) (V1 m d main_v4) (hok d).1 O W hO).trans
    (wp_mono frame _ _ fun _ => obl_post)

set_option maxRecDepth 16384 in
/-- The second gather's tasks. -/
theorem tileObl1 (hok : Ok m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (Tile1.tile_body (L1 ⟨_, hci.1⟩ ⟨_, hci.2⟩) d facts (V3 m d main_v0) (V3 m d main_v16) (V3 m d main_v17) (hok d).2 O W hO).trans
    (wp_mono frame _ _ fun _ => obl_post)

theorem bigSep_subs (q : Fin 2) (Φ : Fin 16 → sProp 𝕄) :
    (bigSep Finset.univ fun i : Fin ((K (F := F)).nSub q) => Φ (Fin.cast (nSub_eq q) i)) = bigSep Finset.univ Φ :=
  (bigSep_univ_equiv (finCongr (nSub_eq (F := F) q)) Φ).symm
theorem bigSep_cores (q : Fin 2) (Φ : Fin 2 → sProp 𝕄) :
    (bigSep Finset.univ fun i : Fin ((K (F := F)).nCore q) => Φ (Fin.cast (nCore_eq q) i)) = bigSep Finset.univ Φ :=
  (bigSep_univ_equiv (finCongr (nCore_eq (F := F) q)) Φ).symm

/-- A SparseCore deals its tasks exactly what it is handed, and collects exactly what it hands back. -/
theorem vecSplit (q : Fin 2) : (K (F := F)).VecSplit' (P m) q := by
  intro d c
  show (bigSep Finset.univ fun s : Fin 16 => given m q d (Fin.cast (nCore_eq q) c) s) ⊢ |={Set.univ}=> iprop(
      (bigSep Finset.univ fun i : Fin ((K (F := F)).nSub q) => given m q d (Fin.cast (nCore_eq q) c) (Fin.cast (nSub_eq q) i))
      ∗ ((bigSep Finset.univ fun i : Fin ((K (F := F)).nSub q) => returned m q d (Fin.cast (nCore_eq q) c) (Fin.cast (nSub_eq q) i))
          -∗ bigSep Finset.univ fun s : Fin 16 => returned m q d (Fin.cast (nCore_eq q) c) s))
  rw [bigSep_subs q (fun i => given m q d (Fin.cast (nCore_eq q) c) i), bigSep_subs q (fun i => returned m q d (Fin.cast (nCore_eq q) c) i)]
  iintro H; imodintro
  isplitl [H]; · iexact H
  iintro H; iexact H

/-! ## The launch element of the ghost state -/

def u₀ : UU := (initOf (K (F := F)).hsCells (K (F := F)).hsToks,
  (initOf (Pipeline.cells (Pipeline.pin (pcfgs (F := F)) Blend.adm) cellOf_inj) (Pipeline.launchToks (Pipeline.pin (pcfgs (F := F)) Blend.adm) cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Blend.Ghost (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks) _) $$ Hu
  icases H with ⟨HH, HR⟩
  ihave H := (own_pair_emb (embR : Emb (UP × Counters) 𝕄)
    (initOf (Pipeline.cells (Pipeline.pin (pcfgs (F := F)) Blend.adm) cellOf_inj) (Pipeline.launchToks (Pipeline.pin (pcfgs (F := F)) Blend.adm) cellOf_inj)) (1 : Counters)) $$ HR
  icases H with ⟨HP, -⟩
  imod (Pipeline.fund_ghost (Pipeline.pin (pcfgs (F := F)) Blend.adm) EP cellOf_inj) $$ HP with ⟨Hg, Ht⟩
  imodintro
  isplitl [HH]; · iexact HH
  isplitl [Hg Ht]
  · unfold Blend.Ghost
    iapply (Entails.of_eq (bigSep_sep' Finset.univ (fun c : Dev nD => (Pipeline.cellsGhost (Pipeline.pin (pcfgs (F := F)) Blend.adm) EP 0 c : sProp 𝕄))
      (fun c : Dev nD => (Pipeline.toksInit (Pipeline.pin (pcfgs (F := F)) Blend.adm) EP 0 c : sProp 𝕄))).symm)
    isplitl [Hg]
    · iapply (Entails.of_eq (show (bigSep Finset.univ fun c : Dev nD => bigSep Finset.univ fun p => Pipeline.cellsGhost (Pipeline.pin (pcfgs (F := F)) Blend.adm) EP p c)
        = (bigSep Finset.univ fun c : Dev nD => Pipeline.cellsGhost (Pipeline.pin (pcfgs (F := F)) Blend.adm) EP 0 c : sProp 𝕄) from
        bigSep_congr fun _ _ => bigSep_univ_of_subsingleton (0 : Fin 1)))
      iexact Hg
    · iapply (Entails.of_eq (show (bigSep Finset.univ fun c : Dev nD => bigSep Finset.univ fun p => Pipeline.toksInit (Pipeline.pin (pcfgs (F := F)) Blend.adm) EP p c)
        = (bigSep Finset.univ fun c : Dev nD => Pipeline.toksInit (Pipeline.pin (pcfgs (F := F)) Blend.adm) EP 0 c : sProp 𝕄) from
        bigSep_congr fun _ _ => bigSep_univ_of_subsingleton (0 : Fin 1)))
      iexact Ht
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

/-! ## @main on the TensorCore -/

/-- The buffers at the blend, by TensorCore reference. -/
def VB (c : Dev nD) (b : Ref sig .tc) : Buf (Elt F) ((c : Thread nD τ).loc b) := V5 m c b

/-- What the calls' operands and results hold. -/
theorem held_three (d : Dev nD) (a b c : Ref sig .tc) (hab : a ≠ b ∧ a ≠ c ∧ b ≠ c) (hs : a.isScoped = false ∧ b.isScoped = false ∧ c.isScoped = false)
    (W : Valuation τ sig (Elt F)) :
    (StableHlo.held (d.tc : Thread nD τ) (Pipeline.ucRefs τ sig) W : sProp 𝕄)
      = iprop((((SparseCore.T d).loc a ↦{fullShare} W a) ∗ ((SparseCore.T d).loc b ↦{fullShare} W b) ∗ ((SparseCore.T d).loc c ↦{fullShare} W c))
          ∗ StableHlo.held (d.tc : Thread nD τ) (Pipeline.ucRefs τ sig \ {Proc.devRef .tc a, Proc.devRef .tc b, Proc.devRef .tc c}) W) := by
  have hm : ∀ r : Ref sig .tc, r.isScoped = false → Proc.devRef (τ := τ) .tc r ∈ Pipeline.ucRefs τ sig := fun r hr =>
    Finset.mem_filter.mpr ⟨StableHlo.devRef_mem_tcRefs r, by rw [show (Proc.devRef (τ := τ) .tc r).isScoped = r.isScoped from rfl, hr]; decide⟩
  rw [StableHlo.held_sub_split (d.tc : Thread nD τ) (T := {Proc.devRef .tc a, Proc.devRef .tc b, Proc.devRef .tc c})
    (Finset.insert_subset (hm a hs.1) (Finset.insert_subset (hm b hs.2.1) (Finset.singleton_subset_iff.mpr (hm c hs.2.2)))) W]
  congr 1
  unfold StableHlo.held
  rw [SparseCore.bigSep_insert' (by
      simp only [Finset.mem_insert, Finset.mem_singleton, not_or]
      exact ⟨StableHlo.devRef_ne_of_ne hab.1, StableHlo.devRef_ne_of_ne hab.2.1⟩),
    SparseCore.bigSep_insert' (by simp only [Finset.mem_singleton]; exact StableHlo.devRef_ne_of_ne hab.2.2), bigSep_singleton]

/-- The other buffers do not see one of the three rewritten. -/
theorem held_update (d : Dev nD) (a b c : Ref sig .tc) (W : Valuation τ sig (Elt F)) (x) :
    (StableHlo.held (d.tc : Thread nD τ) (Pipeline.ucRefs τ sig \ {Proc.devRef .tc a, Proc.devRef .tc b, Proc.devRef .tc c}) W : sProp 𝕄)
      = StableHlo.held (d.tc : Thread nD τ) (Pipeline.ucRefs τ sig \ {Proc.devRef .tc a, Proc.devRef .tc b, Proc.devRef .tc c})
          (Function.update W (Proc.devRef .tc c) x) :=
  StableHlo.held_congr (d.tc : Thread nD τ) fun r hr => by
    rw [Function.update_of_ne]
    rintro rfl
    exact (Finset.mem_sdiff.mp hr).2 (by simp)

/-- The first gather's operands and result, out of the device's buffers, -/
theorem open0 (d : Dev nD) :
    (StableHlo.held (d.tc : Thread nD τ) (Pipeline.ucRefs τ sig) (V1 m d) : sProp 𝕄)
      = iprop((bigSep Finset.univ fun c : Fin ((K (F := F)).nCore 0) => (P m).st 0 d c)
          ∗ StableHlo.held (d.tc : Thread nD τ) (Pipeline.ucRefs τ sig \ {Proc.devRef .tc main_v3, Proc.devRef .tc main_v0, Proc.devRef .tc main_v4}) (V1 m d)) := by
  rw [held_three d main_v3 main_v0 main_v4 (by decide) (by decide) (V1 m d), ← Tile0.arrays_eq d (V1 m d main_v0) (V1 m d main_v3) (V1 m d main_v4)]
  exact congrArg (fun A : sProp 𝕄 => iprop(A ∗ _)) (bigSep_cores 0 fun c => bigSep Finset.univ fun s : Fin 16 => given m 0 d c s).symm
/-- and back into them. -/
theorem close0 (d : Dev nD) :
    (StableHlo.held (d.tc : Thread nD τ) (Pipeline.ucRefs τ sig) (V2 m d) : sProp 𝕄)
      = iprop((bigSep Finset.univ fun c : Fin ((K (F := F)).nCore 0) => (P m).dn 0 d c)
          ∗ StableHlo.held (d.tc : Thread nD τ) (Pipeline.ucRefs τ sig \ {Proc.devRef .tc main_v3, Proc.devRef .tc main_v0, Proc.devRef .tc main_v4}) (V1 m d)) := by
  rw [held_three d main_v3 main_v0 main_v4 (by decide) (by decide) (V2 m d),
    show V2 m d main_v3 = V1 m d main_v3 from Function.update_of_ne (StableHlo.devRef_ne_of_ne (by decide)) _ _,
    show V2 m d main_v0 = V1 m d main_v0 from Function.update_of_ne (StableHlo.devRef_ne_of_ne (by decide)) _ _,
    show V2 m d main_v4 = Tile0.gathered (V1 m d main_v0) (V1 m d main_v3) from Function.update_self _ _ _,
    ← Tile0.arrays_eq d (V1 m d main_v0) (V1 m d main_v3) (Tile0.gathered (V1 m d main_v0) (V1 m d main_v3))]
  exact congrArg₂ (fun A B : sProp 𝕄 => iprop(A ∗ B)) (bigSep_cores 0 fun c => bigSep Finset.univ fun s : Fin 16 => returned m 0 d c s).symm
    (held_update d main_v3 main_v0 main_v4 (V1 m d) _).symm

/-- The second gather's operands and result, out of the device's buffers, -/
theorem open1 (d : Dev nD) :
    (StableHlo.held (d.tc : Thread nD τ) (Pipeline.ucRefs τ sig) (V3 m d) : sProp 𝕄)
      = iprop((bigSep Finset.univ fun c : Fin ((K (F := F)).nCore 1) => (P m).st 1 d c)
          ∗ StableHlo.held (d.tc : Thread nD τ) (Pipeline.ucRefs τ sig \ {Proc.devRef .tc main_v16, Proc.devRef .tc main_v0, Proc.devRef .tc main_v17}) (V3 m d)) := by
  rw [held_three d main_v16 main_v0 main_v17 (by decide) (by decide) (V3 m d), ← Tile1.arrays_eq d (V3 m d main_v0) (V3 m d main_v16) (V3 m d main_v17)]
  exact congrArg (fun A : sProp 𝕄 => iprop(A ∗ _)) (bigSep_cores 1 fun c => bigSep Finset.univ fun s : Fin 16 => given m 1 d c s).symm
/-- and back into them. -/
theorem close1 (d : Dev nD) :
    (StableHlo.held (d.tc : Thread nD τ) (Pipeline.ucRefs τ sig) (V4 m d) : sProp 𝕄)
      = iprop((bigSep Finset.univ fun c : Fin ((K (F := F)).nCore 1) => (P m).dn 1 d c)
          ∗ StableHlo.held (d.tc : Thread nD τ) (Pipeline.ucRefs τ sig \ {Proc.devRef .tc main_v16, Proc.devRef .tc main_v0, Proc.devRef .tc main_v17}) (V3 m d)) := by
  rw [held_three d main_v16 main_v0 main_v17 (by decide) (by decide) (V4 m d),
    show V4 m d main_v16 = V3 m d main_v16 from Function.update_of_ne (StableHlo.devRef_ne_of_ne (by decide)) _ _,
    show V4 m d main_v0 = V3 m d main_v0 from Function.update_of_ne (StableHlo.devRef_ne_of_ne (by decide)) _ _,
    show V4 m d main_v17 = Tile1.gathered (V3 m d main_v0) (V3 m d main_v16) from Function.update_self _ _ _,
    ← Tile1.arrays_eq d (V3 m d main_v0) (V3 m d main_v16) (Tile1.gathered (V3 m d main_v0) (V3 m d main_v16))]
  exact congrArg₂ (fun A B : sProp 𝕄 => iprop(A ∗ B)) (bigSep_cores 1 fun c => bigSep Finset.univ fun s : Fin 16 => returned m 1 d c s).symm
    (held_update d main_v16 main_v0 main_v17 (V3 m d) _).symm

/-- After both gathers the TensorCore owes nothing. -/
theorem tcSt_end (d : Dev nD) : ((K (F := F)).tcSt EH d 2 : sProp 𝕄)
    ⊢ iprop(Blend.Idle (F := F) d ∗ (Blend.Idle (F := F) d -∗ (K (F := F)).tcSt EH d 2)) := by
  unfold SparseCore.Cfg.tcSt Blend.Idle
  rw [(K (F := F)).Otc_end d (le_refl 2)]
  iintro ⟨HO, Hrest⟩
  isplitl [HO]; · iexact HO
  iintro HO
  isplitl [HO]; · iexact HO
  iexact Hrest

variable [∀ e, Nonempty (Elt F e)]

/-- The second gather's call and what follows it in @main. -/
theorem main_tail (d : Dev nD) (κ : GSem nD τ sig → ℕ) :
    iprop((K (F := F)).ctx EH (P m) κ ∗ (K (F := F)).tcSt EH d 1 ∗ boundary (SparseCore.T d) ∗ StableHlo.held (d.tc : Thread nD τ) (Pipeline.ucRefs τ sig) (V3 m d)
        ∗ (K (F := F)).tcSems0 d ∗ Blend.Ghost (F := F) d)
      ⊢ wp frame (wpE ((K (F := F)).defs (D (F := F))) 𝒱 (SparseCore.T d) none) Set.univ
          ((K (F := F)).run d 1 >>= fun _ => seq ops3 >>= fun _ => (Prog.lift (.customCall (SparseCore.inner (Pipeline.entry 0)) ()) >>= fun _ => pure (⟨⟩ : PUnit.{1})))
          fun _ => iprop((K (F := F)).tcSt EH d 2 ∗ Blend.Left (VB m) d ∗ (K (F := F)).tcEnd d) := by
  unfold SparseCore.Cfg.tcEnd
  iintro ⟨#Hctx, Hst, Hb, Hh, Hts, Hg⟩
  rw [wp_bind]
  ihave Hh := (Entails.of_eq (open1 m d)) $$ Hh
  icases Hh with ⟨Hgo, Hh⟩
  iapply ((K (F := F)).wp_run (D (F := F)) 𝒱 (EH := EH) (P := P m) κ d 1)
  isplitr; · iexact Hctx
  isplitl [Hst]; · iexact Hst
  isplitl [Hgo]; · iexact Hgo
  iintro ⟨Hst, Hdn⟩
  ihave Hh := (Entails.of_eq (close1 m d).symm) $$ [Hdn Hh]
  · isplitl [Hdn] <;> iassumption
  iapply (StableHlo.wp_seq 𝒱 none Set.univ d (Pipeline.ucRefs τ sig) _ ops3 ops3_sub ops3_fresh (V4 m d)) $$ [Hb Hh]
  · isplitl [Hb] <;> iassumption
  rw [show after ops3 (V4 m d) = V5 m d from rfl, show ((1 : Fin 2) : ℕ) + 1 = 2 from rfl, wp_bind]
  iintro ⟨Hb, Hh⟩
  ihave Hst := (tcSt_end d) $$ Hst
  icases Hst with ⟨HI, Hst⟩
  ihave Hlev := (SparseCore.Cfg.ctx_levAts κ) $$ Hctx
  iapply (Blend.wp_call (VB m) d _)
  isplitl [Hb Hh HI]
  · isplitl [Hb]; · iexact Hb
    isplitl [Hh]
    · iapply (Entails.of_eq (Pipeline.unscopedBufs_held d (V5 m d)).symm); iexact Hh
    iexact HI
  isplitl [Hlev]; · iexact Hlev
  isplitl [Hg]; · iexact Hg
  iintro ⟨Hb, HL, HI⟩
  rw [wp_pure]
  imodintro
  isplitl [Hst HI]; · iapply Hst; iexact HI
  isplitl [HL]; · iexact HL
  isplitl [Hb] <;> iassumption

/-- @main on the TensorCore: from the launch memory through the two gathers to the blend's result. -/
theorem hmain (κ : GSem nD τ sig → ℕ) (d : Dev nD) :
    iprop((K (F := F)).ctx EH (P m) κ ∗ (K (F := F)).tcSt EH d 0 ∗ (K (F := F)).tcRes m ρ d ∗ Blend.Ghost (F := F) d)
      ⊢ wp frame (wpE ((K (F := F)).defs (D (F := F))) 𝒱 (SparseCore.T d) none) Set.univ (main d)
          fun _ => iprop((K (F := F)).tcSt EH d 2 ∗ Blend.Left (VB m) d ∗ (K (F := F)).tcEnd d) := by
  rw [main_eq]
  unfold SparseCore.Cfg.tcRes
  iintro ⟨#Hctx, Hst, ⟨Hb, Hu, Hts, -⟩, Hg⟩
  ihave Hh := (Entails.of_eq (Pipeline.unscopedBufs_held d (fun b => m (d, b)))) $$ Hu
  iapply (StableHlo.wp_seq 𝒱 none Set.univ d (Pipeline.ucRefs τ sig) _ ops1 ops1_sub ops1_fresh (fun b => m (d, b))) $$ [Hb Hh]
  · isplitl [Hb] <;> iassumption
  rw [show after ops1 (fun b => m (d, b)) = V1 m d from rfl, wp_bind]
  iintro ⟨Hb, Hh⟩
  ihave Hh := (Entails.of_eq (open0 m d)) $$ Hh
  icases Hh with ⟨Hgo, Hh⟩
  iapply ((K (F := F)).wp_run (D (F := F)) 𝒱 (EH := EH) (P := P m) κ d 0)
  isplitr; · iexact Hctx
  isplitl [Hst]; · iexact Hst
  isplitl [Hgo]; · iexact Hgo
  iintro ⟨Hst, Hdn⟩
  ihave Hh := (Entails.of_eq (close0 m d).symm) $$ [Hdn Hh]
  · isplitl [Hdn] <;> iassumption
  iapply (StableHlo.wp_seq 𝒱 none Set.univ d (Pipeline.ucRefs τ sig) _ ops2 ops2_sub ops2_fresh (V2 m d)) $$ [Hb Hh]
  · isplitl [Hb] <;> iassumption
  rw [show after ops2 (V2 m d) = V3 m d from rfl]
  iintro ⟨Hb, Hh⟩
  iapply (main_tail m d κ)
  isplitr; · iexact Hctx
  isplitl [Hst]; · iexact Hst
  isplitl [Hb]; · iexact Hb
  isplitl [Hh]; · iexact Hh
  isplitl [Hts] <;> iassumption

/-! ## The run -/

/-- The result: the blend's array after its last grid point. -/
def out (c : Dev nD) : Buf (Elt F) ((c : Thread nD τ).loc main_v19) := (Blend.dat (VB m) c).arrAt 4 cfg2.N

/-- The arguments as they were, and the result at `out`. -/
def fq (d : Dev nD) (s' : Phys nD τ sig (Elt F)) : Prop :=
  s'.mem.mem ((d : Thread nD τ).loc main_v19) = out m d ∧ s'.mem.mem ((d : Thread nD τ).loc main_arg0) = m ((d : Thread nD τ).loc main_arg0)
    ∧ s'.mem.mem ((d : Thread nD τ).loc main_arg1) = m ((d : Thread nD τ).loc main_arg1) ∧ s'.mem.mem ((d : Thread nD τ).loc main_arg2) = m ((d : Thread nD τ).loc main_arg2)
    ∧ s'.mem.mem ((d : Thread nD τ).loc main_arg3) = m ((d : Thread nD τ).loc main_arg3)

set_option maxRecDepth 16384 in
theorem hfin (d : Dev nD) (s' : Phys nD τ sig (Elt F)) : iprop(Blend.Left (VB m) d ∗ SI s') ⊢ (⌜fq m d s'⌝ : sProp 𝕄) := by
  unfold Blend.Left
  rw [unscopedRest2_eq]
  iintro ⟨⟨Ha, H0, H1, -⟩, HSI⟩
  ihave H := (Pipeline.arrays_read (pcfgs (F := F)) Blend.adm (Blend.pdats (VB m)) (p := 0) launch2.arr_whole d
    ((Blend.pdats (VB m) 0 d).share_full fun _ => rfl) ((Blend.pdats (VB m) 0 d).arrAt · cfg2.N) s') $$ [Ha HSI]
  · isplitl [Ha] <;> iassumption
  icases H with ⟨%hw, HSI⟩
  ihave H := (persistent_entails_right (SI_pointsTo_agree (st := s') (ℓ := (d : Thread nD τ).loc main_arg0) (I := Finset.univ) (q := fullShare) (f := VB m d main_arg0))) $$ [HSI H0]
  · isplitl [HSI] <;> iassumption
  icases H with ⟨%h0, HSI, -⟩
  ihave H := (SI_pointsTo_agree (st := s') (ℓ := (d : Thread nD τ).loc main_arg1) (I := Finset.univ) (q := fullShare) (f := VB m d main_arg1)) $$ [HSI H1]
  · isplitl [HSI] <;> iassumption
  icases H with %h1
  ipureintro
  exact ⟨hw 4, (funext fun i => h0 i (Finset.mem_univ i)).trans (V5_arg0 m d), (funext fun i => h1 i (Finset.mem_univ i)).trans (V5_arg1 m d),
    (hw 3).trans (((Blend.dat (VB m) d).arrAt_in 3 rfl _).trans (V5_arg2 m d)), (hw 1).trans (((Blend.dat (VB m) d).arrAt_in 1 rfl _).trans (V5_arg3 m d))⟩

/-- Every run's end. -/
def QC : PUnit.{1} × MemSt nD τ sig (Elt F) → Prop := fun r =>
  (∀ c : Dev nD, r.2.mem ((c : Thread nD τ).loc main_v19) = out m c ∧ r.2.mem ((c : Thread nD τ).loc main_arg0) = m ((c : Thread nD τ).loc main_arg0)
    ∧ r.2.mem ((c : Thread nD τ).loc main_arg1) = m ((c : Thread nD τ).loc main_arg1) ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

/-- From a memory whose row numbers name rows of the table, the program runs to its end without a step that may not be taken. -/
theorem run_main (hok : Ok m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hok | 1 => tileObl1 m hok)
    (fun q _ => SparseCore.Cfg.VecSplit.of_plain (vecSplit m q))
    m ρ main (fun d => Blend.Ghost (F := F) d) (fun d => Blend.Left (VB m) d) (u₀ (F := F)) (sep_elim_left.trans (hu₀ m)) (hmain m ρ) (fq m) (hfin m) (QC m) (fun _ h hz => ⟨h, hz⟩)

end Cert.Proof

end
-- ==== Proof.Range.lean ====
/-
  What the precondition says of the item numbers and of the neighbours' numbers, and that both gathers therefore name rows of
  the table of pairs.
-/
module

public import proofs.«01_k».proof.Proof.Host
public import proofs.«01_k».proof.Proof.Gen.Pre_in_range
public import Idealize.ShloMosaic.Lib.Pointwise
public import Idealize.ShloMosaic.Lib.ReduceAll

@[expose] public section

noncomputable section

namespace Cert.Proof

open Cert.KernelIdeal Cert.KernelIdeal.Gen

open Idealize.ShloMosaic
open Idealize.ShloMosaic.TcCoe
open Idealize.ShloMosaic.ValueIdx
open Idealize.ShloMosaic.StableHlo (seq after)

variable {F : FTy → Type} [FloatOps F]

/-! ## The precondition at one number -/

/-- A word that is at least 0 and less than a bound, compared as signed, is less than the bound. -/
theorem lt_of_compared (v c : BitVec 32) (hc : c.toNat < 2 ^ 31) (e : IntOp.andi (IntOp.cmpi .sge v 0#32) (IntOp.cmpi .slt v c) = 1#1) :
    v.toNat < c.toNat := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Where both conditions of the precondition's last `and` hold, each holds. -/
theorem andi_one {a b : BitVec 1} (e : IntOp.andi a b = 1#1) : a = 1#1 ∧ b = 1#1 := by
  revert a b; decide

/-- The precondition bounds every item number and every neighbour's number by the table's length. -/
theorem numbers_lt (a0 : IVec S4096 32) (a1 : FVec F S100000x64 .f32) (a2 : IVec S8x512x10 32) (a3 : FVec F S8x512x10 .f32)
    (h : Cert.Pre_in_range.fn a0 a1 a2 a3 = fun _ => 1#1) : (∀ i, (a0 i).toNat < 100000) ∧ ∀ i, (a2 i).toNat < 100000 := by
  have e := andi_one (congrFun h ValueIdx.ix0)
  haveI : Subsingleton (Cert.Pre_in_range.S_.Idx) := ⟨fun a b => funext fun i => i.elim0⟩
  exact ⟨fun i => lt_of_compared _ 100000#32 (by decide) (Host.reduce_andi_all _ _ _ _ _ e.1 i), fun i => lt_of_compared _ 100000#32 (by decide) (Host.reduce_andi_all _ _ _ _ _ e.2 i)⟩

/-- Half of a number below 100000, rounded down, as the shift by one bit computes it. -/
theorem shifted_toNat (v : BitVec 32) (h : v.toNat < 100000) : (IntOp.shrsi .host v 1#32).toNat = v.toNat / 2 := by
  have hn : v.msb = false := by rw [BitVec.msb_eq_decide]; simp; omega
  rw [IntOp.shrsi, if_pos (by decide), show v.sshiftRight' 1#32 = v.sshiftRight 1 from rfl, BitVec.sshiftRight_eq_of_msb_false hn, BitVec.toNat_ushiftRight, Nat.shiftRight_eq_div_pow]

/-! ## The gathers' lists -/

variable (m : (ℓ : Loc nD τ sig) → Buf (Elt F) ℓ) (d : Dev nD)

/-- The first gather's list is the item numbers, each shifted by one bit, in rows of sixteen. -/
theorem V1_v3 : V1 m d main_v3 = fun j : S256x16.Idx =>
    IntOp.shrsi .host ((m (d, main_arg0) : S4096.Idx → BitVec 32) (Shape.reshapeEquiv shapeCasts_S4096_S256x16 j)) 1#32 := by
  unfold V1 ops1
  after_results
  rfl

theorem V2_arg2 : V2 m d main_arg2 = m (d, main_arg2) :=
  (Function.update_of_ne (StableHlo.devRef_ne_of_ne (by decide)) _ _).trans (StableHlo.after_of_writes_sub ops1 _ ops1_writes (by decide))

/-- The second gather's list is the neighbours' numbers, each shifted by one bit, in rows of eighty. -/
theorem V3_v16 : V3 m d main_v16 = fun j : S512x80.Idx =>
    IntOp.shrsi .host ((m (d, main_arg2) : S8x512x10.Idx → BitVec 32)
      (Shape.reshapeEquiv shapeCasts_S8x512x10_S40960 (Shape.reshapeEquiv shapeCasts_S40960_S512x80 j))) 1#32 := by
  rw [← V2_arg2 m d]
  unfold V3 ops2
  after_results
  rfl

/-- Numbers below the table's length name rows of the table of pairs. -/
theorem ok_of_lt (h0 : ∀ (d : Dev nD) i, ((m (d, main_arg0) : S4096.Idx → BitVec 32) i).toNat < 100000)
    (h2 : ∀ (d : Dev nD) i, ((m (d, main_arg2) : S8x512x10.Idx → BitVec 32) i).toNat < 100000) : Ok m := by
  refine fun d => ⟨fun j => ?_, fun j => ?_⟩
  · rw [V1_v3]
    have := h0 d (Shape.reshapeEquiv shapeCasts_S4096_S256x16 j)
    have e := shifted_toNat _ this
    dsimp only
    omega
  · rw [V3_v16]
    have := h2 d (Shape.reshapeEquiv shapeCasts_S8x512x10_S40960 (Shape.reshapeEquiv shapeCasts_S40960_S512x80 j))
    have e := shifted_toNat _ this
    dsimp only
    omega

end Cert.Proof

end
-- ==== Proof.Frames.lean ====
/-
  The three frames: the kernel over bits, the kernel over the extended reals, and the reference, each of which runs to its end
  with its arguments unchanged and every semaphore at zero.
-/
module

public import proofs.«01_k».proof.Proof.Run
public import proofs.«01_k».proof.Proof.Range
public import proofs.«01_k».proof.Proof.Gen.Kernel
public import proofs.«01_k».proof.Proof.Gen.ReferenceIdeal.Run
public import proofs.«01_k».proof.Defs

@[expose] public section

noncomputable section

namespace Cert.Proof

open Idealize.ShloMosaic Idealize.SL.Sem
open Idealize.ShloMosaic.TcCoe

/-- The precondition at `Bits` lets both gathers run. -/
theorem ok_kernel (m : (ℓ : Loc Cert.Kernel.nD Cert.Kernel.τ Cert.Kernel.sig) → Buf (Elt Bits) ℓ) (h : Cert.Pre_Kernel m) : Ok (F := Bits) m :=
  ok_of_lt (F := Bits) m (fun d => (numbers_lt _ _ _ _ (h d)).1) (fun d => (numbers_lt _ _ _ _ (h d)).2)

/-- And so does the precondition at `Ideal`. -/
theorem ok_kernelIdeal (m : (ℓ : Loc Cert.KernelIdeal.nD Cert.KernelIdeal.τ Cert.KernelIdeal.sig) → Buf (Elt Ideal) ℓ) (h : Cert.Pre_KernelIdeal m) :
    Ok (F := Ideal) m :=
  ok_of_lt (F := Ideal) m (fun d => (numbers_lt _ _ _ _ (h d)).1) (fun d => (numbers_lt _ _ _ _ (h d)).2)

/-- The two printed programs' kernels are the same, label by label, -/
theorem bodies_eq : Cert.Kernel.defs₀ (F := Bits) = Cert.KernelIdeal.defs₀ (F := Bits) := by
  funext p ℓ a
  match p, ℓ, a with
  | .scVector c s, 0, _ => rfl
  | .scVector c s, 1, _ => rfl
  | .scVector c s, 2, _ => rfl
  | .tc, 0, _ => rfl
  | .tc, 1, _ => rfl
  | .tc, 2, (t, s) => rfl
  | .scScalar c, 0, _ => rfl
  | .scScalar c, 1, _ => rfl
  | .scScalar c, 2, _ => rfl

/-- so their body tables are. -/
theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

/-- The kernel over bits runs with its arguments unchanged and its semaphores at zero. -/
theorem frame_kernel : Cert.quiescent_Kernel := fun m ρ hpre => by
  rw [defs_eq]
  exact (θ_run (Cert.KernelIdeal.defs (F := Bits)) _ _).mono (fun _ h => ⟨fun c => (h.1 c).2, h.2⟩) (run_main (F := Bits) m ρ (ok_kernel m hpre))

/-- The kernel over the extended reals runs with its arguments unchanged and its semaphores at zero. -/
theorem frame_kernelIdeal : Cert.quiescent_KernelIdeal := fun m ρ hpre =>
  (θ_run Cert.KernelIdeal.defs _ _).mono (fun _ h => ⟨fun c => (h.1 c).2, h.2⟩) (run_main (F := Ideal) m ρ (ok_kernelIdeal m hpre))

/-- The reference runs with its arguments unchanged, from any arguments; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- And so from arguments within the precondition. -/
theorem frame_referenceIdeal_in_range : Cert.quiescent_ReferenceIdeal_pre_in_range := fun m ρ _ => frame_referenceIdeal m ρ trivial

end Cert.Proof

end
-- ==== Proof.Value.lean ====
/-
  What the kernel computes, element by element, over the extended reals: seven tenths of the item's own row of the table and
  three tenths of the weighted sum of its ten neighbours' rows.
-/
module

public import proofs.«01_k».proof.Proof.Run
public import proofs.«01_k».proof.Proof.Range
public import Idealize.ShloMosaic.Lib.Pointwise
public import Idealize.ShloMosaic.Lib.Pipeline.ValueKit
public import Idealize.ShloMosaic.Lib.Tactic.CleanTypes

@[expose] public section

noncomputable section

namespace Cert.Proof

open Cert.KernelIdeal Cert.KernelIdeal.Gen

open Idealize.ShloMosaic
open Idealize.ShloMosaic.TcCoe
open Idealize.ShloMosaic.StableHlo (seq after)

/-! ## The specification -/

/-- The row that a number names, if it is below the table's length. -/
def rowOf (v : BitVec 32) : Fin 100000 := ⟨v.toNat % 100000, Nat.mod_lt _ (by decide)⟩

/-- The weighted sum of item `i`'s ten neighbours' rows, at column `k`. -/
def neighbours (E : S100000x64.Idx → EReal) (n : S8x512x10.Idx → BitVec 32) (w : S8x512x10.Idx → EReal) (i : Fin 4096) (k : Fin 64) : EReal :=
  ∑ j : Fin 10, w (ix3 ⟨i.val / 512, by omega⟩ ⟨i.val % 512, by omega⟩ j) * E (ix2 (rowOf (n (ix3 ⟨i.val / 512, by omega⟩ ⟨i.val % 512, by omega⟩ j))) k)

/-- The blend of item `i`'s own row with its neighbours', at column `k`. -/
def enhanced (a : S4096.Idx → BitVec 32) (E : S100000x64.Idx → EReal) (n : S8x512x10.Idx → BitVec 32) (w : S8x512x10.Idx → EReal) : S4096x64.Idx → EReal :=
  fun y => Ideal.ofBits .f32 0x3F333333#32 * E (ix2 (rowOf (a (ix1 (y 0)))) (y 1)) + Ideal.ofBits .f32 0x3E99999A#32 * neighbours E n w (y 0) (y 1)

/-! ## A row out of the table of pairs -/

/-- Half `v` names a pair of rows, whose second row is the one `v` names where `v` is odd, and whose first where it is even. -/
theorem half_row {α : Type} (E : S100000x64.Idx → α) (v : BitVec 32) (hv : v.toNat < 100000) (k : Fin 64) (p : Fin 50000)
    (hp : p.val = (IntOp.shrsi .host v 1#32).toNat % 50000) :
    Scalar.select (IntOp.cmpi .eq (IntOp.andi v 1#32) 1#32)
      (shapeCast S50000x128 E shapeCasts_S100000x64_S50000x128 (ix2 p ⟨64 + k.val, by omega⟩))
      (shapeCast S50000x128 E shapeCasts_S100000x64_S50000x128 (ix2 p ⟨k.val, by omega⟩)) = E (ix2 (rowOf v) k) := by
  rw [shifted_toNat v hv, Nat.mod_eq_of_lt (by omega)] at hp
  have ha : (IntOp.andi v 1#32) = BitVec.ofNat 32 (v.toNat % 2) := by
    apply BitVec.eq_of_toNat_eq
    rw [IntOp.andi, BitVec.toNat_and, BitVec.toNat_ofNat, BitVec.toNat_ofNat, show 1 % 2 ^ 32 = 1 from rfl, Nat.and_one_is_mod]
    omega
  rw [ha]
  have hm : (⟨v.toNat % 100000, Nat.mod_lt _ (by decide)⟩ : Fin 100000) = ⟨v.toNat, hv⟩ := Fin.ext (Nat.mod_eq_of_lt hv)
  unfold rowOf
  rw [hm]
  rcases Nat.mod_two_eq_zero_or_one v.toNat with h | h
  · rw [h]
    refine Eq.trans (show _ = shapeCast S50000x128 E shapeCasts_S100000x64_S50000x128 (ix2 p ⟨k.val, by omega⟩) from rfl) ?_
    refine shapeCast_apply _ _ _ _ ?_
    rw [Shape.rowMajor_val_two, Shape.rowMajor_val_two]
    show v.toNat * 64 + k.val = p.val * 128 + k.val
    omega
  · rw [h]
    refine Eq.trans (show _ = shapeCast S50000x128 E shapeCasts_S100000x64_S50000x128 (ix2 p ⟨64 + k.val, by omega⟩) from rfl) ?_
    refine shapeCast_apply _ _ _ _ ?_
    rw [Shape.rowMajor_val_two, Shape.rowMajor_val_two]
    show v.toNat * 64 + k.val = p.val * 128 + (64 + k.val)
    omega

/-! ## The blend's body at an element -/

/-- At an element of its block, the body's ten products are added one by one, each of a weight and the half of a row pair
    that the neighbour's number asks for. -/
theorem blended_apply (w : S1x512x10.Idx → Elt Ideal .f32) (n : S1x512x10.Idx → Elt Ideal .i32) (r : S512x1280.Idx → Elt Ideal .f32)
    (e : S512x64.Idx → Elt Ideal .f32) (y : S512x64.Idx) :
    Blend.blended w n r e y = Ideal.ofBits .f32 0x3F333333#32 * e y + Ideal.ofBits .f32 0x3E99999A#32 *
      ∑ j : Fin 10, w (ix3 0 (y 0) j) * Scalar.select (IntOp.cmpi .eq (IntOp.andi (n (ix3 0 (y 0) j)) 1#32) 1#32)
        (r (ix2 (y 0) ⟨128 * j.val + 64 + (y 1).val, by have : (y 1).val < 64 := (y 1).isLt; omega⟩))
        (r (ix2 (y 0) ⟨128 * j.val + (y 1).val, by have : (y 1).val < 64 := (y 1).isLt; omega⟩)) := by
  unfold Blend.blended
  pointwise [k2_pay1, k2_pay2, k2_pay3, k2_pay4, k2_pay5, k2_pay6, k2_pay7, k2_pay8, k2_pay9, k2_pay10, k2_pay11, k2_pay12, k2_pay13, k2_pay14]
  rw [Fin.sum_univ_castSucc, Fin.sum_univ_castSucc, Fin.sum_univ_eight]
  congr! 20 <;> exact (Nat.zero_add _).symm

/-! ## What the host operations leave for the blend -/

variable (m : (ℓ : Loc nD τ sig) → Buf (Elt Ideal) ℓ) (d : Dev nD)

/-- The first gather leaves the item numbers as they were. -/
theorem V2_arg0 : V2 m d main_arg0 = m (d, main_arg0) :=
  (Function.update_of_ne (StableHlo.devRef_ne_of_ne (by decide)) _ _).trans (StableHlo.after_of_writes_sub ops1 _ ops1_writes (by decide))

/-- The table of pairs is the table, two rows to a row. -/
theorem V1_v0 : V1 m d main_v0 = shapeCast S50000x128 (m (d, main_arg1) : S100000x64.Idx → EReal) shapeCasts_S100000x64_S50000x128 := by
  unfold V1 ops1
  after_results
  rfl

/-- It is still that at the second gather. -/
theorem V3_v0 : V3 m d main_v0 = V1 m d main_v0 :=
  (StableHlo.after_of_writes_sub ops2 _ ops2_writes (by decide)).trans (Function.update_of_ne (StableHlo.devRef_ne_of_ne (by decide)) _ _)

/-- The first gather's result. -/
theorem V2_v4 : V2 m d main_v4 = Tile0.gathered (V1 m d main_v0) (V1 m d main_v3) := Function.update_self _ _ _

/-- The items' own rows, as the host leaves them for the blend: of each gathered pair, the half that the number's parity asks for. -/
theorem V3_v12 : V3 m d main_v12 = select
    (broadcastInDim S4096x64 ![0, 1] bcast_S4096x1_S4096x64_0_1
      (cmpi CmpIPredicate.eq
        (broadcastInDim S4096x1 ![0] bcast_S4096_S4096x1_0
          (andi (m (d, main_arg0) : S4096.Idx → BitVec 32) (broadcastInDim S4096 ![] bcast_S_S4096 (constantI S_ 32 1#32))))
        (broadcastInDim S4096x1 ![] bcast_S_S4096x1 (constantI S_ 32 1#32))))
    (extractStridedSlice S4096x64 ![0, 64] (V2 m d main_v4 : S4096x128.Idx → EReal) slices_S4096x128_S4096x64_0_64)
    (extractStridedSlice S4096x64 ![0, 0] (V2 m d main_v4 : S4096x128.Idx → EReal) slices_S4096x128_S4096x64_0_0) := by
  rw [show (m (d, main_arg0) : S4096.Idx → BitVec 32) = V2 m d main_arg0 from (V2_arg0 m d).symm]
  unfold V3 ops2
  after_results
  rfl

/-- The same at an element. -/
theorem V3_v12_apply (i : S4096x64.Idx) : (V3 m d main_v12 : S4096x64.Idx → EReal) i =
    Scalar.select (IntOp.cmpi .eq (IntOp.andi ((m (d, main_arg0) : S4096.Idx → BitVec 32) (ix1 (i 0))) 1#32) 1#32)
      ((V2 m d main_v4 : S4096x128.Idx → EReal) (ix2 (i 0) ⟨64 + (i 1).val, by have : (i 1).val < 64 := (i 1).isLt; omega⟩))
      ((V2 m d main_v4 : S4096x128.Idx → EReal) (ix2 (i 0) ⟨(i 1).val, by have : (i 1).val < 64 := (i 1).isLt; omega⟩)) := by
  rw [V3_v12]
  pointwise

/-- What the first gather fetches for item `i`: the pair that holds its row. -/
theorem V2_v4_apply (i : Fin 4096) (k : Fin 128) : (V2 m d main_v4 : S4096x128.Idx → EReal) (ix2 i k) =
    shapeCast S50000x128 (m (d, main_arg1) : S100000x64.Idx → EReal) shapeCasts_S100000x64_S50000x128
      (ix2 ⟨(IntOp.shrsi .host ((m (d, main_arg0) : S4096.Idx → BitVec 32) (ix1 i)) 1#32).toNat % 50000, Nat.mod_lt _ (by decide)⟩ k) := by
  rw [V2_v4, V1_v0, V1_v3]
  have e : Shape.reshapeEquiv shapeCasts_S4096_S256x16 (ix2 (⟨i.val / 16, by omega⟩ : Fin 256) (⟨i.val % 16, by omega⟩ : Fin 16)) = ix1 i := by
    refine Shape.reshapeEquiv_eq_of_rowMajor _ ?_
    rw [Shape.rowMajor_val_one, Shape.rowMajor_val_two]
    show i.val = i.val / 16 * 16 + i.val % 16
    omega
  rw [← e]
  rfl

/-- The items' own rows at the blend. -/
theorem V5_v12 (h0 : ∀ i, ((m (d, main_arg0) : S4096.Idx → BitVec 32) i).toNat < 100000) (i : S4096x64.Idx) :
    (V5 m d main_v12 : S4096x64.Idx → EReal) i =
      (m (d, main_arg1) : S100000x64.Idx → EReal) (ix2 (rowOf ((m (d, main_arg0) : S4096.Idx → BitVec 32) (ix1 (i 0)))) (i 1)) := by
  have e : V5 m d main_v12 = V3 m d main_v12 :=
    (StableHlo.after_of_writes_sub ops3 _ ops3_writes (by decide)).trans (Function.update_of_ne (StableHlo.devRef_ne_of_ne (by decide)) _ _)
  rw [e, V3_v12_apply]
  refine Eq.trans (congrArg₂ (Scalar.select _) (V2_v4_apply m d (i 0) _) (V2_v4_apply m d (i 0) _)) ?_
  exact half_row _ _ (h0 _) (i 1) _ rfl

/-- The neighbours' row pairs at the blend: at item `i`, in the `j`-th stretch of 128 columns, the pair that holds the row of
    its `j`-th neighbour. -/
theorem V5_v18 (i : Fin 4096) (j : Fin 10) (k : Fin 128) :
    (V5 m d main_v18 : S4096x1280.Idx → EReal) (ix2 i ⟨128 * j.val + k.val, by omega⟩) =
    shapeCast S50000x128 (m (d, main_arg1) : S100000x64.Idx → EReal) shapeCasts_S100000x64_S50000x128
      (ix2 ⟨(IntOp.shrsi .host ((m (d, main_arg2) : S8x512x10.Idx → BitVec 32) (ix3 ⟨i.val / 512, by omega⟩ ⟨i.val % 512, by omega⟩ j)) 1#32).toNat % 50000,
        Nat.mod_lt _ (by decide)⟩ k) := by
  have e : V5 m d main_v18 = shapeCast S4096x1280 (Tile1.gathered (V3 m d main_v0) (V3 m d main_v16)) shapeCasts_S40960x128_S4096x1280 := by
    have e4 : V4 m d main_v17 = Tile1.gathered (V3 m d main_v0) (V3 m d main_v16) := Function.update_self _ _ _
    rw [← e4]
    unfold V5 ops3
    after_results
    rfl
  have er : Shape.reshapeEquiv shapeCasts_S8x512x10_S40960 (Shape.reshapeEquiv shapeCasts_S40960_S512x80
      (ix2 (⟨(i.val * 10 + j.val) / 80, by omega⟩ : Fin 512) (⟨(i.val * 10 + j.val) % 80, by omega⟩ : Fin 80)))
        = ix3 (⟨i.val / 512, by omega⟩ : Fin 8) (⟨i.val % 512, by omega⟩ : Fin 512) j := by
    rw [Shape.reshapeEquiv_eq_of_rowMajor (y := ix1 (⟨i.val * 10 + j.val, by omega⟩ : Fin 40960)) shapeCasts_S40960_S512x80 ?_]
    · refine Shape.reshapeEquiv_eq_of_rowMajor _ ?_
      rw [Shape.rowMajor_val_one, Shape.rowMajor_val_three]
      show (i.val / 512 * 512 + i.val % 512) * 10 + j.val = i.val * 10 + j.val
      omega
    · rw [Shape.rowMajor_val_one, Shape.rowMajor_val_two]
      show i.val * 10 + j.val = (i.val * 10 + j.val) / 80 * 80 + (i.val * 10 + j.val) % 80
      omega
  rw [e, shapeCast_apply _ _ _ (ix2 (⟨i.val * 10 + j.val, by omega⟩ : Fin 40960) k) ?_, V3_v0, V1_v0, V3_v16, ← er]
  · rfl
  · rw [Shape.rowMajor_val_two, Shape.rowMajor_val_two]
    show (i.val * 10 + j.val) * 128 + k.val = i.val * 1280 + (128 * j.val + k.val)
    omega

/-! ## The blend's blocks and its result -/

/-- The first, third and last windows move by a block of rows at each step, and the second and fourth by a plane. -/
theorem index_eq : ∀ t : Fin grid2.N, win2_0.index t = ![t.val, 0] ∧ win2_1.index t = ![t.val, 0, 0] ∧ win2_2.index t = ![t.val, 0] ∧
    win2_3.index t = ![t.val, 0, 0] ∧ win2_4.index t = ![t.val, 0] := by decide +kernel

/-- Where each window's block of a step lies in its array. -/
theorem emb0 (t : Fin cfg2.N) (y : S512x64.Idx) : ((cfg2.win 0).blk t).view.emb y =
    ix2 (⟨512 * t.val + (y 0).val, by have : t.val < 8 := t.isLt; have : (y 0).val < 512 := (y 0).isLt; omega⟩ : Fin 4096) (y 1) := by
  blk_ext [(index_eq t).1]

theorem emb1 (t : Fin cfg2.N) (y : S1x512x10.Idx) : ((cfg2.win 1).blk t).view.emb y = ix3 (⟨t.val, t.isLt⟩ : Fin 8) (y 1) (y 2) := by
  have h0 : (y 0).val < 1 := (y 0).isLt
  blk_ext [(index_eq t).2.1]

theorem emb2 (t : Fin cfg2.N) (y : S512x1280.Idx) : ((cfg2.win 2).blk t).view.emb y =
    ix2 (⟨512 * t.val + (y 0).val, by have : t.val < 8 := t.isLt; have : (y 0).val < 512 := (y 0).isLt; omega⟩ : Fin 4096) (y 1) := by
  blk_ext [(index_eq t).2.2.1]

theorem emb3 (t : Fin cfg2.N) (y : S1x512x10.Idx) : ((cfg2.win 3).blk t).view.emb y = ix3 (⟨t.val, t.isLt⟩ : Fin 8) (y 1) (y 2) := by
  have h0 : (y 0).val < 1 := (y 0).isLt
  blk_ext [(index_eq t).2.2.2.1]

theorem emb4 (t : Fin cfg2.N) (y : S512x64.Idx) : ((cfg2.win 4).blk t).view.emb y =
    ix2 (⟨512 * t.val + (y 0).val, by have : t.val < 8 := t.isLt; have : (y 0).val < 512 := (y 0).isLt; omega⟩ : Fin 4096) (y 1) := by
  blk_ext [(index_eq t).2.2.2.2]

/-- What the kernel leaves in its result, from numbers below the table's length. -/
theorem out_eq (h0 : ∀ i, ((m (d, main_arg0) : S4096.Idx → BitVec 32) i).toNat < 100000)
    (h2 : ∀ i, ((m (d, main_arg2) : S8x512x10.Idx → BitVec 32) i).toNat < 100000) :
    out m d = enhanced (m (d, main_arg0)) (m (d, main_arg1)) (m (d, main_arg2)) (m (d, main_arg3)) := by
  refine (Blend.dat (VB m) d).arrAt_eq_of_covers 4 _ (by decide +kernel) fun t hf y => ?_
  blk_simp
  rw [show (win2_4.blk t).view.emb y = _ from emb4 t y]
  have ht : t.val < 8 := t.isLt
  have hy : (y 0).val < 512 := (y 0).isLt
  have hy1 : (y 1).val < 64 := (y 1).isLt
  refine (blended_apply (Blend.blk1 (VB m) d t) (Blend.blk3 (VB m) d t) (Blend.blk2 (VB m) d t) (Blend.blk0 (VB m) d t) y).trans ?_
  have b0 : Blend.blk0 (VB m) d t y = V5 m d main_v12 (ix2 (⟨512 * t.val + (y 0).val, by omega⟩ : Fin 4096) (y 1)) := congrArg (V5 m d main_v12) (emb0 t y)
  have b1 (j : Fin 10) : Blend.blk1 (VB m) d t (ix3 0 (y 0) j) = (m (d, main_arg3) : S8x512x10.Idx → EReal) (ix3 (⟨t.val, ht⟩ : Fin 8) (y 0) j) :=
    (congrArg (V5 m d main_arg3) (emb1 t (ix3 0 (y 0) j))).trans (congrFun (V5_arg3 m d) _)
  have b3 (j : Fin 10) : Blend.blk3 (VB m) d t (ix3 0 (y 0) j) = (m (d, main_arg2) : S8x512x10.Idx → BitVec 32) (ix3 (⟨t.val, ht⟩ : Fin 8) (y 0) j) :=
    (congrArg (V5 m d main_arg2) (emb3 t (ix3 0 (y 0) j))).trans (congrFun (V5_arg2 m d) _)
  have b2 (c : Fin 1280) : Blend.blk2 (VB m) d t (ix2 (y 0) c) = V5 m d main_v18 (ix2 (⟨512 * t.val + (y 0).val, by omega⟩ : Fin 4096) c) :=
    congrArg (V5 m d main_v18) (emb2 t (ix2 (y 0) c))
  rw [b0, V5_v12 m d h0]
  have ea : (⟨(512 * t.val + (y 0).val) / 512, by omega⟩ : Fin 8) = ⟨t.val, ht⟩ := Fin.ext (by simp only; omega)
  have eb : (⟨(512 * t.val + (y 0).val) % 512, by omega⟩ : Fin 512) = y 0 := Fin.ext (by show (512 * t.val + (y 0).val) % 512 = (y 0).val; omega)
  refine congrArg₂ (fun a b : EReal => a + b) rfl (congrArg (fun s : EReal => Ideal.ofBits .f32 0x3E99999A#32 * s) (Finset.sum_congr rfl fun j _ => ?_))
  have c1 := V5_v18 m d ⟨512 * t.val + (y 0).val, by omega⟩ j ⟨64 + (y 1).val, by omega⟩
  have c0 := V5_v18 m d ⟨512 * t.val + (y 0).val, by omega⟩ j ⟨(y 1).val, by omega⟩
  simp only [← Nat.add_assoc] at c1
  simp only [ea, eb] at c0 c1
  have hq : ix3 (⟨(512 * t.val + (y 0).val) / 512, by omega⟩ : Fin 8) (⟨(512 * t.val + (y 0).val) % 512, by omega⟩ : Fin 512) j = ix3 (⟨t.val, ht⟩ : Fin 8) (y 0) j := by
    rw [ea, eb]; rfl
  rw [b1, b3, b2, b2]
  refine Eq.trans ?_ (congrArg (fun q => HMul.hMul (α := EReal) (β := EReal) (γ := EReal) ((m (d, main_arg3) : S8x512x10.Idx → EReal) q)
    ((m (d, main_arg1) : S100000x64.Idx → EReal) (ix2 (rowOf ((m (d, main_arg2) : S8x512x10.Idx → BitVec 32) q)) (y 1)))) hq.symm)
  refine congrArg (HMul.hMul (α := EReal) (β := EReal) (γ := EReal) _) ?_
  refine Eq.trans ?_ (half_row (m (d, main_arg1) : S100000x64.Idx → EReal) _ (h2 _) (y 1) ⟨_ % 50000, Nat.mod_lt _ (by decide)⟩ rfl)
  exact congrArg₂ _ c1 c0

end Cert.Proof

end
-- ==== Proof.RefValue.lean ====
/-
  What the reference computes, element by element: the same blend of an item's own row and its neighbours' rows.
-/
module

public import proofs.«01_k».proof.Proof.Value
public import proofs.«01_k».proof.Proof.Gen.ReferenceIdeal.Run
public import Idealize.ShloMosaic.Lib.Pointwise
public import Idealize.ShloMosaic.Lib.ReduceAll
public import Idealize.ShloMosaic.Lib.Routing.Ops
public import Idealize.ShloMosaic.Lib.Routing.OpsPair

@[expose] public section

noncomputable section

namespace Cert.Proof.Ref

open Cert.ReferenceIdeal Cert.ReferenceIdeal.Gen

open Idealize.ShloMosaic
open Idealize.ShloMosaic.TcCoe

/-! ## A number in range -/

/-- The reference adds the table's length to a negative number; one below the table's length is not negative. -/
theorem wrapped {s : Shape} {n : ℕ} (hn : n ≤ 2 ^ 31) (a : IVec s 32) (z c : IVec s 32) (hz : ∀ i, z i = 0#32) (h : ∀ i, (a i).toNat < n) :
    select (cmpi .slt a z) (addi a c) a = a := by
  funext i
  show Scalar.select (IntOp.cmpi .slt (a i) (z i)) _ (a i) = a i
  rw [hz]
  exact Routing.wrap_of_lt _ _ (lt_of_lt_of_le (h i) hn)

/-- Compared with the table's ends, it lies within them. -/
theorem within (v c : BitVec 32) (hc : c.toNat < 2 ^ 31) (h : v.toNat ≤ c.toNat) : IntOp.andi (IntOp.cmpi .sge v 0#32) (IntOp.cmpi .sle v c) = 1#1 := by
  have e1 : IntOp.cmpi .sge v 0#32 = 1#1 := by
    simp only [IntOp.cmpi, BitVec.sle_eq_decide, BitVec.toInt_eq_toNat_cond, BitVec.toNat_ofNat, Nat.reducePow, Nat.reduceMod]
    rw [decide_eq_true (by omega)]; rfl
  have e2 : IntOp.cmpi .sle v c = 1#1 := by
    simp only [IntOp.cmpi, BitVec.sle_eq_decide, BitVec.toInt_eq_toNat_cond, Nat.reducePow]
    rw [decide_eq_true (by omega)]; rfl
  rw [e1, e2]; rfl

/-- A number below the table's length, read as signed and clamped to the table, is the number. -/
theorem clamped (v : BitVec 32) (h : v.toNat < 100000) : min v.toInt.toNat 99999 = v.toNat % 100000 := by
  rw [BitVec.toInt_eq_toNat_cond, if_pos (by omega)]
  omega

/-- Where a selection's condition holds, it is its first operand. -/
theorem select_of_one {s : Shape} {α : Type} (c : IVec s 1) (x z : s.Idx → α) (i : s.Idx) (h : c i = 1#1) : select c x z i = x i := by
  show Scalar.select (c i) (x i) (z i) = x i
  rw [h]; rfl

/-! ## The two gathers -/

/-- The items' gather at an element: the row that the number names. -/
theorem gather1_apply (E : S100000x64.Idx → EReal) (idx : IVec S4096x1 32) (y : S4096x64.Idx) (h : (idx (ix2 (y 0) 0)).toNat < 100000) :
    Host.gather gather_S100000x64_S4096x1_S4096x64_1_0_n_n_0_1_164 E idx y = E (ix2 (rowOf (idx (ix2 (y 0) 0))) (y 1)) := by
  refine Eq.trans (congrArg _ (show y = ix2 (y 0) (y 1) from by funext a; fin_cases a <;> rfl)) ?_
  refine Routing.gather_row _ rfl rfl rfl rfl rfl E idx (y 0) (y 1) _ ?_ (by decide)
  apply BitVec.eq_of_toNat_eq
  show (idx (ix2 (y 0) 0)).toNat = (BitVec.ofNat 32 ((idx (ix2 (y 0) 0)).toNat % 100000)).toNat
  rw [BitVec.toNat_ofNat]
  omega

/-- The neighbours' gather at an element, likewise. -/
theorem gather2_apply (E : S100000x64.Idx → EReal) (idx : IVec S4096x10x1 32) (y : S4096x10x64.Idx) (h : (idx (ix3 (y 0) (y 1) 0)).toNat < 100000) :
    Host.gather gather_S100000x64_S4096x10x1_S4096x10x64_2_0_n_n_0_2_164 E idx y = E (ix2 (rowOf (idx (ix3 (y 0) (y 1) 0))) (y 2)) := by
  have hk := clamped _ h
  unfold Host.gather
  congr 1
  funext a
  refine Fin.ext ?_
  show GatherDims.start _ y idx a + GatherDims.batchCoord _ y a + GatherDims.offCoord _ y a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    rw [Nat.add_zero]
    unfold GatherDims.start
    rw [dif_pos (show (0 : Fin 2) ∈ gather_S100000x64_S4096x10x1_S4096x10x64_2_0_n_n_0_2_164.startIndexMap from List.mem_singleton.mpr rfl)]
    have hsi : gather_S100000x64_S4096x10x1_S4096x10x64_2_0_n_n_0_2_164.siIdx y ⟨List.idxOf (0 : Fin 2) gather_S100000x64_S4096x10x1_S4096x10x64_2_0_n_n_0_2_164.startIndexMap,
        List.idxOf_lt_length_iff.2 (List.mem_singleton.mpr rfl)⟩ = ix3 (y 0) (y 1) 0 := by
      funext b; refine Fin.ext ?_
      match b with
      | ⟨0, _⟩ => rfl
      | ⟨1, _⟩ => rfl
      | ⟨2, _⟩ => rfl
    exact (congrArg (fun i => min (idx i).toInt.toNat 99999) hsi).trans hk
  · rw [show GatherDims.start gather_S100000x64_S4096x10x1_S4096x10x64_2_0_n_n_0_2_164 y idx 1 = 0 from by
      unfold GatherDims.start; rw [dif_neg (by decide)]]
    unfold GatherDims.offCoord
    rw [dif_pos (by decide)]
    exact (Nat.zero_add _).trans (congrArg (fun q : Fin 3 => (y q).val) (show _ = (2 : Fin 3) from by decide))

/-! ## The rows that the reference takes -/

/-- The item numbers as the reference reads them: a negative one counted from the table's end. -/
abbrev ownNumbers (a : IVec S4096 32) : IVec S4096x1 32 :=
  broadcastInDim S4096x1 ![0] bcast_S4096_S4096x1_0 (select (cmpi .slt a (broadcastInDim S4096 ![] bcast_S_S4096 (constantI S_ 32 0#32)))
    (addi a (broadcastInDim S4096 ![] bcast_S_S4096 (constantI S_ 32 100000#32))) a)

/-- The neighbours' numbers, likewise. -/
abbrev neighbourNumbers (a : IVec S4096x10 32) : IVec S4096x10x1 32 :=
  broadcastInDim S4096x10x1 ![0, 1] bcast_S4096x10_S4096x10x1_0_1 (select (cmpi .slt a (broadcastInDim S4096x10 ![] bcast_S_S4096x10 (constantI S_ 32 0#32)))
    (addi a (broadcastInDim S4096x10 ![] bcast_S_S4096x10 (constantI S_ 32 100000#32))) a)

/-- The reference's rows of the items: a row where the number lies in the table, else no number. -/
abbrev ownRows (E : FVec Ideal S100000x64 .f32) (a : IVec S4096 32) : FVec Ideal S4096x64 .f32 :=
  select (broadcastInDim S4096x64 ![0] bcast_S4096_S4096x64_0 (Host.reduce IntOp.andi (andi (cmpi .sge (ownNumbers a)
    (broadcastInDim S4096x1 ![] bcast_S_S4096x1 (constantI S_ 32 0#32))) (cmpi .sle (ownNumbers a)
    (broadcastInDim S4096x1 ![0, 1] bcast_S1x1_S4096x1_0_1 (broadcastInDim S1x1 ![1] bcast_S1_S1x1_1 (constantI S1 32 99999#32)))))
    (constantI S_ 1 1#1) reducesTo_S4096x1_S4096_d1 h_S_))
    (Host.gather gather_S100000x64_S4096x1_S4096x64_1_0_n_n_0_1_164 E (ownNumbers a))
    (broadcastInDim S4096x64 ![] bcast_S_S4096x64 (constant (F := Ideal) S_ .f32 0x7FC00000#32))

/-- The reference's rows of the neighbours. -/
abbrev neighbourRows (E : FVec Ideal S100000x64 .f32) (a : IVec S4096x10 32) : FVec Ideal S4096x10x64 .f32 :=
  select (broadcastInDim S4096x10x64 ![0, 1] bcast_S4096x10_S4096x10x64_0_1 (Host.reduce IntOp.andi (andi (cmpi .sge (neighbourNumbers a)
    (broadcastInDim S4096x10x1 ![] bcast_S_S4096x10x1 (constantI S_ 32 0#32))) (cmpi .sle (neighbourNumbers a)
    (broadcastInDim S4096x10x1 ![0, 1, 2] bcast_S1x1x1_S4096x10x1_0_1_2 (broadcastInDim S1x1x1 ![2] bcast_S1_S1x1x1_2 (constantI S1 32 99999#32)))))
    (constantI S_ 1 1#1) reducesTo_S4096x10x1_S4096x10_d2 h_S_))
    (Host.gather gather_S100000x64_S4096x10x1_S4096x10x64_2_0_n_n_0_2_164 E (neighbourNumbers a))
    (broadcastInDim S4096x10x64 ![] bcast_S_S4096x10x64 (constant (F := Ideal) S_ .f32 0x7FC00000#32))

/-- From numbers below the table's length, the reference finds each in the table: the items', -/
theorem own_within (a : IVec S4096 32) (h : ∀ i, (a i).toNat < 100000) (i : S4096x1.Idx) :
    andi (cmpi .sge (broadcastInDim S4096x1 ![0] bcast_S4096_S4096x1_0 a) (broadcastInDim S4096x1 ![] bcast_S_S4096x1 (constantI S_ 32 0#32)))
      (cmpi .sle (broadcastInDim S4096x1 ![0] bcast_S4096_S4096x1_0 a)
        (broadcastInDim S4096x1 ![0, 1] bcast_S1x1_S4096x1_0_1 (broadcastInDim S1x1 ![1] bcast_S1_S1x1_1 (constantI S1 32 99999#32)))) i = 1#1 :=
  within (a _) 99999#32 (by decide) (Nat.le_of_lt_succ (h _))

/-- and the neighbours'. -/
theorem neighbour_within (a : IVec S4096x10 32) (h : ∀ i, (a i).toNat < 100000) (i : S4096x10x1.Idx) :
    andi (cmpi .sge (broadcastInDim S4096x10x1 ![0, 1] bcast_S4096x10_S4096x10x1_0_1 a) (broadcastInDim S4096x10x1 ![] bcast_S_S4096x10x1 (constantI S_ 32 0#32)))
      (cmpi .sle (broadcastInDim S4096x10x1 ![0, 1] bcast_S4096x10_S4096x10x1_0_1 a)
        (broadcastInDim S4096x10x1 ![0, 1, 2] bcast_S1x1x1_S4096x10x1_0_1_2 (broadcastInDim S1x1x1 ![2] bcast_S1_S1x1x1_2 (constantI S1 32 99999#32)))) i = 1#1 :=
  within (a _) 99999#32 (by decide) (Nat.le_of_lt_succ (h _))

/-- From numbers below the table's length, the items' rows are the rows that the numbers name. -/
theorem ownRows_eq (E : S100000x64.Idx → EReal) (a : IVec S4096 32) (h : ∀ i, (a i).toNat < 100000) :
    ownRows E a = fun y => E (ix2 (rowOf (a (ix1 (y 0)))) (y 1)) := by
  have hw := wrapped (n := 100000) (by decide) a (broadcastInDim S4096 ![] bcast_S_S4096 (constantI S_ 32 0#32)) (broadcastInDim S4096 ![] bcast_S_S4096 (constantI S_ 32 100000#32)) (fun _ => rfl) h
  have hr := fun j => Host.reduce_andi_one _ (constantI S_ 1 1#1) reducesTo_S4096x1_S4096_d1 h_S_ j rfl (own_within a h)
  unfold ownRows ownNumbers
  rw [hw]
  funext y
  have hg := gather1_apply E (broadcastInDim S4096x1 ![0] bcast_S4096_S4096x1_0 a) y (h _)
  refine (select_of_one _ _ _ y ?_).trans (Eq.trans hg ?_)
  · exact hr _
  · pointwise

/-- And so are the neighbours'. -/
theorem neighbourRows_eq (E : S100000x64.Idx → EReal) (a : IVec S4096x10 32) (h : ∀ i, (a i).toNat < 100000) :
    neighbourRows E a = fun y => E (ix2 (rowOf (a (ix2 (y 0) (y 1)))) (y 2)) := by
  have hw := wrapped (n := 100000) (by decide) a (broadcastInDim S4096x10 ![] bcast_S_S4096x10 (constantI S_ 32 0#32)) (broadcastInDim S4096x10 ![] bcast_S_S4096x10 (constantI S_ 32 100000#32)) (fun _ => rfl) h
  have hr := fun j => Host.reduce_andi_one _ (constantI S_ 1 1#1) reducesTo_S4096x10x1_S4096x10_d2 h_S_ j rfl (neighbour_within a h)
  unfold neighbourRows neighbourNumbers
  rw [hw]
  funext y
  have hg := gather2_apply E (broadcastInDim S4096x10x1 ![0, 1] bcast_S4096x10_S4096x10x1_0_1 a) y (h _)
  refine (select_of_one _ _ _ y ?_).trans (Eq.trans hg ?_)
  · exact hr _
  · pointwise

/-! ## The result -/

/-- The reference's blend of rows, at an element. -/
theorem blend_apply (R : FVec Ideal S4096x64 .f32) (N : FVec Ideal S4096x10x64 .f32) (w : FVec Ideal S8x512x10 .f32) (y : S4096x64.Idx) :
    addf (mulf (broadcastInDim S4096x64 ![] bcast_S_S4096x64 (constant S_ .f32 0x3F333333#32)) R)
      (mulf (broadcastInDim S4096x64 ![] bcast_S_S4096x64 (constant S_ .f32 0x3E99999A#32)) (Host.reduceAdd (mulf (broadcastInDim S4096x10x64 ![0, 1, 2]
        bcast_S4096x10x1_S4096x10x64_0_1_2 (broadcastInDim S4096x10x1 ![0, 1] bcast_S4096x10_S4096x10x1_0_1
          (shapeCast S4096x10 w shapeCasts_S8x512x10_S4096x10))) N) (constant S_ .f32 0x00000000#32) reducesTo_S4096x10x64_S4096x64_d1 h_S_)) y
    = Ideal.ofBits .f32 0x3F333333#32 * R y + Ideal.ofBits .f32 0x3E99999A#32 *
        ∑ j : Fin 10, shapeCast S4096x10 w shapeCasts_S8x512x10_S4096x10 (ix2 (y 0) j) * N (ix3 (y 0) j (y 1)) := by
  pointwise

/-- The weights and the neighbours' numbers, ten to an item. -/
theorem rows_of_ten {α : Type} (w : S8x512x10.Idx → α) (i : Fin 4096) (j : Fin 10) :
    shapeCast S4096x10 w shapeCasts_S8x512x10_S4096x10 (ix2 i j) = w (ix3 ⟨i.val / 512, by omega⟩ ⟨i.val % 512, by omega⟩ j) := by
  refine shapeCast_apply _ _ _ _ ?_
  rw [Shape.rowMajor_val_two, Shape.rowMajor_val_three]
  show (i.val / 512 * 512 + i.val % 512) * 10 + j.val = i.val * 10 + j.val
  omega

/-- What the reference leaves in its result, from numbers below the table's length. -/
theorem res_eq (m : (ℓ : Loc nD τ sig) → Buf (Elt Ideal) ℓ) (c : Dev nD)
    (h0 : ∀ i, ((m (c, main_arg0) : S4096.Idx → BitVec 32) i).toNat < 100000)
    (h2 : ∀ i, ((m (c, main_arg2) : S8x512x10.Idx → BitVec 32) i).toNat < 100000) :
    Value.res_main_v12 m c = enhanced (m (c, main_arg0)) (m (c, main_arg1)) (m (c, main_arg2)) (m (c, main_arg3)) := by
  have e1 := ownRows_eq (m (c, main_arg1)) (m (c, main_arg0)) h0
  have e2 := neighbourRows_eq (m (c, main_arg1)) (shapeCast S4096x10 (m (c, main_arg2) : S8x512x10.Idx → BitVec 32) shapeCasts_S8x512x10_S4096x10) (fun i => h2 (Shape.reshapeEquiv shapeCasts_S8x512x10_S4096x10 i))
  have e : Value.res_main_v12 m c = addf (F := Ideal) (mulf (broadcastInDim S4096x64 ![] bcast_S_S4096x64 (constant S_ .f32 0x3F333333#32))
        (ownRows (m (c, main_arg1)) (m (c, main_arg0))))
      (mulf (broadcastInDim S4096x64 ![] bcast_S_S4096x64 (constant S_ .f32 0x3E99999A#32)) (Host.reduceAdd (mulf (broadcastInDim S4096x10x64 ![0, 1, 2]
        bcast_S4096x10x1_S4096x10x64_0_1_2 (broadcastInDim S4096x10x1 ![0, 1] bcast_S4096x10_S4096x10x1_0_1
          (shapeCast S4096x10 (m (c, main_arg3) : S8x512x10.Idx → Elt Ideal .f32) shapeCasts_S8x512x10_S4096x10)))
        (neighbourRows (m (c, main_arg1)) (shapeCast S4096x10 (m (c, main_arg2) : S8x512x10.Idx → BitVec 32) shapeCasts_S8x512x10_S4096x10)))
        (constant S_ .f32 0x00000000#32) reducesTo_S4096x10x64_S4096x64_d1 h_S_)) := rfl
  rw [e, e1, e2]
  funext y
  refine (blend_apply _ _ _ y).trans ?_
  refine congrArg₂ (fun a b : EReal => a + b) rfl (congrArg (fun s : EReal => Ideal.ofBits .f32 0x3E99999A#32 * s) (Finset.sum_congr rfl fun j _ => ?_))
  exact congrArg₂ (fun a b : EReal => a * b) (rows_of_ten (α := EReal) (m (c, main_arg3)) (y 0) j)
    (congrArg (fun v => (m (c, main_arg1) : S100000x64.Idx → EReal) (ix2 (rowOf v) (y 1))) (rows_of_ten (α := BitVec 32) (m (c, main_arg2)) (y 0) j))

end Cert.Proof.Ref

end
-- ==== Proof.Algebraic.lean ====
/-
  Over the extended reals the kernel and the reference leave the same result, from item numbers and neighbours' numbers below
  the table's length.
-/
module

public import proofs.«01_k».proof.Proof.Value
public import proofs.«01_k».proof.Proof.RefValue
public import proofs.«01_k».proof.Proof.Frames
public import proofs.«01_k».proof.Defs

@[expose] public section

noncomputable section

namespace Cert.Proof

open Idealize.ShloMosaic Idealize.SL.Sem
open Idealize.ShloMosaic.TcCoe

/-- The kernel and the reference, run from equal arguments within the precondition, end with equal results, their arguments
    unchanged. -/
theorem algebraic : Cert.algebraic_KernelIdeal_ReferenceIdeal := by
  intro m g m' g' hpre hargs
  have hn := fun c => numbers_lt _ _ _ _ (hpre c)
  refine ⟨fun c => out m c, ?_, ?_⟩
  · exact (θ_run Cert.KernelIdeal.defs _ _).mono (fun _ h => h.1) (run_main (F := Ideal) m g (ok_kernelIdeal m hpre))
  · refine (θ_run Cert.ReferenceIdeal.defs _ _).mono (fun r h c => ⟨(h c).1.trans ?_, (h c).2⟩) (Cert.ReferenceIdeal.Value.run (F := Ideal) m' g')
    obtain ⟨e0, e1, e2, e3⟩ := hargs c
    have h0 := (hn c).1
    have h2 := (hn c).2
    refine Eq.trans (Ref.res_eq m' c (fun i => ?_) (fun i => ?_)) ?_
    · exact (congrArg (fun a : Cert.KernelIdeal.S4096.Idx → BitVec 32 => (a i).toNat) e0).trans_lt (h0 i)
    · exact (congrArg (fun a : Cert.KernelIdeal.S8x512x10.Idx → BitVec 32 => (a i).toNat) e2).trans_lt (h2 i)
    · refine Eq.trans ?_ (out_eq m c h0 h2).symm
      exact congr (congr (congr (congrArg enhanced e0) e1) e2) e3

end Cert.Proof

end
-- ==== Proof.Chunks.Base.lean ====
/-
  The gather of score chunks, a program of its own: as the launch theorem sees it, its resource algebra, and two rules for
  a tile's streams — the indirect gather into one slot of the row scratch, and the pair "wait for a slot's gather, copy the
  slot out to its chunk of the result".
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.ChunksIdeal
public import proofs.«01_k».proof.Proof.Gen.ChunksIdeal.Skeleton
public import proofs.«01_k».proof.Proof.Gen.Chunks
public import proofs.«01_k».proof.Proof.Gen.Pre_chunks_in_range
public import proofs.«01_k».proof.Proof.Gen.ChunksReferenceIdeal

@[expose] public section

noncomputable section

namespace Cert.Proof.Chunks

open Cert.ChunksIdeal Cert.ChunksIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq (q : Fin 1) : (K (F := F)).nSub q = 16 := match q with | 0 => rfl
theorem nCore_eq (q : Fin 1) : (K (F := F)).nCore q = 2 := match q with | 0 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun q => match q with | 0 => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

/-! ## What a tile owes while it runs -/

/-- The tile owes `O` throughout, having waited for what `W` lists and for its own transfers besides. -/
def Owing (thr : Thread nD τ) (O : CellTallies nD τ sig (HIx 1)) (W : Waits sig (HIx 1)) : sProp 𝕄 :=
  iprop(∃ W', ⌜∀ p ∈ W', p ∈ W ∨ p.2 = none⌝ ∗ owes thr O W')

theorem Owing.start {thr : Thread nD τ} {O : CellTallies nD τ sig (HIx 1)} {W : Waits sig (HIx 1)} :
    (owes thr O W : sProp 𝕄) ⊢ Owing thr O W := by
  unfold Owing
  iintro H; iexists W; isplitr
  · ipureintro; exact fun _ h => .inl h
  · iexact H

/-- A wait for a transfer of the tile's own, from its flight: what the transfer delivers, and the counter back at zero. -/
theorem wp_await {c : Fin τ.nSC} {i : Fin τ.nSub} {d : Dev nD} {O : CellTallies nD τ sig (HIx 1)} {W : Waits sig (HIx 1)}
    (hO : ∀ g, O g none = 0) {sp sp' : Space} {s s' : Shape} {e e' : EltTy} {sem : DmaSem sig} {κ' : Kind}
    {srcw : Memref sig (V d c i).2.kind sp s' e'} {dstw : Memref sig κ' sp' s e} {hsrc : srcw.view.WordExact} {hdst : dstw.view.WordExact}
    {N : ℕ} (hN : dstw.view.dmaCredit = N) {R : sProp 𝕄} {Q : PUnit → sProp 𝕄} :
    iprop(levAts (K (F := F)).L (K (F := F)).lev ∗ Transfers.Flight countersEmb (V d c i) (.dma sem) (default : HIx 1) N R ∗ Owing (V d c i) O W)
      ⊢ iprop((iprop(R ∗ semVal (V d c i, .dma sem) 0 ∗ Owing (V d c i) O W) -∗ Q ⟨⟩)
          -∗ wp frame (wpE (defs₀ (F := F)) 𝒱₀ (V d c i) none) Set.univ (.op (.waitDma2 sem srcw dstw hsrc hdst) fun _ => .ret ⟨⟩) Q) := by
  unfold Owing
  iintro ⟨Hlv, Hfl, %W', %hW', HO⟩ Hk
  ihave Hmw := (show levAts (K (F := F)).L (K (F := F)).lev ⊢ Transfers.MayWaits (V d c i) (default : HIx 1) O from
    (K (F := F)).mayWaits_none (thr := V d c i) hO) $$ Hlv
  iapply (Transfers.wp_waitLocalO countersEmb 𝒱₀ (V d c i) none (default : HIx 1) hN) $$ [Hfl HO Hmw]
  · isplitl [Hfl]; · iexact Hfl
    isplitl [HO]; · iexact HO
    iapply (Transfers.MayWaits.elim (SemLoc.dma sem)) $$ Hmw
  iintro ⟨HR, Hs, HO⟩
  rw [wp_ret]
  imodintro
  iapply Hk
  isplitl [HR]; · iexact HR
  isplitl [Hs]; · iexact Hs
  iexists _; isplitr
  swap; · iexact HO
  ipureintro; intro p hp
  rcases Finset.mem_insert.mp hp with hp | hp; · exact .inr (hp ▸ rfl)
  exact hW' p hp

/-! ## A slot's gather -/

section Slot

variable {c : Fin τ.nSC} {i : Fin τ.nSub} {d : Dev nD} {s₀ s si : Shape} {a : Nat} {e : EltTy}

/-- A slot whose gather has landed: it reads the rows `p`, and the shares of the table and of the row numbers are back. -/
def Landed (src : Memref sig (V d c i).2.kind .hbm s₀ e) (dst : Memref sig (V d c i).2.kind .vmem s e) (offs : Memref sig (V d c i).2.kind .vmem si .i32)
    (q qo : PosShare TreeShare) (fs : Buf (Elt F) (src.view.loc (V d c i))) (fo : Buf (Elt F) (offs.view.loc (V d c i))) (p : s.Idx → Elt F e) : sProp 𝕄 :=
  iprop((∃ f, ⌜dst.view.read (Elt F) f = p⌝ ∗ (dst.view.loc (V d c i) ↦[dst.view.set]{fullShare} f))
    ∗ (src.view.loc (V d c i) ↦{q} fs) ∗ (offs.view.loc (V d c i) ↦{qo} fo))

/-- A slot free for a gather: it holds anything, with a share of the table, one of the row numbers, and its counter at zero. -/
def Ready (src : Memref sig (V d c i).2.kind .hbm s₀ e) (dst : Memref sig (V d c i).2.kind .vmem s e) (offs : Memref sig (V d c i).2.kind .vmem si .i32)
    (sem : DmaSem sig) (q qo : PosShare TreeShare) (fs : Buf (Elt F) (src.view.loc (V d c i))) (fo : Buf (Elt F) (offs.view.loc (V d c i))) : sProp 𝕄 :=
  iprop((∃ f, (dst.view.loc (V d c i) ↦[dst.view.set]{fullShare} f))
    ∗ (src.view.loc (V d c i) ↦{q} fs) ∗ (offs.view.loc (V d c i) ↦{qo} fo) ∗ semVal (V d c i, .dma sem) 0)

/-- The gather's issue: the slot is in flight, and will read `p`: at row `r` the table's row whose number the list holds at `r`. -/
theorem wp_issue {src : Memref sig (V d c i).2.kind .hbm s₀ e} {dst : Memref sig (V d c i).2.kind .vmem s e} {hg : s₀.Gathers a s}
    {offs : Memref sig (V d c i).2.kind .vmem si .i32} {hn : si.numel = s.size hg.axis'} {sem : DmaSem sig}
    {hp : (V d c i).2.kind = .scVector} {hsrc : src.view.WordExact} {he : e.bits = 32} {hsp : Space.hbm = .hbm ∨ Space.hbm = .shared} {hr : s₀.StreamRows a}
    {q qo : PosShare TreeShare} {fs : Buf (Elt F) (src.view.loc (V d c i))} {fo : Buf (Elt F) (offs.view.loc (V d c i))} {Q : PUnit → sProp 𝕄}
    (N : ℕ) (hN : ∑ j, (dst.slice (s.rowRect hg.axis' j) (s.stride_rowRect hg.axis' j)).view.dmaCredit = N)
    (hs : 0 < s.numel) (hin : ∀ x, (offs.view.read (Elt F) fo x).toNat < s₀.size hg.axis) (p : s.Idx → Elt F e)
    (hval : SparseCore.gatherPayload hg (src.view.read (Elt F) fs) (SparseCore.rows (offs.view.read (Elt F) fo) hn hin) = p) :
    Ready src dst offs sem q qo fs fo
      ⊢ iprop((Transfers.Flight countersEmb (V d c i) (.dma sem) (default : HIx 1) N (Landed src dst offs q qo fs fo p) -∗ Q ⟨⟩)
          -∗ wp frame (wpE (defs₀ (F := F)) 𝒱₀ (V d c i) none) Set.univ (SparseCore.enqueueIndirectGather hp src dst hg offs hn sem hsrc he hsp hr) Q) := by
  unfold Ready
  iintro ⟨⟨%f, Hd⟩, Hs, Ho, Hv⟩ Hk
  ihave Hs' := (pointsTo_split_subset (q := q) (f := fs) (S := Finset.univ) (Finset.subset_univ src.view.set)).1 $$ Hs
  icases Hs' with ⟨Hs, Hsr⟩
  ihave Ho' := (pointsTo_split_subset (q := qo) (f := fo) (S := Finset.univ) (Finset.subset_univ offs.view.set)).1 $$ Ho
  icases Ho' with ⟨Ho, Hor⟩
  rw [show (SparseCore.enqueueIndirectGather hp src dst hg offs hn sem hsrc he hsp hr : Prog (TpuEff nD τ sig (Elt F) Λ₀ (V d c i).2) PUnit)
    = SparseCore.enqueueIndirectGather hp src dst hg offs hn sem hsrc he hsp hr >>= fun _ => .ret ⟨⟩ from rfl]
  iapply (SparseCore.wp_indirectGatherLocal countersEmb 𝒱₀ (V d c i) none (hg := hg) (default : HIx 1) N hN hs hin) $$ [Hs Hd Ho Hv]
  · isplitl [Hs]; · iexact Hs
    isplitl [Hd]; · iexact Hd
    isplitl [Ho]; · iexact Ho
    iexact Hv
  iintro Hfl
  rw [wp_ret]
  imodintro
  iapply Hk
  iapply (Transfers.Flight_mono countersEmb (V d c i) (D := iprop((((src.view.loc (V d c i)) ↦[Finset.univ \ src.view.set]{q} fs)
      ∗ ((offs.view.loc (V d c i)) ↦[Finset.univ \ offs.view.set]{qo} fo)) ∗ _)) ?_)
  rotate_left
  · iapply (Transfers.Flight_frame countersEmb (V d c i))
    isplitl [Hsr Hor]
    · isplitl [Hsr]; · iexact Hsr
      iexact Hor
    · iexact Hfl
  unfold Landed
  iintro ⟨⟨Hsr, Hor⟩, Hd, Hs, Ho⟩
  isplitl [Hd]
  · iexists _; isplitr
    swap; · iexact Hd
    ipureintro
    rw [View.read_write_univ]; exact hval
  isplitl [Hs Hsr]
  · iapply (pointsTo_split_subset (q := q) (f := fs) (S := Finset.univ) (Finset.subset_univ src.view.set)).2
    isplitl [Hs] <;> iassumption
  · iapply (pointsTo_split_subset (q := qo) (f := fo) (S := Finset.univ) (Finset.subset_univ offs.view.set)).2
    isplitl [Ho] <;> iassumption

/-- A chunk of the result still to be written, and the counter of its copy. -/
def Todo (chunk : Memref sig (V d c i).2.kind .hbm s e) (sc : DmaSem sig) (g : Buf (Elt F) (chunk.view.loc (V d c i))) : sProp 𝕄 :=
  iprop((chunk.view.loc (V d c i) ↦[chunk.view.set]{fullShare} g) ∗ semVal (V d c i, .dma sc) 0)

/-- One turn of the loop: wait for the slot's gather, copy the slot out to the chunk, wait for the copy. The chunk then
    holds what the result `G` has there, and the slot is free again. -/
theorem wp_turn {O : CellTallies nD τ sig (HIx 1)} {W : Waits sig (HIx 1)} (hO : ∀ g, O g none = 0)
    {src : Memref sig (V d c i).2.kind .hbm s₀ e} {dst : Memref sig (V d c i).2.kind .vmem s e} {offs : Memref sig (V d c i).2.kind .vmem si .i32}
    {sem sc : DmaSem sig} {q qo : PosShare TreeShare} {fs : Buf (Elt F) (src.view.loc (V d c i))} {fo : Buf (Elt F) (offs.view.loc (V d c i))}
    {p : s.Idx → Elt F e} {N : ℕ} (hN : dst.view.dmaCredit = N) (hN' : 0 < dst.view.dmaCredit)
    {srcw : Memref sig (V d c i).2.kind .hbm s₀ e} {hw₁ : srcw.view.WordExact} {hw₂ : dst.view.WordExact}
    {chunk : Memref sig (V d c i).2.kind .hbm s e} {h₁ : dst.view.WordExact} {h₂ : chunk.view.WordExact}
    {h₃ : DmaTarget.Typed (nD := nD) .vmem (.dma sc) (.here chunk)} {h₄ : dst.view.WordExact} {h₅ : chunk.view.WordExact}
    (hC : 0 < chunk.view.dmaCredit)
    (g G : Buf (Elt F) (chunk.view.loc (V d c i))) (hG : chunk.view.read (Elt F) G = p) {Q : PUnit → sProp 𝕄} :
    iprop(levAts (K (F := F)).L (K (F := F)).lev
        ∗ Transfers.Flight countersEmb (V d c i) (.dma sem) (default : HIx 1) N (Landed src dst offs q qo fs fo p)
        ∗ Todo chunk sc g ∗ Owing (V d c i) O W)
      ⊢ iprop((iprop(Ready src dst offs sem q qo fs fo ∗ Todo chunk sc G ∗ Owing (V d c i) O W) -∗ Q ⟨⟩)
          -∗ wp frame (wpE (defs₀ (F := F)) 𝒱₀ (V d c i) none) Set.univ (SparseCore.waitIndirectGather sem srcw dst hw₁ hw₂) fun _ =>
            wp frame (wpE (defs₀ (F := F)) 𝒱₀ (V d c i) none) Set.univ (Prog.lift (.enqueueDma dst (.here chunk) (.dma sc) h₁ h₂ h₃)) fun _ =>
            wp frame (wpE (defs₀ (F := F)) 𝒱₀ (V d c i) none) Set.univ (Prog.lift (.waitDma2 sc dst chunk h₄ h₅)) Q) := by
  unfold Todo
  iintro ⟨#Hlv, Hfl, ⟨Hc, Hcs⟩, HO⟩ Hk
  unfold SparseCore.waitIndirectGather
  iapply (wp_await hO hN) $$ [Hfl HO]
  · isplitr; · iexact Hlv
    isplitl [Hfl]; · iexact Hfl
    iexact HO
  unfold Landed
  iintro ⟨⟨⟨%f, %hf, Hd⟩, Hs, Ho⟩, Hv, HO⟩
  iapply (Transfers.wp_dmaLocal countersEmb 𝒱₀ (V d c i) none (default : HIx 1) chunk.view.dmaCredit rfl hC (Finset.Subset.refl _)) $$ [Hd Hc Hcs]
  · isplitl [Hd]; · iexact Hd
    isplitl [Hc]; · iexact Hc
    iexact Hcs
  iintro Hfl
  rw [wp_ret]
  imodintro
  iapply (wp_await hO rfl) $$ [Hfl HO]
  · isplitr; · iexact Hlv
    isplitl [Hfl]; · iexact Hfl
    iexact HO
  iintro ⟨⟨Hc, Hd⟩, Hcs, HO⟩
  iapply Hk
  unfold Ready
  isplitl [Hd Hs Ho Hv]
  · isplitl [Hd]; · iexists f; iexact Hd
    isplitl [Hs]; · iexact Hs
    isplitl [Ho]; · iexact Ho
    iexact Hv
  isplitl [Hc Hcs]
  · isplitl [Hc]
    · iapply (Entails.of_eq (pointsTo_congr (fun j hj => ?_))) $$ Hc
      obtain ⟨x, -, rfl⟩ := Finset.mem_map.mp hj
      have hx := congrFun hG x
      rw [View.read_apply] at hx
      rw [View.write_emb_of_mem _ _ (Finset.mem_univ x), ReadAs.apply_same, hf, ← hx, cast_cast, cast_eq]
    · iexact Hcs
  iexact HO

end Slot

/-- The third of four first. -/
theorem sep_third {A B C E : sProp 𝕄} : iprop(A ∗ B ∗ C ∗ E) = iprop(C ∗ A ∗ B ∗ E) := by
  refine BI.Entails.antisymm (show iprop(A ∗ B ∗ C ∗ E) ⊢ iprop(C ∗ A ∗ B ∗ E) from ?_) (show iprop(C ∗ A ∗ B ∗ E) ⊢ iprop(A ∗ B ∗ C ∗ E) from ?_)
  · iintro ⟨H1, H2, H3, H4⟩
    isplitl [H3]; · iexact H3
    isplitl [H1]; · iexact H1
    isplitl [H2]; · iexact H2
    iexact H4
  · iintro ⟨H3, H1, H2, H4⟩
    isplitl [H1]; · iexact H1
    isplitl [H2]; · iexact H2
    isplitl [H3]; · iexact H3
    iexact H4

/-! ## What a subcore owns, taken apart and put together -/

section Own

variable {c : Fin τ.nSC} {i : Fin τ.nSub} {d : Dev nD}

/-- A family of a tile's own counters, out of all its counters. -/
theorem ownSems0_family {n : ℕ} (sem : Fin n → DmaSem sig) (inj : Function.Injective sem)
    (hs : ∀ k, (SemLoc.dma (sem k) : SemLoc sig).isScoped .scVector = true) :
    (ownSems0 (V d c i) : sProp 𝕄)
      = iprop(bigSep Finset.univ (fun k => semVal (V d c i, .dma (sem k)) 0)
          ∗ bigSep (ownCells (V d c i) \ Finset.univ.image fun k => ((V d c i, .dma (sem k)) : GSem nD τ sig)) fun g => semVal g 0) := by
  unfold SparseCore.Cfg.ownSems0
  rw [SparseCore.bigSep_sdiff_split' (t := Finset.univ.image fun k => ((V d c i, .dma (sem k)) : GSem nD τ sig)) fun g hg => by
      obtain ⟨k, -, rfl⟩ := Finset.mem_image.mp hg
      exact mem_ownCells.mpr ⟨rfl, hs k⟩,
    SparseCore.bigSep_image_of_injOn fun k _ k' _ h => inj (by simpa using h)]

/-- Two of a tile's own buffers, out of all its buffers. -/
theorem ownBufs_pair (a b : Ref sig .scVector) (hab : b ≠ a) (ha : ((Proc.scVector c i).devRef a).owner = .proc (.scVector c i))
    (hb : ((Proc.scVector c i).devRef b).owner = .proc (.scVector c i)) :
    (ownBufs (V d c i) : sProp 𝕄)
      = iprop((∃ f, (V d c i).loc a ↦{fullShare} f) ∗ (∃ f, (V d c i).loc b ↦{fullShare} f)
          ∗ bigSep (((ownRefs (τ := τ) (.scVector c i)).erase ((Proc.scVector c i).devRef a)).erase ((Proc.scVector c i).devRef b))
              fun r => iprop(∃ f, ((d, r) : Loc nD τ sig) ↦{fullShare} f)) := by
  unfold SparseCore.Cfg.ownBufs
  refine (SparseCore.bigSep_erase' (SparseCore.Cfg.mem_ownRefs_of_owner ha)).trans ?_
  rw [SparseCore.bigSep_erase' (Finset.mem_erase.mpr ⟨fun e => absurd (Proc.devRef_injective _ e) hab, SparseCore.Cfg.mem_ownRefs_of_owner hb⟩)]

/-- Disjoint parts of a buffer, each at some contents, are their union at some contents. -/
theorem pointsTo_join {ℓ : Loc nD τ sig} {I : Type} [Fintype I] [DecidableEq I] (Kf : I → Finset (Idx ℓ)) (f₀ : Buf (Elt F) ℓ)
    (hd : ∀ t t', t ≠ t' → Disjoint (Kf t) (Kf t')) (hc : Finset.univ.biUnion Kf = Finset.univ) :
    bigSep Finset.univ (fun t => iprop(∃ f, ℓ ↦[Kf t]{fullShare} f)) ⊢ (iprop(∃ f, ℓ ↦{fullShare} f) : sProp 𝕄) := by
  haveI : Inhabited (Buf (Elt F) ℓ) := ⟨f₀⟩
  refine (bigSep_exists_pi _ _).trans ?_
  iintro ⟨%fs, H⟩
  ihave H := (pointsTo_biUnion_join Finset.univ Kf fs f₀ fun t _ t' _ h => hd t t' h) $$ H
  icases H with ⟨%g, -, H⟩
  iexists g
  rw [hc]
  iexact H

end Own

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide]
  rw [SparseCore.bigSep_insert' (by decide), SparseCore.bigSep_insert' (by decide), SparseCore.bigSep_insert' (by decide), bigSep_singleton]

theorem bigSep_sixteen (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  iterate 15 rw [SparseCore.bigSep_insert' (by decide)]
  rw [bigSep_singleton]

end Cert.Proof.Chunks

end
-- ==== Proof.Chunks.Tile.lean ====
/-
  The task of the gather of score chunks on one vector subcore: where its pieces lie, and what its streams read.
-/
module

public import proofs.«01_k».proof.Proof.Chunks.Base
public import Idealize.ShloMosaic.Lib.ValueIdxCore

@[expose] public section

noncomputable section

namespace Cert.Proof.Chunks

open Cert.ChunksIdeal Cert.ChunksIdeal.Gen Cert.Proof

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

abbrev tLoc (d : Dev nD) : Loc nD τ sig := (SparseCore.T d).loc main_v0
abbrev iLoc (d : Dev nD) : Loc nD τ sig := (SparseCore.T d).loc main_v2
abbrev oLoc (d : Dev nD) : Loc nD τ sig := (SparseCore.T d).loc main_v3

local notation "tV" => (Memref.whole Cert.ChunksIdeal.main_v0_scv : Memref Cert.ChunksIdeal.sig Kind.scVector Space.hbm Cert.ChunksIdeal.S3211264x128 EltTy.f32)
local notation "iV" => (Memref.whole Cert.ChunksIdeal.main_v2_scv : Memref Cert.ChunksIdeal.sig Kind.scVector Space.hbm Cert.ChunksIdeal.S512x80 EltTy.i32)
local notation "oV" => (Memref.whole Cert.ChunksIdeal.main_v3_scv : Memref Cert.ChunksIdeal.sig Kind.scVector Space.hbm Cert.ChunksIdeal.S40960x128 EltTy.f32)
local notation "sV" => (Memref.whole Cert.ChunksIdeal.cc0_scratch0 : Memref Cert.ChunksIdeal.sig Kind.scVector Space.vmem Cert.ChunksIdeal.S16x80 EltTy.i32)
local notation "rV" => (Memref.whole Cert.ChunksIdeal.cc0_scratch1 : Memref Cert.ChunksIdeal.sig Kind.scVector Space.vmem Cert.ChunksIdeal.S4x80x128 EltTy.f32)

/-! ## The pieces: which task takes which -/

theorem idiv : 32 ∣ S512x80.size 0 := ⟨16, rfl⟩
theorem odiv : 512 ∣ S40960x128.size 0 := ⟨80, rfl⟩
theorem rdiv : 4 ∣ S4x80x128.size 0 := ⟨1, rfl⟩

/-- Task `w`'s rows of the row numbers, and chunk `k` of its rows of the result. -/
abbrev iSet (w : Fin 32) : Finset S512x80.Idx := (Rect.part (s := S512x80) (a₀ := 0) idiv w).set
abbrev oSet (w : Fin 32) (k : Fin 16) : Finset S40960x128.Idx :=
  (Rect.part (s := S40960x128) (a₀ := 0) odiv ⟨16 * w.val + k.val, by omega⟩).set
abbrev rSet (s : Fin 4) : Finset S4x80x128.Idx := (Rect.part (s := S4x80x128) (a₀ := 0) rdiv s).set

variable (L : grid0.Coords)

abbrev cV : Fin τ.nSC := (L 0).castLE hcore0
abbrev jV : Fin τ.nSub := (L 1).castLE hsub0
theorem c_lt : (L 0).val < 2 := (L 0).isLt
theorem s_lt : (L 1).val < 16 := (L 1).isLt

/-- The task's number: two tasks to a subcore's number, one per SparseCore. -/
abbrev wid : Fin 32 := ⟨2 * (L 1).val + (L 0).val, by have := c_lt L; have := s_lt L; omega⟩

/-! ## The references the task names -/

theorem inb_slot : ∀ (s : Fin 4) (a : Fin 3), (![s.val, 0, 0] : Fin 3 → Nat) a + S1x80x128.size a ≤ S4x80x128.size a := by decide
theorem inb_row : ∀ (k : Fin 16) (a : Fin 2), (![k.val, 0] : Fin 2 → Nat) a + S1x80.size a ≤ S16x80.size a := by decide

abbrev tabM : Memref sig .scVector .hbm S3211264x128 .f32 :=
  (tV).slice (Rect.unit (s := S3211264x128) ![0, 0] S3211264x128.size inb_S3211264x128_S3211264x128_0_0) (fun _ => rfl)
abbrev partM : Memref sig .scVector .hbm S16x80 .i32 := (iV).slice (Rect.unit (s := S512x80) (k0_off1 L) S16x80.size (k0_off1_inb L)) (fun _ => rfl)
abbrev chunkM (k : Fin 16) : Memref sig .scVector .hbm S80x128 .f32 :=
  (oV).slice (Rect.unit (s := S40960x128) (k0_off2 L (BitVec.ofNat 32 (80 * k.val))) S80x128.size (k0_off2_inb L k)) (fun _ => rfl)
abbrev slotM (s : Fin 4) : Memref sig .scVector .vmem S80x128 .f32 :=
  ((rV).slice (Rect.unit (s := S4x80x128) ![s.val, 0, 0] S1x80x128.size (inb_slot s)) (fun _ => rfl)).squeeze S80x128 squeezes_S1x80x128_S80x128
abbrev rowM (k : Fin 16) : Memref sig .scVector .vmem S80 .i32 :=
  ((sV).slice (Rect.unit (s := S16x80) ![k.val, 0] S1x80.size (inb_row k)) (fun _ => rfl)).squeeze S80 squeezes_S1x80_S80

theorem set_partM : (partM L).view.set = iSet (wid L) := by
  show ((View.whole (main_v2_scv : Ref sig .scVector)).slice _).set = _
  rw [View.set_slice]
  refine Finset.map_refl.trans (congrArg (fun r : Rect _ => r.set) ?_)
  unfold Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]

theorem set_chunkM (k : Fin 16) : (chunkM L k).view.set = oSet (wid L) k := by
  show ((View.whole (main_v3_scv : Ref sig .scVector)).slice _).set = _
  rw [View.set_slice]
  refine Finset.map_refl.trans (congrArg (fun r : Rect _ => r.set) ?_)
  unfold Rect.part Rect.block
  congr 1 <;> funext a
  · rw [k0_off2_eq]
    match a with
    | 0 => simp [Shape.partIx, Shape.partSize]; omega
    | 1 => simp [Shape.partIx, Shape.partSize]
  · match a with
    | 0 => simp [Shape.partSize]
    | 1 => simp [Shape.partSize]

theorem set_slotM (s : Fin 4) : (slotM s).view.set = rSet s := by
  show (((View.whole (cc0_scratch1 : Ref sig .scVector)).slice (Rect.unit (s := S4x80x128) ![s.val, 0, 0] S1x80x128.size (inb_slot s))).reshape S80x128 squeezes_S1x80x128_S80x128.numel_eq).set = _
  rw [View.set_reshape, View.set_slice]
  refine Finset.map_refl.trans (congrArg (fun r : Rect _ => r.set) ?_)
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-! ## The value -/

/-- The gathered rows: row `r` of the result is the row of the table whose number stands `r`-th in the list. -/
def gathered (t : S3211264x128.Idx → Elt F .f32) (n : S512x80.Idx → Elt F .i32) : S40960x128.Idx → Elt F .f32 := fun j =>
  t (ix2 ⟨(n (ix2 ⟨(j 0).val / 80, by have := idx2_lt0 j; omega⟩ ⟨(j 0).val % 80, Nat.mod_lt _ (by decide)⟩)).toNat % 3211264, Nat.mod_lt _ (by decide)⟩ (j 1))

/-- The list's scratch, after the fetch, holds the task's rows of the row numbers. -/
def Fetched (n : S512x80.Idx → Elt F .i32) (fo : S16x80.Idx → Elt F .i32) : Prop :=
  ∀ y : S16x80.Idx, fo y = n (ix2 ⟨16 * (wid L).val + (y 0).val, by have := (wid L).isLt; have := idx2_lt0 y; omega⟩ (y 1))

theorem emb_rowM (k : Fin 16) (x : S80.Idx) : (rowM k).view.emb x = ix2 k (x 0) := by
  show (Rect.unit (s := S16x80) ![k.val, 0] S1x80.size (inb_row k)).emb (Shape.reshapeEquiv squeezes_S1x80_S80.numel_eq x) = _
  rw [Shape.reshapeEquiv_eq_of_rowMajor (y := (ix2 (0 : Fin 1) (x 0) : S1x80.Idx)) _ (by
    rw [Shape.rowMajor_val_two, Shape.rowMajor_val_one]; simp)]
  funext a
  match a with
  | 0 => exact Fin.ext (by simp [Rect.emb_apply])
  | 1 => exact Fin.ext (by simp [Rect.emb_apply])

theorem read_rowM (k : Fin 16) (fo : S16x80.Idx → Elt F .i32) (x : S80.Idx) : (rowM k).view.read (Elt F) fo x = fo (ix2 k (x 0)) := by
  rw [View.read_apply, emb_rowM]; rfl

theorem emb_tabM (x : S3211264x128.Idx) : tabM.view.emb x = x := by
  show (Rect.unit (s := S3211264x128) ![0, 0] S3211264x128.size inb_S3211264x128_S3211264x128_0_0).emb x = x
  funext a
  match a with
  | 0 => exact Fin.ext (by simp [Rect.emb_apply])
  | 1 => exact Fin.ext (by simp [Rect.emb_apply])

theorem emb_chunkM (k : Fin 16) (x : S80x128.Idx) :
    (chunkM L k).view.emb x = ix2 ⟨80 * (16 * (wid L).val + k.val) + (x 0).val, by have := (wid L).isLt; have := idx2_lt0 x; omega⟩ (x 1) := by
  show (Rect.unit (s := S40960x128) (k0_off2 L (BitVec.ofNat 32 (80 * k.val))) S80x128.size (k0_off2_inb L k)).emb x = _
  funext a
  match a with
  | 0 => exact Fin.ext (by simp [Rect.emb_apply, k0_off2_eq]; omega)
  | 1 => exact Fin.ext (by simp [Rect.emb_apply, k0_off2_eq])

theorem emb_partM (y : S16x80.Idx) :
    (partM L).view.emb y = ix2 ⟨16 * (wid L).val + (y 0).val, by have := (wid L).isLt; have := idx2_lt0 y; omega⟩ (y 1) := by
  show (Rect.unit (s := S512x80) (k0_off1 L) S16x80.size (k0_off1_inb L)).emb y = _
  funext a
  match a with
  | 0 => exact Fin.ext (by simp [Rect.emb_apply, k0_off1_eq]; omega)
  | 1 => exact Fin.ext (by simp [Rect.emb_apply, k0_off1_eq])

theorem Fetched.inb {n : S512x80.Idx → Elt F .i32} {fo : S16x80.Idx → Elt F .i32} (h : Fetched L n fo) (hn : ∀ j, (n j).toNat < 3211264) (k : Fin 16) :
    ∀ x, ((rowM k).view.read (Elt F) fo x).toNat < S3211264x128.size gathers_S3211264x128_S80x128.axis := by
  intro x
  rw [read_rowM, h]; exact hn _

/-- Chunk `k`'s gather brings what the gathered rows have at the chunk. -/
theorem payload {t : S3211264x128.Idx → Elt F .f32} {n : S512x80.Idx → Elt F .i32} {fo : S16x80.Idx → Elt F .i32} (h : Fetched L n fo)
    (hn : ∀ j, (n j).toNat < 3211264) (k : Fin 16) :
    SparseCore.gatherPayload gathers_S3211264x128_S80x128 (tabM.view.read (Elt F) t)
        (SparseCore.rows ((rowM k).view.read (Elt F) fo) rfl (h.inb L hn k))
      = (chunkM L k).view.read (Elt F) (gathered t n) := by
  funext x
  rw [View.read_apply, emb_chunkM]
  show t (tabM.view.emb _) = t _
  rw [emb_tabM]
  refine congrArg t ?_
  funext a
  match a with
  | 0 =>
    refine Fin.ext ((congrArg Fin.val (Shape.Gathers.idx_axis gathers_S3211264x128_S80x128 _ x)).trans ?_)
    show ((rowM k).view.read (Elt F) fo _).toNat = _ % 3211264
    rw [read_rowM, h, Nat.mod_eq_of_lt (hn _)]
    refine congrArg (fun j => (n j).toNat) ?_
    have hx : ((S80.rowMajor.symm ((x 0).cast rfl)) 0).val = (x 0).val := by
      have := Shape.rowMajor_val_one (S80.rowMajor.symm ((x 0).cast rfl))
      rw [Equiv.apply_symm_apply] at this
      exact this.symm
    have hx0 := idx2_lt0 x
    funext a
    match a with
    | 0 => exact Fin.ext (by show 16 * _ + k.val = (80 * (16 * _ + k.val) + (x 0).val) / 80; omega)
    | 1 => exact Fin.ext (by show _ = (80 * (16 * _ + k.val) + (x 0).val) % 80; refine hx.trans ?_; omega)
  | 1 => rfl

/-! ## The task -/

abbrev credit : ℕ := (slotM 0).view.dmaCredit

theorem slot_wait (s : Fin 4) : (slotM s).view.dmaCredit = credit := by
  match s with
  | 0 => decide
  | 1 => decide
  | 2 => decide
  | 3 => decide
theorem slot_credit (s : Fin 4) : ∀ h : S3211264x128.Gathers 0 S80x128,
    ∑ j, ((slotM s).slice (S80x128.rowRect h.axis' j) (S80x128.stride_rowRect h.axis' j)).view.dmaCredit = credit := by
  match s with
  | 0 => decide
  | 1 => decide
  | 2 => decide
  | 3 => decide
theorem slot_pos (s : Fin 4) : 0 < (slotM s).view.dmaCredit := by
  rw [slot_wait]; decide
theorem chunk_pos (k : Fin 16) : 0 < (chunkM L k).view.dmaCredit := View.dmaCredit_pos _ (by decide)

/-- The tile's counters: its four slots' and then the list's and the chunks' copies'. -/
abbrev gsem (s : Fin 4) : DmaSem sig := ![cc0_scratch2.sem, cc0_scratch3.sem, cc0_scratch4.sem, cc0_scratch5.sem] s
abbrev csem (k : Fin 16) : DmaSem sig :=
  ![cc0_scoped1.sem, cc0_scoped2.sem, cc0_scoped3.sem, cc0_scoped4.sem, cc0_scoped5.sem, cc0_scoped6.sem, cc0_scoped7.sem, cc0_scoped8.sem, cc0_scoped9.sem, cc0_scoped10.sem, cc0_scoped11.sem, cc0_scoped12.sem, cc0_scoped13.sem, cc0_scoped14.sem, cc0_scoped15.sem, cc0_scoped16.sem] k
abbrev sems : Fin 21 → DmaSem sig := Fin.cons cc0_scoped0.sem (Fin.append gsem csem)

theorem sems_inj : Function.Injective sems := by decide
theorem sems_scoped : ∀ k, (SemLoc.dma (sems k) : SemLoc sig).isScoped .scVector = true := by decide

section Task

variable [FloatOps F] (d : Dev nD)

/-- The counters apart: the list's fetch's, the slots', the chunks' copies', and the rest of the tile's. -/
theorem sems_open :
    (ownSems0 (V d (cV L) (jV L)) : sProp 𝕄)
      = iprop((semVal (V d (cV L) (jV L), .dma cc0_scoped0.sem) 0
          ∗ (bigSep Finset.univ fun s => semVal (V d (cV L) (jV L), .dma (gsem s)) 0)
          ∗ (bigSep Finset.univ fun k => semVal (V d (cV L) (jV L), .dma (csem k)) 0))
          ∗ bigSep (ownCells (V d (cV L) (jV L)) \ Finset.univ.image fun k => ((V d (cV L) (jV L), .dma (sems k)) : GSem nD τ sig)) fun g => semVal g 0) := by
  rw [ownSems0_family sems sems_inj sems_scoped]
  congr 1
  rw [bigSep_univ_equiv ((finSumFinEquiv (m := 1) (n := 20)).symm.symm) _, bigSep_univ_sum, bigSep_univ_of_subsingleton (0 : Fin 1),
    bigSep_univ_equiv (finSumFinEquiv (m := 4) (n := 16)) _, bigSep_univ_sum]
  rfl

/-- The chunks and their copies' counters, paired. -/
theorem todo_pair (g : Buf (Elt F) (oLoc d)) :
    iprop((bigSep Finset.univ fun k => (oLoc d ↦[oSet (wid L) k]{fullShare} g)) ∗ (bigSep Finset.univ fun k => semVal (V d (cV L) (jV L), .dma (csem k)) 0) : sProp 𝕄)
      = bigSep Finset.univ fun k : Fin 16 => Todo (c := cV L) (i := jV L) (d := d) (chunkM L k) (csem k) g := by
  rw [← bigSep_sep']
  refine bigSep_congr fun k _ => ?_
  unfold Todo
  rw [set_chunkM]

/-- The row scratch is its four slots. -/
theorem slots_split (f : Buf (Elt F) ((V d (cV L) (jV L)).loc cc0_scratch1)) :
    ((V d (cV L) (jV L)).loc cc0_scratch1 ↦{fullShare} f : sProp 𝕄)
      = bigSep Finset.univ fun s : Fin 4 => (V d (cV L) (jV L)).loc cc0_scratch1 ↦[rSet s]{fullShare} f := by
  rw [← pointsTo_biUnion Finset.univ _ fun s _ s' _ h => Rect.part_disjoint rdiv h, Rect.biUnion_part rdiv]

/-- Shares of the table and of the fetched list, the slots and their counters: four slots free for a gather. -/
theorem ready_slots (q : PosShare TreeShare) (t : Buf (Elt F) (tLoc d)) (fo : Buf (Elt F) ((V d (cV L) (jV L)).loc cc0_scratch0)) :
    iprop((tLoc d ↦{q} t) ∗ ((V d (cV L) (jV L)).loc cc0_scratch0 ↦{fullShare} fo)
        ∗ (bigSep Finset.univ fun s : Fin 4 => iprop(∃ f, (V d (cV L) (jV L)).loc cc0_scratch1 ↦[rSet s]{fullShare} f))
        ∗ (bigSep Finset.univ fun s => semVal (V d (cV L) (jV L), .dma (gsem s)) 0) : sProp 𝕄)
      = bigSep Finset.univ fun s : Fin 4 => Ready (c := cV L) (i := jV L) (d := d) tabM (slotM s) (rowM 0) (gsem s)
          (pieceOf q 4 (by decide) s) (pieceOf fullShare 4 (by decide) s) t fo := by
  rw [pointsTo_piecesOf (o := 4) Finset.univ t (by decide) q, pointsTo_piecesOf (o := 4) Finset.univ fo (by decide) fullShare,
    ← bigSep_sep', ← bigSep_sep', ← bigSep_sep']
  refine bigSep_congr fun s _ => ?_
  unfold Ready
  rw [set_slotM]
  exact sep_third

/-- What the task is given of the arrays: its rows of the row numbers, a share of the table, its chunks of the result. -/
def held (t : Buf (Elt F) (tLoc d)) (n : Buf (Elt F) (iLoc d)) (g : Buf (Elt F) (oLoc d)) : sProp 𝕄 :=
  iprop((iLoc d ↦[iSet (wid L)]{fullShare} n) ∗ (tLoc d ↦{pieceOf fullShare 32 (by decide) (wid L)} t)
    ∗ bigSep Finset.univ fun k : Fin 16 => (oLoc d ↦[oSet (wid L) k]{fullShare} g))

/-- What slot `s` in flight for chunk `k` will have brought. -/
abbrev landed (q : PosShare TreeShare) (t : Buf (Elt F) (tLoc d)) (n : Buf (Elt F) (iLoc d)) (fo : Buf (Elt F) ((V d (cV L) (jV L)).loc cc0_scratch0))
    (s : Fin 4) (k : Fin 16) : sProp 𝕄 :=
  Landed (c := cV L) (i := jV L) (d := d) tabM (slotM s) (rowM 0) (pieceOf q 4 (by decide) s) (pieceOf fullShare 4 (by decide) s) t fo
    ((chunkM L k).view.read (Elt F) (gathered t n))
abbrev ready (q : PosShare TreeShare) (t : Buf (Elt F) (tLoc d)) (fo : Buf (Elt F) ((V d (cV L) (jV L)).loc cc0_scratch0)) (s : Fin 4) : sProp 𝕄 :=
  Ready (c := cV L) (i := jV L) (d := d) tabM (slotM s) (rowM 0) (gsem s) (pieceOf q 4 (by decide) s) (pieceOf fullShare 4 (by decide) s) t fo

variable {d L} in
/-- Chunk `k`'s gather into slot `s` is issued. -/
theorem issue {q : PosShare TreeShare} {t : Buf (Elt F) (tLoc d)} {n : Buf (Elt F) (iLoc d)} {fo : Buf (Elt F) ((V d (cV L) (jV L)).loc cc0_scratch0)}
    (hfo : Fetched L n fo) (hn : ∀ j : S512x80.Idx, (n j).toNat < 3211264) (s : Fin 4) (k : Fin 16) {Q : PUnit → sProp 𝕄}
    {hp : (V d (cV L) (jV L)).2.kind = .scVector} {hsrc : tabM.view.WordExact} {he : EltTy.f32.bits = 32} {hsp : Space.hbm = .hbm ∨ Space.hbm = .shared}
    {hr : S3211264x128.StreamRows 0} :
    ready L d q t fo s
      ⊢ iprop((Transfers.Flight countersEmb (V d (cV L) (jV L)) (.dma (gsem s)) (default : HIx 1) credit (landed L d q t n fo s k) -∗ Q ⟨⟩)
          -∗ wp frame (wpE (defs₀ (F := F)) 𝒱₀ (V d (cV L) (jV L)) none) Set.univ
            (SparseCore.enqueueIndirectGather hp tabM (slotM s) gathers_S3211264x128_S80x128 (rowM k) rfl (gsem s) hsrc he hsp hr) Q) :=
  wp_issue (F := F) (src := tabM) (dst := slotM s) (offs := rowM k) credit (slot_credit s _) (by decide) (hfo.inb L hn k) _ (payload L hfo hn k)

variable {d L} in
/-- Chunk `k`'s turn: its gather is waited for and copied out. -/
theorem turn {q : PosShare TreeShare} {t : Buf (Elt F) (tLoc d)} {n : Buf (Elt F) (iLoc d)} {fo : Buf (Elt F) ((V d (cV L) (jV L)).loc cc0_scratch0)}
    {O : CellTallies nD τ sig (HIx 1)} {W : Waits sig (HIx 1)} (hO : ∀ g, O g none = 0) (g : Buf (Elt F) (oLoc d)) (s : Fin 4) (k : Fin 16) {Q : PUnit → sProp 𝕄}
    {hw₁ : tabM.view.WordExact} {hw₂ : (slotM s).view.WordExact} {h₁ : (slotM s).view.WordExact} {h₂ : (chunkM L k).view.WordExact}
    {h₃ : DmaTarget.Typed (nD := nD) .vmem (.dma (csem k)) (DmaTarget.here (p := (V d (cV L) (jV L)).2) (chunkM L k))} {h₄ : (slotM s).view.WordExact} {h₅ : (chunkM L k).view.WordExact} :
    iprop(levAts (K (F := F)).L (K (F := F)).lev
        ∗ Transfers.Flight countersEmb (V d (cV L) (jV L)) (.dma (gsem s)) (default : HIx 1) credit (landed L d q t n fo s k)
        ∗ Todo (c := cV L) (i := jV L) (d := d) (chunkM L k) (csem k) g ∗ Owing (V d (cV L) (jV L)) O W)
      ⊢ iprop((iprop(ready L d q t fo s ∗ Todo (c := cV L) (i := jV L) (d := d) (chunkM L k) (csem k) (gathered t n) ∗ Owing (V d (cV L) (jV L)) O W) -∗ Q ⟨⟩)
          -∗ wp frame (wpE (defs₀ (F := F)) 𝒱₀ (V d (cV L) (jV L)) none) Set.univ (SparseCore.waitIndirectGather (gsem s) tabM (slotM s) hw₁ hw₂) fun _ =>
            wp frame (wpE (defs₀ (F := F)) 𝒱₀ (V d (cV L) (jV L)) none) Set.univ (Prog.lift (.enqueueDma (slotM s) (DmaTarget.here (p := (V d (cV L) (jV L)).2) (chunkM L k)) (.dma (csem k)) h₁ h₂ h₃)) fun _ =>
            wp frame (wpE (defs₀ (F := F)) 𝒱₀ (V d (cV L) (jV L)) none) Set.univ (Prog.lift (.waitDma2 (csem k) (slotM s) (chunkM L k) h₄ h₅)) Q) :=
  wp_turn (F := F) (c := cV L) (i := jV L) (d := d) (W := W) hO (src := tabM) (dst := slotM s) (offs := rowM 0) (sem := gsem s) (sc := csem k) (fs := t) (fo := fo)
    (p := (chunkM L k).view.read (Elt F) (gathered t n)) (N := credit) (slot_wait s) (slot_pos s) (srcw := tabM) (chunk := chunkM L k) (chunk_pos L k) g (gathered t n) rfl

set_option maxHeartbeats 4000000 in
set_option maxRecDepth 16384 in
/-- The task on vector subcore `(L 0, L 1)` of device `d`: it fetches its rows of the row numbers, gathers chunk by chunk through the
    four slots, and leaves its chunks of the result at the gathered rows. -/
theorem tile_body (hF : (K (F := F)).Facts) (t : Buf (Elt F) (tLoc d)) (n : Buf (Elt F) (iLoc d)) (g : Buf (Elt F) (oLoc d))
    (hn : ∀ j : S512x80.Idx, (n j).toNat < 3211264) (O : CellTallies nD τ sig (HIx 1)) (W : Waits sig (HIx 1)) (hO : ∀ g, O g none = 0) :
    iprop(levAts (K (F := F)).L (K (F := F)).lev ∗ emp ∗ held L d t n g
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L tV (Memref.isWhole_whole _) iV (Memref.isWhole_whole _) oV (Memref.isWhole_whole _)
            sV (Memref.isWhole_whole _) rV (Memref.isWhole_whole _) cc0_scratch2 cc0_scratch3 cc0_scratch4 cc0_scratch5
            cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16)
          fun _ => iprop(held L d t n (gathered t n)
            ∗ scopedBufs (V d (cV L) (jV L)) ∗ scopedSems0 (V d (cV L) (jV L))
            ∗ Owing (V d (cV L) (jV L)) O W) := by
  simp only [cc0_gather_k_eq_skeleton]; unfold cc0_gather_k_skel
  simp only [k0_part15_eq_skeleton]; unfold k0_part15_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel
  simp only [bind_assoc, pure_bind]
  rw [(K (F := F)).scopedBufs_V hF d (cV L) (jV L), SparseCore.Cfg.scopedSems0_V (Val := Elt F) d (cV L) (jV L), sems_open,
    ownBufs_pair (c := cV L) (i := jV L) (d := d) cc0_scratch0 cc0_scratch1 (by decide) rfl rfl]
  unfold held
  iintro ⟨#Hlv, -, ⟨Hi, Ht, Ho⟩, ⟨⟨%fs, Hs⟩, ⟨%fr, Hr⟩, Hbufs⟩, ⟨⟨HsA, HsG, HsC⟩, Hsems⟩, HO⟩
  ihave HO := Owing.start $$ HO
  -- the list's fetch
  simp only [wp_bind, wp_pure]
  ihave Hi := (Entails.of_eq (show (iLoc d ↦[iSet (wid L)]{fullShare} n : sProp 𝕄)
      = ((partM L).view.loc (V d (cV L) (jV L)) ↦[(partM L).view.set]{fullShare} n) by rw [set_partM])) $$ Hi
  iapply (Transfers.wp_dmaLocal countersEmb 𝒱₀ (V d (cV L) (jV L)) none (default : HIx 1) (src := partM L) (dst := sV) (sV).view.dmaCredit rfl
    (View.dmaCredit_pos _ (by decide)) (Finset.subset_univ _)) $$ [Hi Hs HsA]
  · isplitl [Hi]; · iexact Hi
    isplitl [Hs]; · iexact Hs
    iexact HsA
  iintro Hfl
  rw [wp_ret]
  imodintro
  iapply (wp_await hO rfl) $$ [Hfl HO]
  · isplitr; · iexact Hlv
    isplitl [Hfl]; · iexact Hfl
    iexact HO
  iintro ⟨⟨Hs, Hi⟩, HsA, HO⟩
  generalize hfo' : View.write (Elt F) (sV).view fs _ Finset.univ = fo
  have hfo : Fetched L n fo := by
    subst hfo'
    intro y
    rw [View.write_whole_univ, ReadAs.apply_same, View.read_apply, emb_partM]; rfl
  -- the slots and the chunks
  ihave Hr := (show ((V d (cV L) (jV L)).loc cc0_scratch1 ↦{fullShare} fr : sProp 𝕄)
      ⊢ bigSep Finset.univ fun s : Fin 4 => iprop(∃ f, (V d (cV L) (jV L)).loc cc0_scratch1 ↦[rSet s]{fullShare} f) from
    (Entails.of_eq (slots_split L d fr)).trans (bigSep_mono fun s _ => exists_intro (Φ := fun f => iprop((V d (cV L) (jV L)).loc cc0_scratch1 ↦[rSet s]{fullShare} f)) fr)) $$ Hr
  ihave HR := (Entails.of_eq ((ready_slots L d _ t fo).trans (bigSep_four _))) $$ [Ht Hs Hr HsG]
  · isplitl [Ht]; · iexact Ht
    isplitl [Hs]; · iexact Hs
    isplitl [Hr]; · iexact Hr
    iexact HsG
  icases HR with ⟨HR0, HR1, HR2, HR3⟩
  ihave HC := (Entails.of_eq ((todo_pair L d g).trans (bigSep_sixteen _))) $$ [Ho HsC]
  · isplitl [Ho]; · iexact Ho
    iexact HsC
  icases HC with ⟨HC0, HC1, HC2, HC3, HC4, HC5, HC6, HC7, HC8, HC9, HC10, HC11, HC12, HC13, HC14, HC15⟩
  iapply (issue hfo hn 0 0) $$ HR0
  iintro HF0
  iapply (issue hfo hn 1 1) $$ HR1
  iintro HF1
  iapply (issue hfo hn 2 2) $$ HR2
  iintro HF2
  iapply (issue hfo hn 3 3) $$ HR3
  iintro HF3
  iapply (turn hO g 0 0) $$ [HF0 HC0 HO]
  · isplitr; · iexact Hlv
    isplitl [HF0]; · iexact HF0
    isplitl [HC0]; · iexact HC0
    iexact HO
  iintro ⟨HR0, HC0, HO⟩
  iapply (issue hfo hn 0 4) $$ HR0
  iintro HF0
  iapply (turn hO g 1 1) $$ [HF1 HC1 HO]
  · isplitr; · iexact Hlv
    isplitl [HF1]; · iexact HF1
    isplitl [HC1]; · iexact HC1
    iexact HO
  iintro ⟨HR1, HC1, HO⟩
  iapply (issue hfo hn 1 5) $$ HR1
  iintro HF1
  iapply (turn hO g 2 2) $$ [HF2 HC2 HO]
  · isplitr; · iexact Hlv
    isplitl [HF2]; · iexact HF2
    isplitl [HC2]; · iexact HC2
    iexact HO
  iintro ⟨HR2, HC2, HO⟩
  iapply (issue hfo hn 2 6) $$ HR2
  iintro HF2
  iapply (turn hO g 3 3) $$ [HF3 HC3 HO]
  · isplitr; · iexact Hlv
    isplitl [HF3]; · iexact HF3
    isplitl [HC3]; · iexact HC3
    iexact HO
  iintro ⟨HR3, HC3, HO⟩
  iapply (issue hfo hn 3 7) $$ HR3
  iintro HF3
  iapply (turn hO g 0 4) $$ [HF0 HC4 HO]
  · isplitr; · iexact Hlv
    isplitl [HF0]; · iexact HF0
    isplitl [HC4]; · iexact HC4
    iexact HO
  iintro ⟨HR0, HC4, HO⟩
  iapply (issue hfo hn 0 8) $$ HR0
  iintro HF0
  iapply (turn hO g 1 5) $$ [HF1 HC5 HO]
  · isplitr; · iexact Hlv
    isplitl [HF1]; · iexact HF1
    isplitl [HC5]; · iexact HC5
    iexact HO
  iintro ⟨HR1, HC5, HO⟩
  iapply (issue hfo hn 1 9) $$ HR1
  iintro HF1
  iapply (turn hO g 2 6) $$ [HF2 HC6 HO]
  · isplitr; · iexact Hlv
    isplitl [HF2]; · iexact HF2
    isplitl [HC6]; · iexact HC6
    iexact HO
  iintro ⟨HR2, HC6, HO⟩
  iapply (issue hfo hn 2 10) $$ HR2
  iintro HF2
  iapply (turn hO g 3 7) $$ [HF3 HC7 HO]
  · isplitr; · iexact Hlv
    isplitl [HF3]; · iexact HF3
    isplitl [HC7]; · iexact HC7
    iexact HO
  iintro ⟨HR3, HC7, HO⟩
  iapply (issue hfo hn 3 11) $$ HR3
  iintro HF3
  iapply (turn hO g 0 8) $$ [HF0 HC8 HO]
  · isplitr; · iexact Hlv
    isplitl [HF0]; · iexact HF0
    isplitl [HC8]; · iexact HC8
    iexact HO
  iintro ⟨HR0, HC8, HO⟩
  iapply (issue hfo hn 0 12) $$ HR0
  iintro HF0
  iapply (turn hO g 1 9) $$ [HF1 HC9 HO]
  · isplitr; · iexact Hlv
    isplitl [HF1]; · iexact HF1
    isplitl [HC9]; · iexact HC9
    iexact HO
  iintro ⟨HR1, HC9, HO⟩
  iapply (issue hfo hn 1 13) $$ HR1
  iintro HF1
  iapply (turn hO g 2 10) $$ [HF2 HC10 HO]
  · isplitr; · iexact Hlv
    isplitl [HF2]; · iexact HF2
    isplitl [HC10]; · iexact HC10
    iexact HO
  iintro ⟨HR2, HC10, HO⟩
  iapply (issue hfo hn 2 14) $$ HR2
  iintro HF2
  iapply (turn hO g 3 11) $$ [HF3 HC11 HO]
  · isplitr; · iexact Hlv
    isplitl [HF3]; · iexact HF3
    isplitl [HC11]; · iexact HC11
    iexact HO
  iintro ⟨HR3, HC11, HO⟩
  iapply (issue hfo hn 3 15) $$ HR3
  iintro HF3
  iapply (turn hO g 0 12) $$ [HF0 HC12 HO]
  · isplitr; · iexact Hlv
    isplitl [HF0]; · iexact HF0
    isplitl [HC12]; · iexact HC12
    iexact HO
  iintro ⟨HR0, HC12, HO⟩
  iapply (turn hO g 1 13) $$ [HF1 HC13 HO]
  · isplitr; · iexact Hlv
    isplitl [HF1]; · iexact HF1
    isplitl [HC13]; · iexact HC13
    iexact HO
  iintro ⟨HR1, HC13, HO⟩
  iapply (turn hO g 2 14) $$ [HF2 HC14 HO]
  · isplitr; · iexact Hlv
    isplitl [HF2]; · iexact HF2
    isplitl [HC14]; · iexact HC14
    iexact HO
  iintro ⟨HR2, HC14, HO⟩
  iapply (turn hO g 3 15) $$ [HF3 HC15 HO]
  · isplitr; · iexact Hlv
    isplitl [HF3]; · iexact HF3
    isplitl [HC15]; · iexact HC15
    iexact HO
  iintro ⟨HR3, HC15, HO⟩
  imodintro
  -- everything back
  ihave HR := (Entails.of_eq ((ready_slots L d _ t fo).trans (bigSep_four _)).symm) $$ [HR0 HR1 HR2 HR3]
  · isplitl [HR0]; · iexact HR0
    isplitl [HR1]; · iexact HR1
    isplitl [HR2]; · iexact HR2
    iexact HR3
  icases HR with ⟨Ht, Hs, Hr, HsG⟩
  ihave HC := (Entails.of_eq ((todo_pair L d (gathered t n)).trans (bigSep_sixteen _)).symm) $$ [HC0 HC1 HC2 HC3 HC4 HC5 HC6 HC7 HC8 HC9 HC10 HC11 HC12 HC13 HC14 HC15]
  · isplitl [HC0]; · iexact HC0
    isplitl [HC1]; · iexact HC1
    isplitl [HC2]; · iexact HC2
    isplitl [HC3]; · iexact HC3
    isplitl [HC4]; · iexact HC4
    isplitl [HC5]; · iexact HC5
    isplitl [HC6]; · iexact HC6
    isplitl [HC7]; · iexact HC7
    isplitl [HC8]; · iexact HC8
    isplitl [HC9]; · iexact HC9
    isplitl [HC10]; · iexact HC10
    isplitl [HC11]; · iexact HC11
    isplitl [HC12]; · iexact HC12
    isplitl [HC13]; · iexact HC13
    isplitl [HC14]; · iexact HC14
    iexact HC15
  icases HC with ⟨Ho, HsC⟩
  ihave Hr := (pointsTo_join (ℓ := (V d (cV L) (jV L)).loc cc0_scratch1) rSet fr (fun _ _ h => Rect.part_disjoint rdiv h) (Rect.biUnion_part rdiv)) $$ Hr
  isplitl [Hi Ht Ho]
  · isplitl [Hi]
    · iapply (Entails.of_eq (show (iLoc d ↦[iSet (wid L)]{fullShare} n : sProp 𝕄)
        = ((partM L).view.loc (V d (cV L) (jV L)) ↦[(partM L).view.set]{fullShare} n) by rw [set_partM]).symm)
      iexact Hi
    isplitl [Ht]; · iexact Ht
    iexact Ho
  isplitl [Hs Hr Hbufs]
  · isplitl [Hs]; · iexists _; iexact Hs
    isplitl [Hr]; · iexact Hr
    iexact Hbufs
  isplitl [HsA HsG HsC Hsems]
  · isplitl [HsA HsG HsC]
    · isplitl [HsA]; · iexact HsA
      isplitl [HsG]; · iexact HsG
      iexact HsC
    iexact Hsems
  iexact HO

end Task

end Cert.Proof.Chunks

end
-- ==== Proof.Chunks.Run.lean ====
/-
  The gather of score chunks as a whole program, at any float type: its arrays dealt out to the 32 tasks, what the call hands
  over, @main on the TensorCore, and the launch. Every run ends with the arguments as they were, the result at the gathered
  rows, and every semaphore at zero.
-/
module

public import proofs.«01_k».proof.Proof.Chunks.Tile
public import Idealize.ShloMosaic.Lib.Pipeline.Frame

@[expose] public section

noncomputable section

namespace Cert.Proof.Chunks

open Cert.ChunksIdeal Cert.ChunksIdeal.Gen

open Idealize.ShloMosaic
open Idealize.ShloMosaic.TcCoe
open Idealize.ShloMosaic.StableHlo (seq after)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The arrays, dealt out -/

/-- A conjunction over `m * n` indices, as `m` conjunctions over `n`. -/
theorem bigSep_mul {m n : ℕ} (Φ : Fin (m * n) → sProp 𝕄) :
    bigSep Finset.univ Φ = bigSep Finset.univ fun w : Fin m => bigSep Finset.univ fun k : Fin n => Φ (finProdFinEquiv (w, k)) := by
  rw [bigSep_univ_equiv finProdFinEquiv Φ, bigSep_univ_prod]

/-- A conjunction over the 32 tasks, by SparseCore and subcore: task `2 s + c` is subcore `s` of SparseCore `c`. -/
theorem bigSep_tasks (Φ : Fin 32 → sProp 𝕄) :
    bigSep Finset.univ Φ = bigSep Finset.univ fun c : Fin 2 => bigSep Finset.univ fun s : Fin 16 =>
      Φ ⟨2 * s.val + c.val, by have := c.isLt; have := s.isLt; omega⟩ := by
  rw [bigSep_univ_equiv ((Equiv.prodComm (Fin 2) (Fin 16)).trans (finProdFinEquiv : Fin 16 × Fin 2 ≃ Fin (16 * 2))) Φ, bigSep_univ_prod]
  refine bigSep_congr fun c _ => bigSep_congr fun s _ => congrArg Φ (Fin.ext ?_)
  show c.val + 2 * s.val = 2 * s.val + c.val
  omega

/-- The task's coordinates in the gather's grid. -/
def Lc (c : Fin 2) (s : Fin 16) : grid0.Coords :=
  fun | 0 => c | 1 => s | ⟨_ + 2, h⟩ => absurd h (Nat.not_lt.2 (Nat.le_add_left _ _))

/-- The gather's arrays are what its tasks are given. -/
theorem arrays_eq (d : Dev nD) (t : Buf (Elt F) (tLoc d)) (n : Buf (Elt F) (iLoc d)) (g : Buf (Elt F) (oLoc d)) :
    (bigSep Finset.univ fun c : Fin 2 => bigSep Finset.univ fun s : Fin 16 => held (Lc c s) d t n g : sProp 𝕄)
      = iprop((iLoc d ↦{fullShare} n) ∗ (tLoc d ↦{fullShare} t) ∗ (oLoc d ↦{fullShare} g)) := by
  have h1 : (iLoc d ↦{fullShare} n : sProp 𝕄) = bigSep Finset.univ fun w : Fin 32 => iLoc d ↦[iSet w]{fullShare} n := by
    rw [← pointsTo_biUnion Finset.univ (ℓ := iLoc d) iSet (fun i _ j _ h => Rect.part_disjoint idiv h), show Finset.univ.biUnion iSet = Finset.univ from Rect.biUnion_part idiv]; try rfl
  have h2 : (tLoc d ↦{fullShare} t : sProp 𝕄) = bigSep Finset.univ fun w : Fin 32 => tLoc d ↦{pieceOf fullShare 32 (by decide) w} t :=
    pointsTo_piecesOf Finset.univ t (by decide) fullShare
  have h3 : (oLoc d ↦{fullShare} g : sProp 𝕄) = bigSep Finset.univ fun w : Fin 32 => bigSep Finset.univ fun k : Fin 16 => oLoc d ↦[oSet w k]{fullShare} g := by
    have h : (oLoc d ↦{fullShare} g : sProp 𝕄)
        = bigSep Finset.univ fun j : Fin 512 => oLoc d ↦[(Rect.part (s := S40960x128) (a₀ := 0) odiv j).set]{fullShare} g := by
      rw [← pointsTo_biUnion Finset.univ (ℓ := oLoc d) (fun j : Fin 512 => (Rect.part (s := S40960x128) (a₀ := 0) odiv j).set)
        (fun i _ j _ h => Rect.part_disjoint odiv h), Rect.biUnion_part odiv]; try rfl
    rw [h, bigSep_mul (m := 32) (n := 16)]
    refine bigSep_congr fun w _ => bigSep_congr fun k _ => ?_
    rw [show (finProdFinEquiv (w, k) : Fin (32 * 16)) = ⟨16 * w.val + k.val, by have := w.isLt; have := k.isLt; omega⟩ from
      Fin.ext (show k.val + 16 * w.val = 16 * w.val + k.val by omega)]
  rw [h1, h2, h3, ← bigSep_sep', ← bigSep_sep', bigSep_tasks]
  rfl

/-! ## The host operations, and what the buffers hold -/

/-- Up to the gather: the scores in rows of one chunk each, and the chunks' numbers in rows of eighty. -/
def ops1 : List (HloOp τ sig (Elt F)) :=
  [StableHlo.reshape main_arg0 main_v0 (rfl : (.f32 : EltTy) = .f32) shapeCasts_S512x6272x128_S3211264x128,
    StableHlo.reshape main_arg1 main_v1 (rfl : (.i32 : EltTy) = .i32) shapeCasts_S8x512x10_S40960,
    StableHlo.reshape main_v1 main_v2 (rfl : (.i32 : EltTy) = .i32) shapeCasts_S40960_S512x80]

/-- After it: an item's ten chunks side by side. -/
def ops2 : List (HloOp τ sig (Elt F)) :=
  [StableHlo.reshape main_v3 main_v4 (rfl : (.f32 : EltTy) = .f32) shapeCasts_S40960x128_S4096x1280]

/-- @main is the two stretches around the gather. -/
theorem main_eq (d : Dev nD) : main (F := F) d
    = seq ops1 >>= fun _ => (K (F := F)).run d 0 >>= fun _ => seq ops2 >>= fun _ => pure ⟨⟩ := by
  unfold main
  simp only [ops1, ops2, seq, bind_assoc, pure_bind]

variable (m : (ℓ : Loc nD τ sig) → Buf (Elt F) ℓ) (ρ : Dev nD → PrngReg)

/-- The device's buffers at the gather, -/
def V1 (d : Dev nD) : Valuation τ sig (Elt F) := after ops1 fun b => m (d, b)
/-- after it, -/
def V2 (d : Dev nD) : Valuation τ sig (Elt F) := Function.update (V1 m d) main_v3 (gathered (V1 m d main_v0) (V1 m d main_v2))
/-- and at the end. -/
def V3 (d : Dev nD) : Valuation τ sig (Elt F) := after ops2 (V2 m d)

/-- The gather's row numbers name rows of the table. -/
def Ok : Prop := ∀ (d : Dev nD) (j : S512x80.Idx), (V1 m d main_v2 j).toNat < 3211264

/-- A buffer that no operation and not the gather writes is what it was. -/
theorem V3_of_not_mem (d : Dev nD) (r : Ref sig .tc) (h : r ∉ [main_v0, main_v1, main_v2]) (h3 : r ≠ main_v3) (h4 : r ∉ [main_v4]) :
    V3 m d r = m (d, r) :=
  (StableHlo.after_of_writes_sub ops2 _ (StableHlo.forall_writes_sub_of_map (W := [main_v4]) rfl) h4).trans
    ((Function.update_of_ne (StableHlo.devRef_ne_of_ne h3) _ _).trans
      (StableHlo.after_of_writes_sub ops1 _ (StableHlo.forall_writes_sub_of_map (W := [main_v0, main_v1, main_v2]) rfl) h))
theorem V3_arg0 (d : Dev nD) : V3 m d main_arg0 = m (d, main_arg0) := V3_of_not_mem m d main_arg0 (by decide) (by decide) (by decide)
theorem V3_arg1 (d : Dev nD) : V3 m d main_arg1 = m (d, main_arg1) := V3_of_not_mem m d main_arg1 (by decide) (by decide) (by decide)

theorem ops1_sub : ∀ op ∈ (ops1 : List (HloOp τ sig (Elt F))), op.bufs ⊆ Pipeline.ucRefs τ sig := fun op h =>
  Pipeline.sub_ucRefs op (List.forall_iff_forall_mem.mp (show (ops1 (F := F)).Forall fun op => op.bufs ⊆ StableHlo.tcRefs τ sig from
    ⟨StableHlo.reshape_bufs_sub .., StableHlo.reshape_bufs_sub .., StableHlo.reshape_bufs_sub ..⟩) op h)
theorem ops2_sub : ∀ op ∈ (ops2 : List (HloOp τ sig (Elt F))), op.bufs ⊆ Pipeline.ucRefs τ sig := fun op h =>
  Pipeline.sub_ucRefs op (List.forall_iff_forall_mem.mp (show (ops2 (F := F)).Forall fun op => op.bufs ⊆ StableHlo.tcRefs τ sig from
    StableHlo.reshape_bufs_sub ..) op h)
theorem ops1_fresh : ∀ op ∈ (ops1 : List (HloOp τ sig (Elt F))), op.fresh = ∅ := fun op h =>
  List.forall_iff_forall_mem.mp (StableHlo.forall_fresh_of_map (ops := ops1 (F := F)) rfl) op h
theorem ops2_fresh : ∀ op ∈ (ops2 : List (HloOp τ sig (Elt F))), op.fresh = ∅ := fun op h =>
  List.forall_iff_forall_mem.mp (StableHlo.forall_fresh_of_map (ops := ops2 (F := F)) rfl) op h

/-! ## What the call hands over -/

/-- What the task on subcore `s` of SparseCore `c` is given, -/
def given (d : Dev nD) (c : Fin 2) (s : Fin 16) : sProp 𝕄 := held (Lc c s) d (V1 m d main_v0) (V1 m d main_v2) (V1 m d main_v3)
/-- and what it gives back: the same, its chunks of the result at the gathered rows. -/
def returned (d : Dev nD) (c : Fin 2) (s : Fin 16) : sProp 𝕄 :=
  held (Lc c s) d (V1 m d main_v0) (V1 m d main_v2) (gathered (V1 m d main_v0) (V1 m d main_v2))

instance storable_held (L : grid0.Coords) (d : Dev nD) (t n g) : BI.Storable (upEmb : UEmb _ 𝕄) (held L d t n g) := by
  unfold held; infer_instance
instance storable_given (d : Dev nD) (c : Fin 2) (s : Fin 16) : BI.Storable (upEmb : UEmb _ 𝕄) (given m d c s) := storable_held ..
instance storable_returned (d : Dev nD) (c : Fin 2) (s : Fin 16) : BI.Storable (upEmb : UEmb _ 𝕄) (returned m d c s) := storable_held ..

/-- The call's payload: a SparseCore is handed what its sixteen tasks are given, and hands back what they give back. -/
def P : (K (F := F)).Pay (nD := nD) (Val := Elt F) (Name := ℕ) (U := UU) where
  st := fun q d c => bigSep Finset.univ fun s : Fin 16 => given m d (Fin.cast (nCore_eq q) c) s
  dn := fun q d c => bigSep Finset.univ fun s : Fin 16 => returned m d (Fin.cast (nCore_eq q) c) s
  go := fun q d c i => given m d (Fin.cast (nCore_eq q) c) (Fin.cast (nSub_eq q) i)
  td := fun q d c i => returned m d (Fin.cast (nCore_eq q) c) (Fin.cast (nSub_eq q) i)
  x := fun _ _ => iprop(emp)

instance P_storable : (P (F := F) m).IsStorable where
  st q d c := (inferInstance : BI.Storable (upEmb : UEmb _ 𝕄) (bigSep Finset.univ fun s : Fin 16 => given m d (Fin.cast (nCore_eq q) c) s))
  dn q d c := (inferInstance : BI.Storable (upEmb : UEmb _ 𝕄) (bigSep Finset.univ fun s : Fin 16 => returned m d (Fin.cast (nCore_eq q) c) s))
  go q d c i := storable_given ..
  td q d c i := storable_returned ..

/-! ## The tasks -/

theorem defs₀_vector0 (c : Fin τ.nSC) (s : Fin τ.nSub) :
    defs₀ (F := F) (.scVector c s) 0 ()
      = SparseCore.onTile hcore0 hsub0 (fun c s => cc0_gather_k (Lc c s) (Memref.whole main_v0_scv) (Memref.isWhole_whole _) (Memref.whole main_v2_scv) (Memref.isWhole_whole _) (Memref.whole main_v3_scv) (Memref.isWhole_whole _)
            (Memref.whole cc0_scratch0) (Memref.isWhole_whole _) (Memref.whole cc0_scratch1) (Memref.isWhole_whole _) cc0_scratch2 cc0_scratch3 cc0_scratch4 cc0_scratch5
            cc0_scoped0 cc0_scoped1 cc0_scoped2 cc0_scoped3 cc0_scoped4 cc0_scoped5 cc0_scoped6 cc0_scoped7 cc0_scoped8 cc0_scoped9 cc0_scoped10 cc0_scoped11
            cc0_scoped12 cc0_scoped13 cc0_scoped14 cc0_scoped15 cc0_scoped16) ⟨⟩ c s := rfl

/-- What a task recorded besides its own transfers' waits is what the launch allows. -/
theorem obl_post {thr : Thread nD τ} {A B C : sProp 𝕄} {O : CellTallies nD τ sig (HIx 1)} {W : Waits sig (HIx 1)} {q : Fin 1} :
    iprop(A ∗ B ∗ C ∗ Owing thr O W)
      ⊢ iprop(A ∗ B ∗ C ∗ ∃ W', ⌜∀ p ∈ W', p ∈ W ∨ p.2 = none ∨ p.2 = some q⌝ ∗ owes thr O W') := by
  unfold Owing
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The gather's tasks. -/
theorem tileObl (hok : Ok m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body (Lc ⟨_, hci.1⟩ ⟨_, hci.2⟩) d facts (V1 m d main_v0) (V1 m d main_v2) (V1 m d main_v3) (hok d) O W hO).trans
    (wp_mono frame _ _ fun _ => obl_post)

theorem bigSep_subs (q : Fin 1) (Φ : Fin 16 → sProp 𝕄) :
    (bigSep Finset.univ fun i : Fin ((K (F := F)).nSub q) => Φ (Fin.cast (nSub_eq q) i)) = bigSep Finset.univ Φ :=
  (bigSep_univ_equiv (finCongr (nSub_eq (F := F) q)) Φ).symm
theorem bigSep_cores (q : Fin 1) (Φ : Fin 2 → sProp 𝕄) :
    (bigSep Finset.univ fun i : Fin ((K (F := F)).nCore q) => Φ (Fin.cast (nCore_eq q) i)) = bigSep Finset.univ Φ :=
  (bigSep_univ_equiv (finCongr (nCore_eq (F := F) q)) Φ).symm

/-- A SparseCore deals its tasks exactly what it is handed, and collects exactly what it hands back. -/
theorem vecSplit (q : Fin 1) : (K (F := F)).VecSplit' (P m) q := by
  intro d c
  show (bigSep Finset.univ fun s : Fin 16 => given m d (Fin.cast (nCore_eq q) c) s) ⊢ |={Set.univ}=> iprop(
      (bigSep Finset.univ fun i : Fin ((K (F := F)).nSub q) => given m d (Fin.cast (nCore_eq q) c) (Fin.cast (nSub_eq q) i))
      ∗ ((bigSep Finset.univ fun i : Fin ((K (F := F)).nSub q) => returned m d (Fin.cast (nCore_eq q) c) (Fin.cast (nSub_eq q) i))
          -∗ bigSep Finset.univ fun s : Fin 16 => returned m d (Fin.cast (nCore_eq q) c) s))
  rw [bigSep_subs q (fun i => given m d (Fin.cast (nCore_eq q) c) i), bigSep_subs q (fun i => returned m d (Fin.cast (nCore_eq q) c) i)]
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_emp' _, bigSep_emp']
  iempintro

/-! ## @main on the TensorCore -/

/-- Three of the device's buffers, out of all of them. -/
theorem held_three (d : Dev nD) (a b c : Ref sig .tc) (hab : a ≠ b ∧ a ≠ c ∧ b ≠ c) (hs : a.isScoped = false ∧ b.isScoped = false ∧ c.isScoped = false)
    (W : Valuation τ sig (Elt F)) :
    (StableHlo.held (d.tc : Thread nD τ) (Pipeline.ucRefs τ sig) W : sProp 𝕄)
      = iprop((((SparseCore.T d).loc a ↦{fullShare} W a) ∗ ((SparseCore.T d).loc b ↦{fullShare} W b) ∗ ((SparseCore.T d).loc c ↦{fullShare} W c))
          ∗ StableHlo.held (d.tc : Thread nD τ) (Pipeline.ucRefs τ sig \ {Proc.devRef .tc a, Proc.devRef .tc b, Proc.devRef .tc c}) W) := by
  have hm : ∀ r : Ref sig .tc, r.isScoped = false → Proc.devRef (τ := τ) .tc r ∈ Pipeline.ucRefs τ sig := fun r hr =>
    Finset.mem_filter.mpr ⟨StableHlo.devRef_mem_tcRefs r, by rw [show (Proc.devRef (τ := τ) .tc r).isScoped = r.isScoped from rfl, hr]; decide⟩
  rw [StableHlo.held_sub_split (d.tc : Thread nD τ) (T := {Proc.devRef .tc a, Proc.devRef .tc b, Proc.devRef .tc c})
    (Finset.insert_subset (hm a hs.1) (Finset.insert_subset (hm b hs.2.1) (Finset.singleton_subset_iff.mpr (hm c hs.2.2)))) W]
  congr 1
  unfold StableHlo.held
  rw [SparseCore.bigSep_insert' (by
      simp only [Finset.mem_insert, Finset.mem_singleton, not_or]
      exact ⟨StableHlo.devRef_ne_of_ne hab.1, StableHlo.devRef_ne_of_ne hab.2.1⟩),
    SparseCore.bigSep_insert' (by simp only [Finset.mem_singleton]; exact StableHlo.devRef_ne_of_ne hab.2.2), bigSep_singleton]

/-- The other buffers do not see one of the three rewritten. -/
theorem held_update (d : Dev nD) (a b c : Ref sig .tc) (W : Valuation τ sig (Elt F)) (x) :
    (StableHlo.held (d.tc : Thread nD τ) (Pipeline.ucRefs τ sig \ {Proc.devRef .tc a, Proc.devRef .tc b, Proc.devRef .tc c}) W : sProp 𝕄)
      = StableHlo.held (d.tc : Thread nD τ) (Pipeline.ucRefs τ sig \ {Proc.devRef .tc a, Proc.devRef .tc b, Proc.devRef .tc c})
          (Function.update W (Proc.devRef .tc c) x) :=
  StableHlo.held_congr (d.tc : Thread nD τ) fun r hr => by
    rw [Function.update_of_ne]
    rintro rfl
    exact (Finset.mem_sdiff.mp hr).2 (by simp)

/-- The gather's operands and result, out of the device's buffers, -/
theorem open_call (d : Dev nD) :
    (StableHlo.held (d.tc : Thread nD τ) (Pipeline.ucRefs τ sig) (V1 m d) : sProp 𝕄)
      = iprop((bigSep Finset.univ fun c : Fin ((K (F := F)).nCore 0) => (P m).st 0 d c)
          ∗ StableHlo.held (d.tc : Thread nD τ) (Pipeline.ucRefs τ sig \ {Proc.devRef .tc main_v2, Proc.devRef .tc main_v0, Proc.devRef .tc main_v3}) (V1 m d)) := by
  rw [held_three d main_v2 main_v0 main_v3 (by decide) (by decide) (V1 m d), ← arrays_eq d (V1 m d main_v0) (V1 m d main_v2) (V1 m d main_v3)]
  exact congrArg (fun A : sProp 𝕄 => iprop(A ∗ _)) (bigSep_cores 0 fun c => bigSep Finset.univ fun s : Fin 16 => given m d c s).symm
/-- and back into them. -/
theorem close_call (d : Dev nD) :
    (StableHlo.held (d.tc : Thread nD τ) (Pipeline.ucRefs τ sig) (V2 m d) : sProp 𝕄)
      = iprop((bigSep Finset.univ fun c : Fin ((K (F := F)).nCore 0) => (P m).dn 0 d c)
          ∗ StableHlo.held (d.tc : Thread nD τ) (Pipeline.ucRefs τ sig \ {Proc.devRef .tc main_v2, Proc.devRef .tc main_v0, Proc.devRef .tc main_v3}) (V1 m d)) := by
  rw [held_three d main_v2 main_v0 main_v3 (by decide) (by decide) (V2 m d),
    show V2 m d main_v2 = V1 m d main_v2 from Function.update_of_ne (StableHlo.devRef_ne_of_ne (by decide)) _ _,
    show V2 m d main_v0 = V1 m d main_v0 from Function.update_of_ne (StableHlo.devRef_ne_of_ne (by decide)) _ _,
    show V2 m d main_v3 = gathered (V1 m d main_v0) (V1 m d main_v2) from Function.update_self _ _ _,
    ← arrays_eq d (V1 m d main_v0) (V1 m d main_v2) (gathered (V1 m d main_v0) (V1 m d main_v2))]
  exact congrArg₂ (fun A B : sProp 𝕄 => iprop(A ∗ B)) (bigSep_cores 0 fun c => bigSep Finset.univ fun s : Fin 16 => returned m d c s).symm
    (held_update d main_v2 main_v0 main_v3 (V1 m d) _).symm

/-- What the TensorCore is left with: its buffers at the end. -/
def Left (d : Dev nD) : sProp 𝕄 := StableHlo.held (d.tc : Thread nD τ) (Pipeline.ucRefs τ sig) (V3 m d)

variable [∀ e, Nonempty (Elt F e)]

/-- @main on the TensorCore: from the launch memory through the gather to the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Left m d ∗ (K (F := F)).tcEnd d) := by
  rw [main_eq]
  unfold SparseCore.Cfg.tcRes SparseCore.Cfg.tcEnd
  iintro ⟨#Hctx, Hst, ⟨Hb, Hu, Hts, -⟩, -⟩
  ihave Hh := (Entails.of_eq (Pipeline.unscopedBufs_held d (fun b => m (d, b)))) $$ Hu
  iapply (StableHlo.wp_seq 𝒱 none Set.univ d (Pipeline.ucRefs τ sig) _ ops1 ops1_sub ops1_fresh (fun b => m (d, b))) $$ [Hb Hh]
  · isplitl [Hb] <;> iassumption
  rw [show after ops1 (fun b => m (d, b)) = V1 m d from rfl, wp_bind]
  iintro ⟨Hb, Hh⟩
  ihave Hh := (Entails.of_eq (open_call m d)) $$ Hh
  icases Hh with ⟨Hgo, Hh⟩
  iapply ((K (F := F)).wp_run (D (F := F)) 𝒱 (EH := EH) (P := P m) κ d 0)
  isplitr; · iexact Hctx
  isplitl [Hst]; · iexact Hst
  isplitl [Hgo]; · iexact Hgo
  iintro ⟨Hst, Hdn⟩
  ihave Hh := (Entails.of_eq (close_call m d).symm) $$ [Hdn Hh]
  · isplitl [Hdn] <;> iassumption
  iapply (StableHlo.wp_seq 𝒱 none Set.univ d (Pipeline.ucRefs τ sig) _ ops2 ops2_sub ops2_fresh (V2 m d)) $$ [Hb Hh]
  · isplitl [Hb] <;> iassumption
  rw [show after ops2 (V2 m d) = V3 m d from rfl, show ((0 : Fin 1) : ℕ) + 1 = 1 from rfl, wp_pure]
  iintro ⟨Hb, Hh⟩
  imodintro
  isplitl [Hst]; · iexact Hst
  isplitl [Hh]; · unfold Left; iexact Hh
  isplitl [Hb] <;> iassumption

/-! ## The run -/

/-- The result: an item's ten gathered chunks side by side. -/
def out (d : Dev nD) : Buf (Elt F) ((d : Thread nD τ).loc main_v4) := V3 m d main_v4

/-- The arguments as they were, and the result at `out`. -/
def fq (d : Dev nD) (s' : Phys nD τ sig (Elt F)) : Prop :=
  s'.mem.mem ((d : Thread nD τ).loc main_v4) = out m d ∧ s'.mem.mem ((d : Thread nD τ).loc main_arg0) = m ((d : Thread nD τ).loc main_arg0)
    ∧ s'.mem.mem ((d : Thread nD τ).loc main_arg1) = m ((d : Thread nD τ).loc main_arg1)

theorem hfin (d : Dev nD) (s' : Phys nD τ sig (Elt F)) : iprop(Left m d ∗ SI s') ⊢ (⌜fq m d s'⌝ : sProp 𝕄) := by
  unfold Left
  rw [held_three d main_v4 main_arg0 main_arg1 (by decide) (by decide) (V3 m d)]
  iintro ⟨⟨⟨Hr, H0, H1⟩, -⟩, HSI⟩
  ihave H := (persistent_entails_right (SI_pointsTo_agree (st := s') (ℓ := (d : Thread nD τ).loc main_v4) (I := Finset.univ) (q := fullShare) (f := V3 m d main_v4))) $$ [HSI Hr]
  · isplitl [HSI] <;> iassumption
  icases H with ⟨%hr, HSI, -⟩
  ihave H := (persistent_entails_right (SI_pointsTo_agree (st := s') (ℓ := (d : Thread nD τ).loc main_arg0) (I := Finset.univ) (q := fullShare) (f := V3 m d main_arg0))) $$ [HSI H0]
  · isplitl [HSI] <;> iassumption
  icases H with ⟨%h0, HSI, -⟩
  ihave H := (SI_pointsTo_agree (st := s') (ℓ := (d : Thread nD τ).loc main_arg1) (I := Finset.univ) (q := fullShare) (f := V3 m d main_arg1)) $$ [HSI H1]
  · isplitl [HSI] <;> iassumption
  icases H with %h1
  ipureintro
  exact ⟨funext fun i => hr i (Finset.mem_univ i), (funext fun i => h0 i (Finset.mem_univ i)).trans (V3_arg0 m d),
    (funext fun i => h1 i (Finset.mem_univ i)).trans (V3_arg1 m d)⟩

/-- Every run's end. -/
def QC : PUnit.{1} × MemSt nD τ sig (Elt F) → Prop := fun r =>
  (∀ c : Dev nD, r.2.mem ((c : Thread nD τ).loc main_v4) = out m c ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

/-- From a memory whose row numbers name rows of the table, the program runs to its end without a step that may not be taken. -/
theorem run_main (hok : Ok m) : θ_run (Cert.ChunksIdeal.defs (F := F)) (Cert.ChunksIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hok)
    (fun q _ => SparseCore.Cfg.VecSplit.of_plain (vecSplit m q))
    m ρ main (fun _ => iprop(emp)) (fun d => Left m d) (u₀ (F := F)) (sep_elim_left.trans (hu₀ m)) (hmain m ρ) (fq m) (hfin m) (QC m) (fun _ h hz => ⟨h, hz⟩)

end Cert.Proof.Chunks

end
-- ==== Proof.Chunks.Algebraic.lean ====
/-
  The gather of score chunks: its frames, and that over the extended reals it and its reference leave the same chunks.
-/
module

public import proofs.«01_k».proof.Proof.Chunks.Run
public import proofs.«01_k».proof.Proof.RefValue
public import proofs.«01_k».proof.Proof.Gen.Chunks
public import proofs.«01_k».proof.Proof.Gen.Pre_chunks_in_range
public import proofs.«01_k».proof.Proof.Gen.ChunksReferenceIdeal.Run

@[expose] public section

noncomputable section

namespace Cert.Proof.Chunks

open Idealize.ShloMosaic Idealize.SL.Sem
open Idealize.ShloMosaic.TcCoe

/-! ## The precondition -/

section Range
variable {F : FTy → Type} [FloatOps F]

/-- The precondition bounds every chunk's number by the number of chunks. -/
theorem numbers_lt (a0 : FVec F Cert.ChunksIdeal.S512x6272x128 .f32) (a1 : IVec Cert.ChunksIdeal.S8x512x10 32)
    (h : Cert.Pre_chunks_in_range.fn a0 a1 = fun _ => 1#1) (i : Cert.ChunksIdeal.S8x512x10.Idx) : (a1 i).toNat < 3211264 := by
  haveI : Subsingleton (Cert.Pre_chunks_in_range.S_.Idx) := ⟨fun a b => funext fun i => i.elim0⟩
  exact lt_of_compared _ 3211264#32 (by decide) (Host.reduce_andi_all _ _ _ _ _ (congrFun h ix0) i)

open Cert.ChunksIdeal Cert.ChunksIdeal.Gen in
/-- The gather's list is the chunks' numbers in rows of eighty. -/
theorem V1_v2 (m : (ℓ : Loc nD τ sig) → Buf (Elt F) ℓ) (d : Dev nD) : V1 m d main_v2
    = shapeCast S512x80 (shapeCast S40960 (m (d, main_arg1) : S8x512x10.Idx → BitVec 32) shapeCasts_S8x512x10_S40960) shapeCasts_S40960_S512x80 := by
  unfold V1 ops1
  after_results
  rfl

open Cert.ChunksIdeal Cert.ChunksIdeal.Gen in
/-- Its table is the scores in rows of one chunk. -/
theorem V1_v0 (m : (ℓ : Loc nD τ sig) → Buf (Elt F) ℓ) (d : Dev nD) : V1 m d main_v0
    = shapeCast S3211264x128 (m (d, main_arg0) : S512x6272x128.Idx → Elt F .f32) shapeCasts_S512x6272x128_S3211264x128 := by
  unfold V1 ops1
  after_results
  rfl

open Cert.ChunksIdeal Cert.ChunksIdeal.Gen in
/-- Numbers below the number of chunks name rows of the table. -/
theorem ok_of_lt (m : (ℓ : Loc nD τ sig) → Buf (Elt F) ℓ)
    (h : ∀ (d : Dev nD) i, ((m (d, main_arg1) : S8x512x10.Idx → BitVec 32) i).toNat < 3211264) : Ok m := fun d j => by
  rw [V1_v2]
  exact h d _

end Range

/-! ## The frames -/

/-- The two printed programs' kernels are the same, label by label, -/
theorem bodies_eq : Cert.Chunks.defs₀ (F := Bits) = Cert.ChunksIdeal.defs₀ (F := Bits) := by
  funext p ℓ a
  match p, ℓ, a with
  | .scVector c s, 0, _ => rfl
  | .tc, 0, _ => rfl
  | .scScalar c, 0, _ => rfl

/-- so their body tables are. -/
theorem defs_eq : Cert.Chunks.defs (F := Bits) = Cert.ChunksIdeal.defs (F := Bits) :=
  congrArg (fun D => (Cert.ChunksIdeal.sc (F := Bits)).defs (Pipeline.defs (Cert.ChunksIdeal.pcfgs (F := Bits)) D)) bodies_eq

/-- The gather over bits runs with its arguments unchanged and its semaphores at zero. -/
theorem frame_kernel : Cert.quiescent_Chunks := fun m ρ hpre => by
  rw [defs_eq]
  exact (θ_run (Cert.ChunksIdeal.defs (F := Bits)) _ _).mono (fun _ h => ⟨fun c => (h.1 c).2, h.2⟩)
    (run_main (F := Bits) m ρ (ok_of_lt (F := Bits) m fun d => numbers_lt _ _ (hpre d)))

/-- The gather over the extended reals runs with its arguments unchanged and its semaphores at zero. -/
theorem frame_kernelIdeal : Cert.quiescent_ChunksIdeal := fun m ρ hpre =>
  (θ_run Cert.ChunksIdeal.defs _ _).mono (fun _ h => ⟨fun c => (h.1 c).2, h.2⟩)
    (run_main (F := Ideal) m ρ (ok_of_lt (F := Ideal) m fun d => numbers_lt _ _ (hpre d)))

/-- Its reference runs with its arguments unchanged, from any arguments; it declares no semaphore. -/
theorem frame_referenceIdeal : Cert.quiescent_ChunksReferenceIdeal := fun m ρ _ =>
  (θ_run Cert.ChunksReferenceIdeal.defs _ _).mono (fun r h => ⟨fun c => (h c).2, sem_eq_zero_of_no_sems (by decide) r.2⟩)
    (Cert.ChunksReferenceIdeal.Value.run (F := Ideal) m ρ)

/-- And so from arguments within the precondition. -/
theorem frame_referenceIdeal_in_range : Cert.quiescent_ChunksReferenceIdeal_pre_chunks_in_range := fun m ρ _ => frame_referenceIdeal m ρ trivial

/-! ## The specification -/

/-- The chunk that a number names, if it is below the number of chunks. -/
def chunkOf (v : BitVec 32) : Fin 3211264 := ⟨v.toNat % 3211264, Nat.mod_lt _ (by decide)⟩

open Cert.ChunksReferenceIdeal Cert.ChunksReferenceIdeal.Gen in
/-- Every number's chunk of the scores, one to a row. -/
def chunkRows (x : S3211264x128.Idx → EReal) (n : S40960.Idx → BitVec 32) : S40960x128.Idx → EReal :=
  fun y => x (ix2 (chunkOf (n (ix1 (y 0)))) (y 1))

/-! ## The kernel's value -/

open Cert.ChunksIdeal Cert.ChunksIdeal.Gen in
/-- The gathered rows are the chunks that the numbers name. -/
theorem gathered_eq (x : S3211264x128.Idx → EReal) (n : S40960.Idx → BitVec 32) :
    gathered (F := Ideal) x (shapeCast S512x80 n shapeCasts_S40960_S512x80) = chunkRows x n := by
  funext y
  have hy := ValueIdx.idx2_lt0 y
  have e : shapeCast S512x80 n shapeCasts_S40960_S512x80 (ix2 ⟨(y 0).val / 80, by omega⟩ ⟨(y 0).val % 80, Nat.mod_lt _ (by decide)⟩) = n (ix1 (y 0)) := by
    refine shapeCast_apply _ _ _ _ ?_
    rw [Shape.rowMajor_val_two, Shape.rowMajor_val_one]
    show (y 0).val = (y 0).val / 80 * 80 + (y 0).val % 80
    omega
  exact congrArg (fun v : BitVec 32 => x (ix2 (chunkOf v) (y 1))) e

open Cert.ChunksIdeal Cert.ChunksIdeal.Gen in
/-- What the kernel leaves in its result. -/
theorem out_eq (m : (ℓ : Loc nD τ sig) → Buf (Elt Ideal) ℓ) (c : Dev nD) : out (F := Ideal) m c
    = shapeCast S4096x1280 (chunkRows (shapeCast S3211264x128 (m (c, main_arg0) : S512x6272x128.Idx → EReal) shapeCasts_S512x6272x128_S3211264x128)
        (shapeCast S40960 (m (c, main_arg1) : S8x512x10.Idx → BitVec 32) shapeCasts_S8x512x10_S40960)) shapeCasts_S40960x128_S4096x1280 := by
  have e : out (F := Ideal) m c = shapeCast S4096x1280 (gathered (F := Ideal) (V1 m c main_v0) (V1 m c main_v2)) shapeCasts_S40960x128_S4096x1280 := by
    unfold out V3 ops2
    after_results
    rw [show V2 (F := Ideal) m c main_v3 = gathered (V1 m c main_v0) (V1 m c main_v2) from Function.update_self _ _ _]
    rfl
  rw [e, V1_v0, V1_v2]
  exact congrArg (fun g => shapeCast S4096x1280 g shapeCasts_S40960x128_S4096x1280) (gathered_eq _ _)

/-! ## The reference's value -/

section Ref
open Cert.ChunksReferenceIdeal Cert.ChunksReferenceIdeal.Gen

/-- The gather at an element: the chunk that the number names. -/
theorem gather_apply (E : S3211264x128.Idx → EReal) (idx : IVec S40960x1 32) (y : S40960x128.Idx) (h : (idx (ix2 (y 0) 0)).toNat < 3211264) :
    Host.gather gather_S3211264x128_S40960x1_S40960x128_1_0_n_n_0_1_1128 E idx y = E (ix2 (chunkOf (idx (ix2 (y 0) 0))) (y 1)) := by
  refine Eq.trans (congrArg _ (show y = ix2 (y 0) (y 1) from by funext a; fin_cases a <;> rfl)) ?_
  refine Routing.gather_row _ rfl rfl rfl rfl rfl E idx (y 0) (y 1) _ ?_ (by decide)
  apply BitVec.eq_of_toNat_eq
  show (idx (ix2 (y 0) 0)).toNat = (BitVec.ofNat 32 ((idx (ix2 (y 0) 0)).toNat % 3211264)).toNat
  rw [BitVec.toNat_ofNat]
  omega

/-- The chunks' numbers as the reference reads them: a negative one counted from the table's end. -/
abbrev chunkNumbers (a : IVec S40960 32) : IVec S40960x1 32 :=
  broadcastInDim S40960x1 ![0] bcast_S40960_S40960x1_0 (select (cmpi .slt a (broadcastInDim S40960 ![] bcast_S_S40960 (constantI S_ 32 0#32)))
    (addi a (broadcastInDim S40960 ![] bcast_S_S40960 (constantI S_ 32 3211264#32))) a)

/-- The chunks that the reference takes: a chunk where the number names one, else no number. -/
abbrev takenRows (E : FVec Ideal S3211264x128 .f32) (a : IVec S40960 32) : FVec Ideal S40960x128 .f32 :=
  select (broadcastInDim S40960x128 ![0] bcast_S40960_S40960x128_0 (Host.reduce IntOp.andi (andi (cmpi .sge (chunkNumbers a)
    (broadcastInDim S40960x1 ![] bcast_S_S40960x1 (constantI S_ 32 0#32))) (cmpi .sle (chunkNumbers a)
    (broadcastInDim S40960x1 ![0, 1] bcast_S1x1_S40960x1_0_1 (broadcastInDim S1x1 ![1] bcast_S1_S1x1_1 (constantI S1 32 3211263#32)))))
    (constantI S_ 1 1#1) reducesTo_S40960x1_S40960_d1 h_S_))
    (Host.gather gather_S3211264x128_S40960x1_S40960x128_1_0_n_n_0_1_1128 E (chunkNumbers a))
    (broadcastInDim S40960x128 ![] bcast_S_S40960x128 (constant (F := Ideal) S_ .f32 0x7FC00000#32))

theorem chunk_within (a : IVec S40960 32) (h : ∀ i, (a i).toNat < 3211264) (i : S40960x1.Idx) :
    andi (cmpi .sge (broadcastInDim S40960x1 ![0] bcast_S40960_S40960x1_0 a) (broadcastInDim S40960x1 ![] bcast_S_S40960x1 (constantI S_ 32 0#32)))
      (cmpi .sle (broadcastInDim S40960x1 ![0] bcast_S40960_S40960x1_0 a)
        (broadcastInDim S40960x1 ![0, 1] bcast_S1x1_S40960x1_0_1 (broadcastInDim S1x1 ![1] bcast_S1_S1x1_1 (constantI S1 32 3211263#32)))) i = 1#1 :=
  Ref.within (a _) 3211263#32 (by decide) (Nat.le_of_lt_succ (h _))

/-- From numbers below the number of chunks, they are the chunks that the numbers name. -/
theorem takenRows_eq (E : S3211264x128.Idx → EReal) (a : IVec S40960 32) (h : ∀ i, (a i).toNat < 3211264) : takenRows E a = chunkRows E a := by
  have hw := Ref.wrapped (n := 3211264) (by decide) a (broadcastInDim S40960 ![] bcast_S_S40960 (constantI S_ 32 0#32))
    (broadcastInDim S40960 ![] bcast_S_S40960 (constantI S_ 32 3211264#32)) (fun _ => rfl) h
  have hr := fun j => Host.reduce_andi_one _ (constantI S_ 1 1#1) reducesTo_S40960x1_S40960_d1 h_S_ j rfl (chunk_within a h)
  unfold takenRows chunkNumbers
  rw [hw]
  funext y
  have hg := gather_apply E (broadcastInDim S40960x1 ![0] bcast_S40960_S40960x1_0 a) y (h _)
  refine (Ref.select_of_one _ _ _ y ?_).trans (Eq.trans hg ?_)
  · exact hr _
  · unfold chunkRows; pointwise

end Ref

/-! ## The equation -/

/-- The gather and its reference, run from equal arguments within the precondition, end with equal results, their arguments
    unchanged. -/
theorem algebraic : Cert.algebraic_ChunksIdeal_ChunksReferenceIdeal := by
  intro m g m' g' hpre hargs
  have hn := fun c => numbers_lt _ _ (hpre c)
  refine ⟨fun c => out m c, ?_, ?_⟩
  · exact (θ_run Cert.ChunksIdeal.defs _ _).mono (fun _ h => h.1) (run_main (F := Ideal) m g (ok_of_lt (F := Ideal) m hn))
  · refine (θ_run Cert.ChunksReferenceIdeal.defs _ _).mono (fun r h c => ⟨(h c).1.trans ?_, (h c).2⟩) (Cert.ChunksReferenceIdeal.Value.run (F := Ideal) m' g')
    obtain ⟨e0, e1⟩ := hargs c
    rw [e0, e1]
    refine Eq.trans ?_ (out_eq m c).symm
    refine congrArg (fun r => shapeCast Cert.ChunksReferenceIdeal.S4096x1280 r Cert.ChunksReferenceIdeal.Gen.shapeCasts_S40960x128_S4096x1280) ?_
    exact takenRows_eq _ _ fun i => hn c _

end Cert.Proof.Chunks

end
-- ==== Proof.Scores.Value.lean ====
/-
  What the masked product computes, element by element, over the extended reals.
-/
module

public import proofs.«01_k».proof.Proof.Gen.ScoresIdeal.Value
public import Idealize.ShloMosaic.Lib.Pointwise
public import Idealize.ShloMosaic.Lib.Pipeline.ValueKit
public import Idealize.ShloMosaic.Lib.Pipeline.Covers
public import Idealize.ShloMosaic.Lib.KernelVsHost

@[expose] public section

set_option maxRecDepth 16384

noncomputable section

namespace Cert.Proof.Scores

open Cert.ScoresIdeal Cert.ScoresIdeal.Gen
open Idealize.ShloMosaic
open Idealize.ShloMosaic.TcCoe

/-! ## The specification -/

/-- A score after masking: the constant in place of the item itself and past the table's end. -/
def masked (a : BitVec 32) (j : ℕ) (p : EReal) : EReal := if BitVec.ofNat 32 j = a ∨ 100000 ≤ j then Ideal.ofBits .f32 0xCE6E6B28#32 else p

/-- Item `i`'s masked score against row `j` of the table. -/
def score (a : S4096.Idx → BitVec 32) (X : S4096x64.Idx → EReal) (E : S100000x64.Idx → EReal) (i : Fin 4096) (j : ℕ) : EReal :=
  masked (a (ix1 i)) j (∑ k : Fin 64, X (ix2 i k) * E (ix2 ⟨j % 100000, Nat.mod_lt _ (by decide)⟩ k))

/-- All scores, in chunks of 128: in row `8q + s` of group `r` stands chunk `q` of item `8r + s`. -/
def scores (a : S4096.Idx → BitVec 32) (X : S4096x64.Idx → EReal) (E : S100000x64.Idx → EReal) : S512x6272x128.Idx → EReal := fun y =>
  score a X E ⟨8 * (y 0).val + (y 1).val % 8, by have : (y 0).val < 512 := (y 0).isLt; omega⟩ (128 * ((y 1).val / 8) + (y 2).val)

/-- The greatest score of each chunk, sixteen chunks to a block of 2048 columns. -/
def maxima (a : S4096.Idx → BitVec 32) (X : S4096x64.Idx → EReal) (E : S100000x64.Idx → EReal) : S49x4096x16.Idx → EReal := fun y =>
  Finset.univ.fold max (Ideal.ofBits .f32 0xFF800000#32) fun l : Fin 128 => score a X E (y 1) (2048 * (y 0).val + 128 * (y 2).val + l.val)

/-! ## One point's tile -/

/-- Column numbers below 2^31 do not wrap. -/
theorem column_eq (n k : ℕ) : IntOp.addi (Scalar.muli (BitVec.ofNat 32 n) 2048#32) (BitVec.ofNat 32 k) = BitVec.ofNat 32 (2048 * n + k) := by
  apply BitVec.eq_of_toNat_eq
  show ((BitVec.ofNat 32 n * 2048#32) + BitVec.ofNat 32 k).toNat = _
  simp only [BitVec.toNat_add, BitVec.toNat_mul, BitVec.toNat_ofNat]
  omega

/-- The kernel's mask, a select on the columns that are the item or past the table's end, is the specification's. -/
theorem select_eq (a : BitVec 32) (j : ℕ) (hj : j < 2 ^ 31) (p : EReal) :
    Scalar.select (IntOp.ori (IntOp.cmpi .eq (BitVec.ofNat 32 j) a) (IntOp.cmpi .sge (BitVec.ofNat 32 j) 100000#32))
      (Ideal.ofBits .f32 0xCE6E6B28#32) p = masked a j p := by
  have hs : (100000#32).sle (BitVec.ofNat 32 j) = decide (100000 ≤ j) := by
    rw [BitVec.sle_eq_decide, BitVec.toInt_eq_toNat_of_lt (by simp only [BitVec.toNat_ofNat]; omega), BitVec.toInt_eq_toNat_of_lt (by simp only [BitVec.toNat_ofNat]; omega)]
    simp only [BitVec.toNat_ofNat]
    congr 1
    apply propext
    omega
  have he : (BitVec.ofNat 32 j == a) = decide (BitVec.ofNat 32 j = a) := rfl
  unfold masked Scalar.select IntOp.ori
  show (if BitVec.ofBool (BitVec.ofNat 32 j == a) ||| BitVec.ofBool ((100000#32).sle (BitVec.ofNat 32 j)) = 1#1 then _ else _) = _
  rw [hs, he]
  by_cases h1 : BitVec.ofNat 32 j = a <;> by_cases h2 : 100000 ≤ j <;> simp [h1, h2]

/-- One point's tile of the masked product, at an element. -/
theorem tile_apply (i : grid0.Coords) (x : S512x64.Idx → EReal) (w : S2048x64.Idx → EReal) (a : S1x512x1.Idx → BitVec 32) (r : Fin 512) (k : Fin 2048) :
    k0_pay5 (F := Ideal) i x w a (ix2 r k)
      = masked (a (ix3 0 r 0)) (2048 * (i 1).val + k.val) (∑ l : Fin 64, x (ix2 r l) * w (ix2 k l)) := by
  have hi : (i 1).val < 49 := (i 1).isLt
  unfold k0_pay5
  pointwise
  rw [column_eq]
  exact select_eq _ _ (by omega) _

/-- A piece of 128 columns of a tile, laid out in groups of eight rows, at an element. -/
theorem slice_apply (T : S512x2048.Idx → EReal) (o : ℕ) (h : S512x2048.Slices ![0, o] S512x128) (x : S64x8x128.Idx) (r : Fin 512) (k : Fin 2048)
    (hr : r.val = 8 * (x 0).val + (x 1).val) (hk : k.val = o + (x 2).val) :
    shapeCast S64x8x128 (extractStridedSlice S512x128 ![0, o] T h) shapeCasts_S512x128_S64x8x128 x = T (ix2 r k) := by
  refine (shapeCast_apply _ _ x (ix2 r ⟨(x 2).val, (x 2).isLt⟩) ?_).trans ?_
  · rw [Shape.rowMajor_val_two, Shape.rowMajor_val_three]
    show r.val * 128 + (x 2).val = ((x 0).val * 8 + (x 1).val) * 128 + (x 2).val
    omega
  · refine extractStridedSlice_apply _ _ _ _ _ fun a => ?_
    match a with
    | ⟨0, _⟩ => exact (Nat.zero_add _).symm
    | ⟨1, _⟩ => exact hk

/-- The tile that the body works on is that of the point's whole blocks. -/
theorem loads (i : grid0.Coords) (x0 : S1x512x1.Idx → BitVec 32) (x1 : S512x64.Idx → EReal) (x2 : S2048x64.Idx → EReal) :
    k0_pay5 (F := Ideal) i (View.ld (Val := Elt Ideal) (e' := .bf16) x1 r0_0) (View.ld (Val := Elt Ideal) (e' := .bf16) x2 r0_1) (View.ld (Val := Elt Ideal) (e' := .i32) x0 r0_2) = k0_pay5 (F := Ideal) i x1 x2 x0 := by
  rw [show View.ld (Val := Elt Ideal) (e' := .bf16) x1 r0_0 = x1 from View.ld_unit_lit _ _ (by decide),
    show View.ld (Val := Elt Ideal) (e' := .bf16) x2 r0_1 = x2 from View.ld_unit_lit _ _ (by decide),
    show View.ld (Val := Elt Ideal) (e' := .i32) x0 r0_2 = x0 from View.ld_unit_lit _ _ (by decide)]

/-- What a point leaves of the scores: its tile, in groups of eight rows and chunks of 128 columns. -/
theorem out3_apply (i : grid0.Coords) (x0 : S1x512x1.Idx → BitVec 32) (x1 : S512x64.Idx → EReal) (x2 : S2048x64.Idx → EReal) (y : S64x128x128.Idx) (r : Fin 512) (k : Fin 2048)
    (hr : r.val = 8 * (y 0).val + (y 1).val % 8) (hk : k.val = 128 * ((y 1).val / 8) + (y 2).val) :
    out0_3 (F := Ideal) i x0 x1 x2 y = k0_pay5 (F := Ideal) i x1 x2 x0 (ix2 r k) := by
  rw [← loads]
  unfold out0_3
  canon_tiles x h
  all_goals exact slice_apply (k0_pay5 (F := Ideal) i _ _ _) _ _ x r k (by omega) (by omega)

/-- What a point leaves of the maxima: the greatest of each chunk of its tile. -/
theorem out4_apply (i : grid0.Coords) (x0 : S1x512x1.Idx → BitVec 32) (x1 : S512x64.Idx → EReal) (x2 : S2048x64.Idx → EReal) (r : Fin 512) (k : Fin 16) :
    out0_4 (F := Ideal) i x0 x1 x2 (ix3 0 r k)
      = Finset.univ.fold max (Ideal.ofBits .f32 0xFF800000#32) fun l : Fin 128 => k0_pay5 (F := Ideal) i x1 x2 x0 (ix2 r ⟨128 * k.val + l.val, by omega⟩) := by
  rw [← loads]
  unfold out0_4
  canon_tiles x h
  pointwise [k0_pay4, k0_pay19]
  have e1 : x 1 = r := Fin.ext h1.symm
  have e2 : (x 2).val = k.val := h2.symm
  refine congrArg (fun f => Finset.univ.fold max _ f) (funext fun l => congrArg (k0_pay5 (F := Ideal) i _ _ _) (congrArg₂ ix2 e1 (Fin.ext ?_)))
  show (x 2).val * 128 + l.val = 128 * k.val + l.val
  omega

/-! ## The blocks of a point -/

variable (m : (ℓ : Loc nD τ sig) → Buf (Elt Ideal) ℓ) (c : Dev nD)

/-- The items' numbers, in groups of 512. -/
theorem V_v3 : V m c main_v3 = shapeCast S8x512x1 (m (c, main_arg0) : S4096.Idx → BitVec 32) shapeCasts_S4096_S8x512x1 := by
  simp only [V, hostOps0, hostOps0_1, hostOps0_2, List.flatten_cons, List.flatten_nil, List.cons_append, List.nil_append, List.append_nil]
  after_results
  rfl

/-- The items' rows: the cast to a narrower format is the identity. -/
theorem V_v2 : V m c main_v2 = (m (c, main_arg1) : S4096x64.Idx → EReal) := by
  simp only [V, hostOps0, hostOps0_1, hostOps0_2, List.flatten_cons, List.flatten_nil, List.cons_append, List.nil_append, List.append_nil]
  after_results
  rfl

/-- The table, with rows added below. -/
theorem V_v1 : V m c main_v1 = pad S100352x64 ![0, 0] ![352, 0] ![0, 0] (m (c, main_arg2) : S100000x64.Idx → EReal)
    (sitofp (F := Ideal) .bf16 (constantI S_ 32 0#32)) pads_S100000x64_S100352x64_03520_000 h_S_ := by
  simp only [V, hostOps0, hostOps0_1, hostOps0_2, List.flatten_cons, List.flatten_nil, List.cons_append, List.nil_append, List.append_nil]
  after_results
  rfl

/-- Each window's block at a point, by the point's coordinates. -/
theorem index0 : ∀ t : Fin grid0.N, win0_0.index t = ![(grid0.coords t 0).val, 0, 0] := by decide +kernel

/-- Each window's block at a point, by the point's coordinates. -/
theorem index1 : ∀ t : Fin grid0.N, win0_1.index t = ![(grid0.coords t 0).val, 0] := by decide +kernel

/-- Each window's block at a point, by the point's coordinates. -/
theorem index2 : ∀ t : Fin grid0.N, win0_2.index t = ![(grid0.coords t 1).val, 0] := by decide +kernel

/-- Each window's block at a point, by the point's coordinates. -/
theorem index3 : ∀ t : Fin grid0.N, win0_3.index t = ![(grid0.coords t 0).val, (grid0.coords t 1).val, 0] := by decide +kernel

/-- Each window's block at a point, by the point's coordinates. -/
theorem index4 : ∀ t : Fin grid0.N, win0_4.index t = ![(grid0.coords t 1).val, (grid0.coords t 0).val, 0] := by decide +kernel

/-- A point's items. -/
theorem block0 (t : Fin cfg0.N) (r : Fin 512) (i : Fin 4096) (hi : i.val = 512 * (grid0.coords t 0).val + r.val) :
    (iblk m c 0 t : S1x512x1.Idx → BitVec 32) (ix3 0 r 0) = (m (c, main_arg0) : S4096.Idx → BitVec 32) (ix1 i) := by
  blk_simp [iblk, index0]
  rw [V_v3]
  refine shapeCast_apply (s := S4096) _ _ _ (ix1 i) ?_
  rw [Shape.rowMajor_val_one, Shape.rowMajor_val_three]
  have e0 : ((win0_0.blk t).view.emb (ix3 0 r 0) 0).val = (grid0.coords t 0).val * 1 + 0 := by blk_simp [index0]; rfl
  have e1 : ((win0_0.blk t).view.emb (ix3 0 r 0) 1).val = 0 * 512 + r.val := by blk_simp [index0]
  have e2 : ((win0_0.blk t).view.emb (ix3 0 r 0) 2).val = 0 * 1 + 0 := by blk_simp [index0]; rfl
  show i.val = (((win0_0.blk t).view.emb (ix3 0 r 0) 0).val * 512 + ((win0_0.blk t).view.emb (ix3 0 r 0) 1).val) * 1 + ((win0_0.blk t).view.emb (ix3 0 r 0) 2).val
  rw [e0, e1, e2]
  omega

/-- A point's items' rows. -/
theorem block1 (t : Fin cfg0.N) (r : Fin 512) (l : Fin 64) (i : Fin 4096) (hi : i.val = 512 * (grid0.coords t 0).val + r.val) :
    (iblk m c 1 t : S512x64.Idx → EReal) (ix2 r l) = (m (c, main_arg1) : S4096x64.Idx → EReal) (ix2 i l) := by
  blk_simp [iblk]
  rw [V_v2]
  blk_ext [index1]

/-- A point's rows of the table, where there are any. -/
theorem block2 (t : Fin cfg0.N) (k : Fin 2048) (l : Fin 64) (j : Fin 100000) (hj : j.val = 2048 * (grid0.coords t 1).val + k.val) :
    (iblk m c 2 t : S2048x64.Idx → EReal) (ix2 k l) = (m (c, main_arg2) : S100000x64.Idx → EReal) (ix2 j l) := by
  blk_simp [iblk]
  rw [V_v1]
  refine pad_apply_of_inside _ _ _ _ _ _ _ _ _ fun a => ?_
  match a with
  | ⟨0, _⟩ =>
    show ((win0_2.blk t).view.emb (ix2 k l) 0).val = 0 + j.val * 1
    blk_simp [index2]
    omega
  | ⟨1, _⟩ =>
    show ((win0_2.blk t).view.emb (ix2 k l) 1).val = 0 + l.val * 1
    blk_simp [index2]

/-- A point's tile is the masked scores of its items against its columns. -/
theorem tile_eq (t : Fin cfg0.N) (r : Fin 512) (k : Fin 2048) (i : Fin 4096) (hi : i.val = 512 * (grid0.coords t 0).val + r.val) :
    k0_pay5 (F := Ideal) (grid0.coords t) (iblk m c 1 t) (iblk m c 2 t) (iblk m c 0 t) (ix2 r k)
      = score (m (c, main_arg0)) (m (c, main_arg1)) (m (c, main_arg2)) i (2048 * (grid0.coords t 1).val + k.val) := by
  refine (tile_apply _ _ _ _ _ _).trans ?_
  unfold score
  rw [block0 m c t r i hi]
  by_cases h : 2048 * (grid0.coords t 1).val + k.val < 100000
  · refine congrArg (masked _ _) (Finset.sum_congr rfl fun l _ => ?_)
    exact congrArg₂ (fun a b : EReal => a * b) (block1 m c t r l i hi)
      (block2 m c t k l ⟨_, Nat.mod_lt _ (by decide)⟩ (Nat.mod_eq_of_lt h))
  · unfold masked
    rw [if_pos (.inr (not_lt.mp h)), if_pos (.inr (not_lt.mp h))]

/-! ## The results after the run -/

/-- The first result is the scores. -/
theorem result3 : (dats m 0 c).arrAt 3 cfg0.N = scores (m (c, main_arg0)) (m (c, main_arg1)) (m (c, main_arg2)) := by
  refine (dats m 0 c).arrAt_eq_of_covers 3 _ (by decide +kernel) fun t hf y => ?_
  blk_simp
  rw [after0_3]
  have y0 : (y 0).val < 64 := (y 0).isLt
  have y1 : (y 1).val < 128 := (y 1).isLt
  have y2 : (y 2).val < 128 := (y 2).isLt
  have t0 : (grid0.coords t 0).val < 8 := (grid0.coords t 0).isLt
  have e0 : ((win0_3.blk t).view.emb y 0).val = (grid0.coords t 0).val * 64 + (y 0).val := by blk_simp [index3]
  have e1 : ((win0_3.blk t).view.emb y 1).val = (grid0.coords t 1).val * 128 + (y 1).val := by blk_simp [index3]
  have e2 : ((win0_3.blk t).view.emb y 2).val = (y 2).val := by blk_simp [index3]
  refine (out3_apply _ _ _ _ y ⟨8 * (y 0).val + (y 1).val % 8, by omega⟩ ⟨128 * ((y 1).val / 8) + (y 2).val, by omega⟩ rfl rfl).trans ?_
  refine (tile_eq m c t _ _ ⟨512 * (grid0.coords t 0).val + (8 * (y 0).val + (y 1).val % 8), by omega⟩ rfl).trans ?_
  unfold scores
  refine congrArg₂ (score _ _ _) (Fin.ext ?_) ?_
  · show 512 * (grid0.coords t 0).val + (8 * (y 0).val + (y 1).val % 8) = 8 * ((win0_3.blk t).view.emb y 0).val + ((win0_3.blk t).view.emb y 1).val % 8
    rw [e0, e1]
    omega
  · show 2048 * (grid0.coords t 1).val + (128 * ((y 1).val / 8) + (y 2).val) = 128 * (((win0_3.blk t).view.emb y 1).val / 8) + ((win0_3.blk t).view.emb y 2).val
    rw [e1, e2]
    omega

/-- The second is the maxima. -/
theorem result4 : (dats m 0 c).arrAt 4 cfg0.N = maxima (m (c, main_arg0)) (m (c, main_arg1)) (m (c, main_arg2)) := by
  refine (dats m 0 c).arrAt_eq_of_covers 4 _ (by decide +kernel) fun t hf y => ?_
  blk_simp
  rw [after0_4]
  have y0 : (y 0).val < 1 := (y 0).isLt
  have y1 : (y 1).val < 512 := (y 1).isLt
  have y2 : (y 2).val < 16 := (y 2).isLt
  have e0 : ((win0_4.blk t).view.emb y 0).val = (grid0.coords t 1).val + (y 0).val := by blk_simp [index4]
  have e1 : ((win0_4.blk t).view.emb y 1).val = (grid0.coords t 0).val * 512 + (y 1).val := by blk_simp [index4]
  have e2 : ((win0_4.blk t).view.emb y 2).val = (y 2).val := by blk_simp [index4]
  have hy : y = ix3 (0 : Fin 1) (⟨(y 1).val, y1⟩ : Fin 512) (⟨(y 2).val, y2⟩ : Fin 16) := by
    funext a
    match a with
    | ⟨0, _⟩ => exact Fin.ext (Nat.lt_one_iff.mp y0)
    | ⟨1, _⟩ => rfl
    | ⟨2, _⟩ => rfl
  refine Eq.trans (congrArg (out0_4 (F := Ideal) (grid0.coords t) (iblk m c 0 t) (iblk m c 1 t) (iblk m c 2 t)) hy) ?_
  refine (out4_apply _ _ _ _ _ _).trans ?_
  unfold maxima
  refine congrArg (fun f => Finset.univ.fold max _ f) (funext fun l => ?_)
  refine (tile_eq m c t _ _ ((win0_4.blk t).view.emb y 1) ?_).trans (congrArg (score _ _ _ _) ?_)
  · rw [e1, Nat.mul_comm]
  · show 2048 * (grid0.coords t 1).val + (128 * (y 2).val + l.val) = 2048 * ((win0_4.blk t).view.emb y 0).val + 128 * ((win0_4.blk t).view.emb y 2).val + l.val
    rw [e0, e2]
    omega

end Cert.Proof.Scores

end
-- ==== Proof.Scores.RefValue.lean ====
/-
  What the masked product's reference computes, element by element, over the extended reals.
-/
module

public import proofs.«01_k».proof.Proof.Scores.Value
public import proofs.«01_k».proof.Proof.Gen.ScoresReferenceIdeal.Run
public import Idealize.ShloMosaic.Lib.KernelVsHost

@[expose] public section

set_option maxRecDepth 16384

noncomputable section

namespace Cert.Proof.Scores

open Cert.ScoresReferenceIdeal Cert.ScoresReferenceIdeal.Gen
open Idealize.ShloMosaic
open Idealize.ShloMosaic.TcCoe

variable (a : S4096.Idx → BitVec 32) (X : S4096x64.Idx → EReal) (E : S100000x64.Idx → EReal)

/-- The reference's masked product before the columns are added. -/
abbrev product : S4096x100000.Idx → EReal :=
  select (cmpi .eq (broadcastInDim S4096x100000 ![0, 1] bcast_S1x100000_S4096x100000_0_1 (broadcastInDim S1x100000 ![1] bcast_S100000_S1x100000_1 (iotaInDim S100000 32 0)))
      (broadcastInDim S4096x100000 ![0, 1] bcast_S4096x1_S4096x100000_0_1 (broadcastInDim S4096x1 ![0] bcast_S4096_S4096x1_0 a)))
    (broadcastInDim S4096x100000 ![] bcast_S_S4096x100000 (id (constant (F := Ideal) S_ .f32 0xCE6E6B28#32)))
    (Host.dotGeneral (F := Ideal) (φ₁ := .f32) (φ₂ := .f32) dot_S4096x64_S64x100000_S4096x100000_1_0_0_1_n_n none X (transpose S64x100000 [1, 0] E transposes_S100000x64_S64x100000_1_0))

/-- The masked product with its columns filled up to whole blocks. -/
abbrev padded : S4096x100352.Idx → EReal :=
  pad S4096x100352 ![0, 0] ![0, 352] ![0, 0] (product a X E) (id (constant (F := Ideal) S_ .f32 0xCE6E6B28#32)) pads_S4096x100000_S4096x100352_000_03520 h_S_

/-- A column of the table: the reference's select on the item is the mask. -/
theorem inside (i : Fin 4096) (j : ℕ) (h : j < 100000) :
    Scalar.select (IntOp.cmpi .eq (BitVec.ofNat 32 j) (a (ix1 i))) (Ideal.ofBits .f32 0xCE6E6B28#32) (∑ k : Fin 64, X (ix2 i k) * E (ix2 ⟨j, h⟩ k)) = score a X E i j := by
  have hj : (⟨j % 100000, Nat.mod_lt _ (by decide)⟩ : Fin 100000) = ⟨j, h⟩ := Fin.ext (Nat.mod_eq_of_lt h)
  unfold score masked
  rw [hj]
  by_cases he : BitVec.ofNat 32 j = a (ix1 i)
  · rw [if_pos (.inl he), he]
    simp [Scalar.select, IntOp.cmpi]
  · rw [if_neg (by rintro (h' | h') <;> [exact he h'; omega]), show IntOp.cmpi .eq (BitVec.ofNat 32 j) (a (ix1 i)) = 0#1 from ?_]
    · rfl
    · show BitVec.ofBool (decide (BitVec.ofNat 32 j = a (ix1 i))) = 0#1
      rw [decide_eq_false he]
      rfl

/-- A column past the table's end: the constant. -/
theorem outside (i : Fin 4096) (j : ℕ) (h : ¬ j < 100000) : Ideal.ofBits .f32 0xCE6E6B28#32 = score a X E i j :=
  (if_pos (.inr (not_lt.mp h))).symm

/-- The two together. -/
theorem filled (i : Fin 4096) (j j' : ℕ) (hj : j' = j) (p : j < 100000 → EReal) (n : EReal)
    (hp : ∀ h, p h = Scalar.select (IntOp.cmpi .eq (BitVec.ofNat 32 j) (a (ix1 i))) (Ideal.ofBits .f32 0xCE6E6B28#32) (∑ k : Fin 64, X (ix2 i k) * E (ix2 ⟨j, h⟩ k)))
    (hn : n = Ideal.ofBits .f32 0xCE6E6B28#32) : (if h : j < 100000 then p h else n) = score a X E i j' := by
  subst hj
  by_cases h : j' < 100000
  · rw [dif_pos h, hp]
    exact inside a X E i j' h
  · rw [dif_neg h, hn]
    exact outside a X E i j' h

/-- The reference's first result is the scores. -/
theorem ref_scores : shapeCast S512x6272x128 (transpose S512x784x8x128 [0, 2, 1, 3] (shapeCast S512x8x784x128 (padded a X E)
    shapeCasts_S4096x100352_S512x8x784x128) transposes_S512x8x784x128_S512x784x8x128_0_2_1_3) shapeCasts_S512x784x8x128_S512x6272x128 = scores a X E := by
  funext y
  have y0 : (y 0).val < 512 := (y 0).isLt
  pointwise
  unfold scores
  simp only [Nat.mul_comm 8 _, Nat.mul_comm 128 _]
  by_cases h : (y 1).val / 8 * 128 + (y 2).val < 100000
  · rw [dif_pos ⟨by omega, h⟩]
    exact inside a X E _ _ h
  · rw [dif_neg fun h' => h h'.2]
    exact outside a X E _ _ h

/-- The reference's second result is the maxima. -/
theorem ref_maxima : transpose S49x4096x16 [1, 0, 2] (shapeCast S4096x49x16 (Host.reduce (FloatOps.maximumf (F := Ideal) (φ := .f32)) (shapeCast S4096x784x128 (padded a X E)
    shapeCasts_S4096x100352_S4096x784x128) (constant S_ .f32 0xFF800000#32) reducesTo_S4096x784x128_S4096x784_d2 h_S_) shapeCasts_S4096x784_S4096x49x16) transposes_S4096x49x16_S49x4096x16_1_0_2
    = maxima a X E := by
  funext y
  pointwise
  unfold maxima
  refine congrArg (fun f : Fin 128 → EReal => Finset.univ.fold max (Ideal.ofBits .f32 0xFF800000#32) f) (funext fun l => ?_)
  have hj : 2048 * (y 0).val + 128 * (y 2).val + l.val = ((y 0).val * 16 + (y 2).val) * 128 + l.val := by omega
  exact filled a X E (y 1) _ _ hj _ _ (fun h => rfl) rfl

end Cert.Proof.Scores

end
-- ==== Proof.Scores.Algebraic.lean ====
/-
  The masked product: its frames, and that over the extended reals it and its reference leave the same scores and maxima.
-/
module

public import proofs.«01_k».proof.Defs
public import proofs.«01_k».proof.Proof.Scores.RefValue
public import proofs.«01_k».proof.Proof.Gen.Scores.Frame
public import proofs.«01_k».proof.Proof.Gen.ScoresReferenceIdeal

@[expose] public section

noncomputable section

namespace Cert.Proof.Scores

open Idealize.ShloMosaic Idealize.SL.Sem
open Idealize.ShloMosaic.TcCoe

/-! ## The frames -/

/-- The product over bits runs with its arguments unchanged and its semaphores at zero. -/
theorem frame_kernel : Cert.quiescent_Scores := fun m ρ _ => Cert.Scores.Gen.frame m ρ

/-- The product over the extended reals runs with its arguments unchanged and its semaphores at zero. -/
theorem frame_kernelIdeal : Cert.quiescent_ScoresIdeal := fun m ρ _ => Cert.ScoresIdeal.Gen.frame m ρ

/-- Its reference runs with its arguments unchanged; it declares no semaphore. -/
theorem frame_referenceIdeal : Cert.quiescent_ScoresReferenceIdeal := fun m ρ _ =>
  (θ_run Cert.ScoresReferenceIdeal.defs _ _).mono (fun r h => ⟨fun c => (h c).2.2, sem_eq_zero_of_no_sems (by decide) r.2⟩)
    (Cert.ScoresReferenceIdeal.Value.run (F := Ideal) m ρ)

/-! ## The equation -/

/-- The product and its reference, run from equal arguments, end with equal scores and maxima, their arguments unchanged. -/
theorem algebraic : Cert.algebraic_ScoresIdeal_ScoresReferenceIdeal := by
  intro m g m' g' _ hargs
  refine ⟨fun c => scores (m (c, Cert.ScoresIdeal.main_arg0)) (m (c, Cert.ScoresIdeal.main_arg1)) (m (c, Cert.ScoresIdeal.main_arg2)),
    fun c => maxima (m (c, Cert.ScoresIdeal.main_arg0)) (m (c, Cert.ScoresIdeal.main_arg1)) (m (c, Cert.ScoresIdeal.main_arg2)), ?_, ?_⟩
  · refine (θ_run Cert.ScoresIdeal.defs _ _).mono (fun r h c => ?_) (Cert.ScoresIdeal.Value.run_blocks (F := Ideal) m g)
    exact ⟨(h c).1.trans (result3 m c), (h c).2.1.trans (result4 m c), (h c).2.2⟩
  · refine (θ_run Cert.ScoresReferenceIdeal.defs _ _).mono (fun r h c => ?_) (Cert.ScoresReferenceIdeal.Value.run (F := Ideal) m' g')
    obtain ⟨e0, e1, e2⟩ := hargs c
    refine ⟨(h c).1.trans ?_, (h c).2.1.trans ?_, (h c).2.2⟩
    · rw [e0, e1, e2]
      exact ref_scores _ _ _
    · rw [e0, e1, e2]
      exact ref_maxima _ _ _

end Cert.Proof.Scores

end
-- ==== Proof.Ranked.Place.lean ====
/-
  The places of a row's chunks in the table of all chunks, as words: eight rows' chunks lie together, one chunk of each after
  the other.
-/
module

public import Idealize.ShloMosaic.PureOps
public import Idealize.ShloMosaic.Lib.Pointwise
public import Idealize.ShloMosaic.Lib.Pipeline.ValueKit

@[expose] public section

namespace Cert.Proof.Ranked

open Idealize.ShloMosaic

/-- The place of chunk `q` of row `i` in the table of all chunks. -/
def place (i q : ℕ) : ℕ := i / 8 * 6272 + q * 8 + i % 8

/-- Row numbers do not wrap. -/
theorem row_eq (b r : ℕ) : IntOp.addi (Scalar.muli (BitVec.ofNat 32 b) 512#32) (BitVec.ofNat 32 r) = BitVec.ofNat 32 (512 * b + r) := by
  apply BitVec.eq_of_toNat_eq
  show ((BitVec.ofNat 32 b * 512#32) + BitVec.ofNat 32 r).toNat = _
  simp only [BitVec.toNat_add, BitVec.toNat_mul, BitVec.toNat_ofNat]
  omega

/-- A row's group. -/
theorem group_eq : ∀ i : Fin 4096, IntOp.shrsi .vector (BitVec.ofNat 32 i.val) 3#32 = BitVec.ofNat 32 (i.val / 8) := by decide +kernel

/-- A row's place in its group. -/
theorem member_eq : ∀ i : Fin 4096, IntOp.andi (BitVec.ofNat 32 i.val) 7#32 = BitVec.ofNat 32 (i.val % 8) := by decide +kernel

/-- The sum of the parts of a place. -/
theorem place_eq (i q : ℕ) : IntOp.addi (IntOp.addi (IntOp.muli (BitVec.ofNat 32 (i / 8)) 6272#32) (IntOp.muli (BitVec.ofNat 32 q) 8#32)) (BitVec.ofNat 32 (i % 8)) = BitVec.ofNat 32 (place i q) := by
  apply BitVec.eq_of_toNat_eq
  show ((BitVec.ofNat 32 (i / 8) * 6272#32) + (BitVec.ofNat 32 q * 8#32) + BitVec.ofNat 32 (i % 8)).toNat = _
  unfold place
  simp only [BitVec.toNat_add, BitVec.toNat_mul, BitVec.toNat_ofNat]
  omega

/-- A row's group, by division. -/
theorem divsi_eq : ∀ i : Fin 4096, IntOp.divsi .host (BitVec.ofNat 32 i.val) 8#32 = BitVec.ofNat 32 (i.val / 8) := by decide +kernel

/-- A row's place in its group, by remainder. -/
theorem remsi_eq : ∀ i : Fin 4096, IntOp.remsi .host (BitVec.ofNat 32 i.val) 8#32 = BitVec.ofNat 32 (i.val % 8) := by decide +kernel

/-- A word compares as not negative if its first bit is clear. -/
theorem msb_of_sge (w : BitVec 32) (h : IntOp.cmpi .sge w 0#32 = 1#1) : w.msb = false := by
  have e : IntOp.cmpi .sge w 0#32 = BitVec.ofBool ((0#32).sle w) := rfl
  rw [e] at h
  by_contra hm
  have hs : (0#32).sle w = false := by
    rw [BitVec.sle_eq_decide, decide_eq_false_iff_not]
    have := BitVec.toInt_neg_of_msb_true (by simpa using hm)
    rw [show (0#32).toInt = 0 by decide]
    omega
  rw [hs] at h
  exact absurd h (by decide)

/-- The quotient of words that are not negative. -/
theorem divsi_toNat (w b : BitVec 32) (hw : w.msb = false) (hb : b.msb = false) (h0 : b ≠ 0) : (IntOp.divsi .host w b).toNat = w.toNat / b.toNat := by
  have hc : ¬ IntOp.SDivCorner w b := by
    rintro (h | ⟨-, h⟩)
    · exact h0 h
    · rw [h] at hb
      exact absurd hb (by decide)
  unfold IntOp.divsi
  rw [if_neg hc, BitVec.sdiv_eq, hw, hb]
  exact BitVec.toNat_udiv

/-- The remainder of words that are not negative. -/
theorem remsi_toNat (w b : BitVec 32) (hw : w.msb = false) (hb : b.msb = false) (h0 : b ≠ 0) : (IntOp.remsi .host w b).toNat = w.toNat % b.toNat := by
  have hc : ¬ IntOp.SDivCorner w b := by
    rintro (h | ⟨-, h⟩)
    · exact h0 h
    · rw [h] at hb
      exact absurd hb (by decide)
  unfold IntOp.remsi
  rw [if_neg hc, BitVec.srem_eq, hw, hb]
  exact BitVec.toNat_umod

/-- The chunk's number in its row, from its place. -/
def inRow (w : BitVec 32) : ℕ := w.toNat % 6272 / 8

/-- It is below the number of a row's chunks. -/
theorem inRow_lt (w : BitVec 32) : inRow w < 784 := by
  unfold inRow
  omega

/-- It is that of the division of the remainder. -/
theorem inRow_eq (w : BitVec 32) (hw : w.msb = false) : IntOp.divsi .host (IntOp.remsi .host w 6272#32) 8#32 = BitVec.ofNat 32 (inRow w) := by
  have e : _ = w.toNat % 6272 := remsi_toNat w 6272#32 hw (by decide) (by decide)
  refine BitVec.eq_of_toNat_eq ?_
  rw [divsi_toNat _ _ (by rw [BitVec.msb_eq_false_iff_two_mul_lt, e]; omega) (by decide) (by decide), e, BitVec.toNat_ofNat]
  show w.toNat % 6272 / 8 = w.toNat % 6272 / 8 % 2 ^ 32
  omega

/-- A place in the row's group and at the row's place in it is that of a chunk of the row. -/
theorem eq_place (w : BitVec 32) (i : Fin 4096) (hw : w.msb = false)
    (hq : IntOp.divsi .host w 6272#32 = IntOp.divsi .host (BitVec.ofNat 32 i.val) 8#32)
    (hr : IntOp.remsi .host w 8#32 = IntOp.remsi .host (BitVec.ofNat 32 i.val) 8#32) : w = BitVec.ofNat 32 (place i.val (inRow w)) := by
  have hq' : w.toNat / 6272 = i.val / 8 % 2 ^ 32 := (divsi_toNat w 6272#32 hw (by decide) (by decide)).symm.trans ((congrArg BitVec.toNat (hq.trans (divsi_eq i))).trans (BitVec.toNat_ofNat _ _))
  have hr' : w.toNat % 8 = i.val % 8 % 2 ^ 32 := (remsi_toNat w 8#32 hw (by decide) (by decide)).symm.trans ((congrArg BitVec.toNat (hr.trans (remsi_eq i))).trans (BitVec.toNat_ofNat _ _))
  refine BitVec.eq_of_toNat_eq ?_
  rw [BitVec.toNat_ofNat]
  unfold place inRow
  omega

/-- A chunk's number in its row is left of its place without the row's group and place in it. -/
theorem place_sub (i q : ℕ) : IntOp.subi (IntOp.subi (BitVec.ofNat 32 (place i q)) (IntOp.muli (BitVec.ofNat 32 (i / 8)) 6272#32)) (BitVec.ofNat 32 (i % 8)) = BitVec.ofNat 32 (q * 8) := by
  have e : place i q = i / 8 * 6272 + q * 8 + i % 8 := rfl
  rw [e, BitVec.ofNat_add, BitVec.ofNat_add, BitVec.ofNat_mul]
  show BitVec.ofNat 32 (i / 8) * 6272#32 + BitVec.ofNat 32 (q * 8) + BitVec.ofNat 32 (i % 8) - BitVec.ofNat 32 (i / 8) * 6272#32 - BitVec.ofNat 32 (i % 8) = _
  generalize BitVec.ofNat 32 (i / 8) * 6272#32 = a
  generalize BitVec.ofNat 32 (q * 8) = b
  generalize BitVec.ofNat 32 (i % 8) = d
  rw [BitVec.add_assoc, BitVec.add_comm, BitVec.add_sub_cancel, BitVec.add_sub_cancel]

/-- An eighth of a word. -/
theorem eighth_eq : ∀ q : Fin 784, IntOp.shrsi .vector (BitVec.ofNat 32 (q.val * 8)) 3#32 = BitVec.ofNat 32 q.val := by decide +kernel

end Cert.Proof.Ranked
-- ==== Proof.Ranked.Order.lean ====
/-
  The order in which a stable descending sort lists the positions of a row, and that taking the greatest entry again and
  again, putting a small value in its place, follows that order.
-/
module

public import Idealize.ShloMosaic.Lib.SortPrefix
public import Mathlib.Data.EReal.Basic

@[expose] public section

namespace Cert.Proof.Ranked

open Idealize.ShloMosaic

variable {n : ℕ}

/-! ## The sort's order -/

/-- Position `a` stands before position `b`: its entry is greater, or it is as great and `a` is less. -/
def Before (y : Fin n → EReal) (a b : Fin n) : Prop := y b < y a ∨ y b = y a ∧ a < b

/-- A sort that compares the entries alone and keeps ties in order lists the positions as the sort by entry and position. -/
theorem stableSort_eq (y : Fin n → EReal) (R S : Fin n → Fin n → Bool) (hR : ∀ a b, R a b = true ↔ y b < y a)
    (hS : ∀ a b, S a b = true ↔ Before y a b) (l : List (Fin n)) (hl : l.Pairwise (· < ·)) : stableSort R l = stableSort S l := by
  induction l with
  | nil => rfl
  | cons a l ih =>
    rw [List.pairwise_cons] at hl
    unfold stableSort
    rw [ih hl.2]
    refine insertBefore_congr R S a _ fun b hb => ?_
    have hab : a < b := hl.1 b ((perm_stableSort S l).mem_iff.mp hb)
    refine Bool.eq_iff_iff.mpr ((hR b a).trans ((hS b a).trans ?_).symm)
    exact ⟨fun h => h.elim id fun h => absurd (h.2.trans hab) (lt_irrefl _), Or.inl⟩

/-- Earlier in the sorted order is before. -/
theorem before_of_lt (y : Fin n → EReal) (R : Fin n → Fin n → Bool) (hR : ∀ a b, R a b = true ↔ y b < y a) (i j : Fin n) (hij : i < j) :
    Before y (sortedFrom R i) (sortedFrom R j) := by
  classical
  let S : Fin n → Fin n → Bool := fun a b => decide (Before y a b)
  have hS : ∀ a b, S a b = true ↔ Before y a b := fun a b => decide_eq_true_iff
  have hS' : ∀ a b, S a b = false ↔ ¬Before y a b := fun a b => decide_eq_false_iff_not
  have e : sortedFrom R = sortedFrom S := by
    have h : sortPositions n R = sortPositions n S := stableSort_eq y R S hR hS (List.finRange n) (List.pairwise_lt_finRange n)
    funext k
    unfold sortedFrom
    rw [List.get_of_eq h]
    rfl
  have tot : ∀ a b : Fin n, a ≠ b → ¬Before y b a → Before y a b := by
    intro a b hab h
    rcases lt_trichotomy (y b) (y a) with h1 | h1 | h1
    · exact .inl h1
    · rcases lt_or_gt_of_ne hab with h2 | h2
      · exact .inr ⟨h1, h2⟩
      · exact absurd (.inr ⟨h1.symm, h2⟩) h
    · exact absurd (.inl h1) h
  have hne : sortedFrom S i ≠ sortedFrom S j := fun h => (ne_of_lt hij) (sortedFrom_injective S h)
  rw [e]
  refine tot _ _ hne ((hS' _ _).mp ?_)
  refine sortedFrom_noInversion S S (fun a b h => ?_) (fun _ _ h => h) (fun a b c h1 h2 => ?_) i j hij
  · rw [hS] at h
    rw [hS']
    rintro (h' | h')
    · rcases h with h | h
      · exact lt_asymm h h'
      · exact absurd h' (h.1 ▸ lt_irrefl _)
    · rcases h with h | h
      · exact absurd h (h'.1 ▸ lt_irrefl _)
      · exact lt_asymm h.2 h'.2
  · rw [hS'] at h1 h2 ⊢
    unfold Before at h1 h2 ⊢
    push Not at h1 h2 ⊢
    refine ⟨h2.1.trans' h1.1 |>.trans (le_refl _), fun e => ?_⟩
    have e1 : y b = y a := le_antisymm (e ▸ h2.1) h1.1
    exact (h2.2 (e.trans e1.symm)).trans (h1.2 e1)

/-! ## Taking the greatest again and again -/

/-- Of the row `z`, position `p` is the first at which the greatest entry stands. -/
def Leads (z : Fin n → EReal) (p : Fin n) : Prop := ∀ c, z c < z p ∨ z c = z p ∧ p ≤ c

/-- A row after `s` is put at the first `r` positions of a list. -/
noncomputable def cleared (s : EReal) (y : Fin n → EReal) (p : ℕ → Fin n) : ℕ → Fin n → EReal
  | 0 => y
  | r + 1 => fun c => if c = p r then s else cleared s y p r c

/-- The list `p` of `k` different positions with entries above `s` is in order, and every other position comes after them. -/
structure Ranks (s : EReal) (y : Fin n → EReal) (p : ℕ → Fin n) (k : ℕ) : Prop where
  above : ∀ r < k, s < y (p r)
  order : ∀ i j, i < j → j < k → Before y (p i) (p j)
  rest : ∀ c, (∀ i < k, p i ≠ c) → ∀ r < k, Before y (p r) c

namespace Ranks

variable {s : EReal} {y : Fin n → EReal} {p : ℕ → Fin n} {k : ℕ}

/-- At an earlier pick the row holds `s`; at any other position it is as before. -/
theorem cleared_cases (s : EReal) (y : Fin n → EReal) (p : ℕ → Fin n) (r : ℕ) (c : Fin n) :
    (∃ i < r, p i = c) ∧ cleared s y p r c = s ∨ (∀ i < r, p i ≠ c) ∧ cleared s y p r c = y c := by
  induction r with
  | zero => exact .inr ⟨fun _ h => absurd h (Nat.not_lt_zero _), rfl⟩
  | succ r ih =>
    by_cases h : c = p r
    · exact .inl ⟨⟨r, Nat.lt_succ_self r, h.symm⟩, if_pos h⟩
    · rcases ih with ⟨⟨i, hi, e⟩, h'⟩ | ⟨h1, h2⟩
      · exact .inl ⟨⟨i, hi.trans (Nat.lt_succ_self r), e⟩, (if_neg h).trans h'⟩
      · refine .inr ⟨fun i hi => ?_, (if_neg h).trans h2⟩
        rcases Nat.lt_succ_iff_lt_or_eq.mp hi with h' | rfl
        · exact h1 i h'
        · exact fun e => h e.symm

theorem irrefl (y : Fin n → EReal) (a : Fin n) : ¬Before y a a := by
  rintro (h | h)
  · exact lt_irrefl _ h
  · exact lt_irrefl _ h.2

/-- The entry at the next pick has not been replaced. -/
theorem cleared_pick (H : Ranks s y p k) (r : ℕ) (hr : r < k) : cleared s y p r (p r) = y (p r) := by
  rcases cleared_cases s y p r (p r) with ⟨⟨i, hi, e⟩, _⟩ | h
  · exact absurd (e ▸ H.order i r hi hr) (irrefl y _)
  · exact h.2

/-- After `r` picks the greatest entry first stands at the next position of the list. -/
theorem leads (H : Ranks s y p k) (r : ℕ) (hr : r < k) : Leads (cleared s y p r) (p r) := by
  intro c
  rw [H.cleared_pick r hr]
  rcases cleared_cases s y p r c with ⟨_, e⟩ | ⟨h, e⟩
  · rw [e]
    exact .inl (H.above r hr)
  · rw [e]
    by_cases hc : ∃ j, j < k ∧ p j = c
    · obtain ⟨j, hj, rfl⟩ := hc
      rcases lt_trichotomy j r with h' | rfl | h'
      · exact absurd rfl (h j h')
      · exact .inr ⟨rfl, le_refl _⟩
      · exact (H.order r j h' hj).imp_right fun h => ⟨h.1, h.2.le⟩
    · exact (H.rest c (fun i hi e => hc ⟨i, hi, e⟩) r hr).imp_right fun h => ⟨h.1, h.2.le⟩

end Ranks

/-- The first `k` positions of the sorted order, of a row whose every entry is above `s`. -/
theorem ranks_sorted (s : EReal) (y : Fin n → EReal) (R : Fin n → Fin n → Bool) (hR : ∀ a b, R a b = true ↔ y b < y a) (k : ℕ) (hk : k ≤ n)
    (p : ℕ → Fin n) (hp : ∀ r (h : r < k), p r = sortedFrom R ⟨r, h.trans_le hk⟩) (hs : ∀ c, s < y c) : Ranks s y p k where
  above r _ := hs _
  order i j hij hj := by
    rw [hp i (hij.trans hj), hp j hj]
    exact before_of_lt y R hR _ _ hij
  rest c hc r hr := by
    obtain ⟨j, rfl⟩ := sortedFrom_surjective R c
    rw [hp r hr]
    refine before_of_lt y R hR _ _ ?_
    by_contra h
    have h' : j.val ≤ r := not_lt.mp h
    exact hc j (h'.trans_lt hr) (hp j (h'.trans_lt hr))

end Cert.Proof.Ranked
-- ==== Proof.Ranked.Round.lean ====
/-
  One round of a kernel's top-k on a tile of 512 rows, over the extended reals: each row's greatest entry, the first position
  that holds it, and the tile with a small value put there.
-/
module

public import proofs.«01_k».proof.Proof.Ranked.Order
public import Idealize.ShloMosaic.PureOps
public import Idealize.ShloMosaic.Lib.Pointwise
public import Idealize.ShloMosaic.Lib.Pipeline.ValueKit

@[expose] public section

noncomputable section

namespace Cert.Proof.Ranked

open Idealize.ShloMosaic

/-- A tile of 512 rows and `n` columns. -/
abbrev Tile (n : ℕ) : Shape := ⟨2, ![512, n]⟩
/-- One entry per row. -/
abbrev Rows : Shape := ⟨1, ![512]⟩
/-- One entry per row, as a column. -/
abbrev Column : Shape := ⟨2, ![512, 1]⟩

/-- The side conditions of a round's operations. -/
structure Sides (n : ℕ) : Prop where
  reduces : (Tile n).Reduces [1] Rows
  casts : Rows.ShapeCasts Column
  broadcasts : Column.Broadcasts (Tile n)
  iotas : (Tile n).Iotas .tc 32 [1]

/-- The value put in place of an entry already taken. -/
def low : EReal := Ideal.ofBits .f32 0xFF61B1E6#32

/-- An entry that compares as greater than the value is above it. -/
theorem lt_of_greater (a : EReal) (h : FloatOps.cmpf (F := Ideal) (φ := .f32) .ogt a low = 1#1) : low < a := by
  by_contra h'
  have e : FloatOps.cmpf (F := Ideal) (φ := .f32) .ogt a low = BitVec.ofBool (decide (low < a)) := rfl
  rw [e, decide_eq_false h'] at h
  exact absurd h (by decide)

variable {n : ℕ} (hs : Sides n)

/-- Each row's greatest entry. -/
def greatest (x : FVec Ideal (Tile n) .f32) : FVec Ideal Rows .f32 :=
  multiReduction .maximumf [1] Rows x 0xFF800000#32 hs.reduces (.inl rfl) rfl

/-- The first position of each row's greatest entry. -/
def leader (x : FVec Ideal (Tile n) .f32) : IVec Column 32 :=
  shapeCast Column (multiReductionI .minsi [1] Rows
    (select (cmpf .oeq x (broadcastTo (Tile n) (shapeCast Column (greatest hs x) hs.casts) hs.broadcasts)) (iota .tc (Tile n) 32 [1] hs.iotas) (broadcast (Tile n) 1073741824#32))
    2147483647#32 hs.reduces rfl) hs.casts

/-- The tile with that entry replaced. -/
def next (x : FVec Ideal (Tile n) .f32) : FVec Ideal (Tile n) .f32 :=
  select (cmpi .eq (iota .tc (Tile n) 32 [1] hs.iotas) (broadcastTo (Tile n) (leader hs x) hs.broadcasts))
    (broadcast (Tile n) (Scalar.ofBits (F := Ideal) .f32 0xFF61B1E6#32)) x

/-- Each row's entry of a tile of words, taken at that position. -/
def picked (g : IVec (Tile n) 32) (x : FVec Ideal (Tile n) .f32) : IVec Column 32 :=
  shapeCast Column (multiReductionI .minsi [1] Rows
    (select (cmpi .eq (iota .tc (Tile n) 32 [1] hs.iotas) (broadcastTo (Tile n) (leader hs x) hs.broadcasts)) g (broadcast (Tile n) 1073741824#32))
    2147483647#32 hs.reduces rfl) hs.casts

/-- The least of words, of which one is at most every other and at most the start. -/
theorem fold_minsi {ι : Type} (S : Finset ι) (b : BitVec 32) (f : ι → BitVec 32) (w : BitVec 32) (hb : w.toInt ≤ b.toInt)
    (hf : ∀ i ∈ S, w.toInt ≤ (f i).toInt) (i : ι) (hi : i ∈ S) (e : f i = w) : S.fold IntOp.minsi b f = w := by
  have hm : ∀ u v : BitVec 32, (IntOp.minsi u v).toInt = min u.toInt v.toInt := by
    intro u v
    show (if u.slt v then u else v).toInt = _
    rw [BitVec.slt_eq_decide]
    by_cases h : u.toInt < v.toInt
    · simp [h, min_eq_left h.le]
    · simp [h, min_eq_right (not_lt.mp h)]
  refine BitVec.eq_of_toInt_eq ?_
  rw [← Finset.fold_hom (op := IntOp.minsi) (op' := min) hm]
  refine le_antisymm ?_ ?_
  · rw [Finset.fold_min_le]
    exact .inr ⟨i, hi, e ▸ le_refl _⟩
  · rw [Finset.le_fold_min]
    exact ⟨hb, hf⟩

/-- A position below 2^31 as a word, read signed. -/
theorem toInt_position (c : ℕ) (h : c < 2 ^ 31) : (BitVec.ofNat 32 c).toInt = c := by
  rw [BitVec.toInt_eq_toNat_of_lt (by simp only [BitVec.toNat_ofNat]; omega)]
  simp only [BitVec.toNat_ofNat]
  omega

/-- The start of a greatest entry is the least extended real. -/
theorem start_eq : Ideal.ofBits .f32 0xFF800000#32 = ⊥ := by
  simp [Ideal.ofBits, Ideal.ieee]

/-- A row's greatest entry is that at its first position. -/
theorem greatest_apply (x : FVec Ideal (Tile n) .f32) (r : Fin 512) (p : Fin n) (hp : Leads (fun c => x (ix2 r c)) p) :
    greatest hs x (ix1 r) = x (ix2 r p) := by
  unfold greatest
  pointwise
  refine le_antisymm ?_ ?_
  · rw [Finset.fold_max_le, start_eq]
    exact ⟨bot_le, fun c _ => (hp c).elim le_of_lt fun h => h.1.le⟩
  · rw [Finset.le_fold_max]
    exact .inr ⟨p, Finset.mem_univ p, le_refl _⟩

/-- A row's first position of its greatest entry. -/
theorem leader_apply (hn : n < 2 ^ 30) (x : FVec Ideal (Tile n) .f32) (r : Fin 512) (p : Fin n) (hp : Leads (fun c => x (ix2 r c)) p) :
    leader hs x (ix2 r 0) = BitVec.ofNat 32 p.val := by
  unfold leader
  pointwise
  rw [greatest_apply hs x r p hp]
  have hp' : (BitVec.ofNat 32 p.val).toInt = p.val := toInt_position _ (by omega)
  refine fold_minsi _ _ _ _ ?_ (fun c _ => ?_) p (Finset.mem_univ p) (if_pos rfl)
  · rw [hp', show (2147483647#32).toInt = 2147483647 by decide]
    omega
  · rw [hp']
    by_cases h : x (ix2 r c) = x (ix2 r p)
    · rw [if_pos h, toInt_position _ (by omega)]
      exact Int.ofNat_le.mpr ((hp c).elim (fun h' => absurd h (ne_of_lt h')) fun h' => h'.2)
    · rw [if_neg h, show (1073741824#32).toInt = 1073741824 by decide]
      omega

/-- A select on two positions being equal. -/
theorem select_position {α : Type} (a b : ℕ) (ha : a < 2 ^ 32) (hb : b < 2 ^ 32) (u v : α) :
    Scalar.select (IntOp.cmpi .eq (BitVec.ofNat 32 a) (BitVec.ofNat 32 b)) u v = if a = b then u else v := by
  have e : BitVec.ofNat 32 a = BitVec.ofNat 32 b ↔ a = b := by
    rw [← BitVec.toNat_inj]
    simp only [BitVec.toNat_ofNat]
    omega
  show (if BitVec.ofBool (BitVec.ofNat 32 a == BitVec.ofNat 32 b) = 1#1 then u else v) = _
  by_cases h : a = b
  · rw [if_pos h, h]
    simp
  · have h' : (BitVec.ofNat 32 a == BitVec.ofNat 32 b) = false := beq_eq_false_iff_ne.mpr fun h' => h (e.mp h')
    rw [if_neg h, h']
    exact if_neg (by decide)

/-- After a round the row is as before, but for that position. -/
theorem next_apply (hn : n < 2 ^ 30) (x : FVec Ideal (Tile n) .f32) (r : Fin 512) (p : Fin n) (hp : Leads (fun c => x (ix2 r c)) p) (c : Fin n) :
    next hs x (ix2 r c) = if c = p then low else x (ix2 r c) := by
  unfold next
  pointwise
  rw [leader_apply hs hn x r p hp, select_position _ _ (by omega) (by omega)]
  exact if_congr Fin.ext_iff.symm rfl rfl

/-- The tile after `i` rounds. -/
def rounds (x : FVec Ideal (Tile n) .f32) : ℕ → FVec Ideal (Tile n) .f32
  | 0 => x
  | i + 1 => next hs (rounds x i)

section Row

variable (hn : n < 2 ^ 30) (x : FVec Ideal (Tile n) .f32) (r : Fin 512) (p : ℕ → Fin n) (k : ℕ) (H : Ranks low (fun c => x (ix2 r c)) p k)
include hn H

/-- A row after `i` rounds: its first `i` positions in order are replaced. -/
theorem rounds_apply (i : ℕ) (hi : i ≤ k) : (fun c => rounds hs x i (ix2 r c)) = cleared low (fun c => x (ix2 r c)) p i := by
  induction i with
  | zero => rfl
  | succ i ih =>
    have e := ih (Nat.le_of_succ_le hi)
    have hl : Leads (fun c => rounds hs x i (ix2 r c)) (p i) := e ▸ H.leads i hi
    funext c
    refine (next_apply hs hn (rounds hs x i) r (p i) hl c).trans ?_
    exact if_congr Iff.rfl rfl (congrFun e c)

/-- Round `i` finds the row's position number `i` in order. -/
theorem leader_rounds (i : ℕ) (hi : i < k) : leader hs (rounds hs x i) (ix2 r 0) = BitVec.ofNat 32 (p i).val :=
  leader_apply hs hn _ r _ (rounds_apply hs hn x r p k H i hi.le ▸ H.leads i hi)

/-- Round `i` finds the entry there. -/
theorem greatest_rounds (i : ℕ) (hi : i < k) : greatest hs (rounds hs x i) (ix1 r) = x (ix2 r (p i)) := by
  have e := rounds_apply hs hn x r p k H i hi.le
  exact (greatest_apply hs _ r _ (e ▸ H.leads i hi)).trans ((congrFun e (p i)).trans (H.cleared_pick i hi))

/-- Round `i` takes the word there, if it is small. -/
theorem picked_rounds (g : IVec (Tile n) 32) (i : ℕ) (hi : i < k) (hg : (g (ix2 r (p i))).toInt ≤ 1073741824) :
    picked hs g (rounds hs x i) (ix2 r 0) = g (ix2 r (p i)) := by
  have e := leader_rounds hs hn x r p k H i hi
  unfold picked
  generalize leader hs (rounds hs x i) = w at e ⊢
  pointwise
  rw [e]
  refine fold_minsi _ _ _ _ ?_ (fun c _ => ?_) (p i) (Finset.mem_univ _) ?_
  · rw [show (2147483647#32).toInt = 2147483647 by decide]
    omega
  · rw [select_position _ _ (by omega) (by omega)]
    by_cases h : c.val = (p i).val
    · rw [if_pos h, Fin.ext h]
    · rw [if_neg h, show (1073741824#32).toInt = 1073741824 by decide]
      exact hg
  · rw [select_position _ _ (by omega) (by omega), if_pos rfl]

end Row

end Cert.Proof.Ranked

end
-- ==== Proof.Ranked.TopK.lean ====
/-
  A host's top-ten along the rows of a matrix, over the extended reals: the first ten positions of each row's sorted order, and
  the entries there.
-/
module

public import proofs.«01_k».proof.Proof.Ranked.Order
public import Idealize.ShloMosaic.PureOps
public import Idealize.ShloMosaic.Lib.Pointwise
public import Idealize.ShloMosaic.Lib.Pipeline.ValueKit

@[expose] public section

noncomputable section

namespace Cert.Proof.Ranked

open Idealize.ShloMosaic

variable {n : ℕ}

/-- Whether one entry is the greater, as the top-ten asks it. -/
def greater (y : Fin n → EReal) (a b : Fin n) : Bool := FloatOps.cmpfTotal (F := Ideal) (φ := .f32) .gt (y a) (y b) == 1#1

theorem greater_iff (y : Fin n → EReal) (a b : Fin n) : greater y a b = true ↔ y b < y a := by
  show (BitVec.ofBool (decide (y b < y a)) == 1#1) = true ↔ _
  by_cases h : y b < y a <;> simp [h]

/-- The positions of a row of at least ten entries, the greatest entry's first, ties in order. -/
def order (y : Fin n → EReal) (hk : 10 ≤ n) (r : ℕ) : Fin n := if h : r < 10 then sortedFrom (greater y) ⟨r, h.trans_le hk⟩ else ⟨0, by omega⟩

/-- They are in order if all entries are above `s`. -/
theorem ranks_order (s : EReal) (y : Fin n → EReal) (hk : 10 ≤ n) (hs : ∀ c, s < y c) : Ranks s y (order y hk) 10 :=
  ranks_sorted s y (greater y) (greater_iff y) 10 hk _ (fun _ h => dif_pos h) hs

/-- A matrix with 4096 rows. -/
abbrev Matrix (n : ℕ) : Shape := ⟨2, ![4096, n]⟩

/-- Of the matrix, sorted along its rows, the source of an element of the first ten columns. -/
theorem source_eq (hk : 10 ≤ n) (x : FVec Ideal (Matrix n) .f32) (j : (Matrix n).Idx) (i : Fin 4096) (r : Fin 10) (h0 : (j 0).val = i.val) (h1 : (j 1).val = r.val) :
    j.along 1 (sortedFrom (fun k k' => FloatOps.cmpfTotal (F := Ideal) (φ := .f32) .gt (x (j.along 1 k)) (x (j.along 1 k')) == 1#1) (j 1))
      = ix2 i (order (fun c => x (ix2 i c)) hk r.val) := by
  have e : ∀ k : Fin n, j.along 1 k = ix2 i k := fun k => by
    funext a
    match a with
    | ⟨0, _⟩ => exact Fin.ext h0
    | ⟨1, _⟩ => rfl
  have e' : (fun k k' : Fin n => FloatOps.cmpfTotal (F := Ideal) (φ := .f32) .gt (x (j.along 1 k)) (x (j.along 1 k')) == 1#1)
      = greater fun c => x (ix2 i c) := by
    funext k k'
    rw [e, e]
    rfl
  refine (e _).trans (congrArg (ix2 i) ?_)
  have h2 : (j 1 : Fin n) = ⟨r.val, r.isLt.trans_le hk⟩ := Fin.ext h1
  unfold order
  rw [dif_pos r.isLt]
  exact congrArg₂ (fun (R : Fin n → Fin n → Bool) (k : Fin n) => sortedFrom R k) e' h2

/-- The top-ten's positions. -/
theorem topK_places (hk : 10 ≤ n) (x : FVec Ideal (Matrix n) .f32) (h : (Matrix n).Slices (fun _ => 0) (Matrix 10)) (i : Fin 4096) (r : Fin 10) :
    (Host.topK (Matrix 10) 1 (FloatOps.cmpfTotal (F := Ideal) (φ := .f32) .gt) x h).2 (ix2 i r) = BitVec.ofNat 32 (order (fun c => x (ix2 i c)) hk r.val).val := by
  unfold Host.topK Host.sort2
  pointwise
  exact congrArg (fun k : (Matrix n).Idx => BitVec.ofNat 32 (k 1).val) (source_eq hk x _ i r rfl rfl)

/-- The top-ten's entries. -/
theorem topK_values (hk : 10 ≤ n) (x : FVec Ideal (Matrix n) .f32) (h : (Matrix n).Slices (fun _ => 0) (Matrix 10)) (i : Fin 4096) (r : Fin 10) :
    (Host.topK (Matrix 10) 1 (FloatOps.cmpfTotal (F := Ideal) (φ := .f32) .gt) x h).1 (ix2 i r) = x (ix2 i (order (fun c => x (ix2 i c)) hk r.val)) := by
  unfold Host.topK Host.sort2
  pointwise
  exact congrArg x (source_eq hk x _ i r rfl rfl)

end Cert.Proof.Ranked

end
-- ==== Proof.Choose.Value.lean ====
/-
  What the choice of chunks computes, element by element, over the extended reals.
-/
module

public import proofs.«01_k».proof.Proof.Gen.ChooseIdeal.Value
public import proofs.«01_k».proof.Proof.Ranked.Place
public import proofs.«01_k».proof.Proof.Ranked.Round
public import proofs.«01_k».proof.Proof.Ranked.TopK
public import Idealize.ShloMosaic.Lib.Pipeline.Covers
public import Idealize.ShloMosaic.Lib.KernelVsHost

@[expose] public section

set_option maxRecDepth 16384

noncomputable section

namespace Cert.Proof.Choose

open Cert.ChooseIdeal Cert.ChooseIdeal.Gen Cert.Proof.Ranked
open Idealize.ShloMosaic
open Idealize.ShloMosaic.TcCoe

/-! ## The specification -/

/-- The greatest scores of a row's 784 chunks. -/
def row (M : S49x4096x16.Idx → EReal) (i : Fin 4096) : Fin 784 → EReal := fun c =>
  M (ix3 ⟨c.val / 16, by omega⟩ i ⟨c.val % 16, by omega⟩)

/-- Each row's ten chunks with the greatest maxima, by their places. -/
def chosen (M : S49x4096x16.Idx → EReal) : S8x512x10.Idx → BitVec 32 := fun y =>
  let i : Fin 4096 := ⟨512 * (y 0).val + (y 1).val, by
    have h0 : (y 0).val < 8 := (y 0).isLt
    have h1 : (y 1).val < 512 := (y 1).isLt
    omega⟩
  BitVec.ofNat 32 (place i.val (order (row M i) (by decide) (y 2).val).val)

/-! ## The rounds of one point -/

/-- A round's side conditions. -/
theorem sides : Sides 896 := ⟨reduces_S512x896_S512, shapeCasts_S512_S512x1, broadcasts_S512x1_S512x896, iota_S512x896_d1_w32⟩

variable (x : S512x896.Idx → EReal)

theorem pay2_eq : k0_pay2 (F := Ideal) x = x := by
  unfold k0_pay2
  funext y
  pointwise

/-- The ten rounds' positions, side by side. -/
def positions : IVec S512x10 32 :=
  concatenate S512x10 1 [⟨S512x1, leader sides (rounds sides x 0)⟩, ⟨S512x1, leader sides (rounds sides x 1)⟩, ⟨S512x1, leader sides (rounds sides x 2)⟩,
    ⟨S512x1, leader sides (rounds sides x 3)⟩, ⟨S512x1, leader sides (rounds sides x 4)⟩, ⟨S512x1, leader sides (rounds sides x 5)⟩,
    ⟨S512x1, leader sides (rounds sides x 6)⟩, ⟨S512x1, leader sides (rounds sides x 7)⟩, ⟨S512x1, leader sides (rounds sides x 8)⟩,
    ⟨S512x1, leader sides (rounds sides x 9)⟩] concatenates_S512x1_S512x1_S512x1_S512x1_S512x1_S512x1_S512x1_S512x1_S512x1_S512x1_S512x10_d1

/-- One of them. -/
theorem positions_apply (r : Fin 512) (k : Fin 10) : positions x (ix2 r k) = leader sides (rounds sides x k.val) (ix2 r 0) := by
  unfold positions
  concat_tiles i h
  all_goals
    have hk : k.val = _ := h
    rw [hk]
    refine congrArg (leader sides _) (funext fun a => Fin.ext ?_)
    match a with
    | ⟨0, _⟩ => exact h0
    | ⟨1, _⟩ => exact h1

/-- The ten rounds, from the first. -/
theorem tail_eq (b : BitVec 32) :
    k0_pay20 (F := Ideal) b (iota .tc S512x896 32 [1] iota_S512x896_d1_w32) (k0_pay3 (F := Ideal) x) (k0_pay5 (F := Ideal) x) (k0_pay7 (F := Ideal) x)
        (k0_pay10 (iota .tc S512x896 32 [1] iota_S512x896_d1_w32) (k0_pay9 (F := Ideal) x) 1073741824#32)
        (k0_pay12 (F := Ideal) (iota .tc S512x896 32 [1] iota_S512x896_d1_w32) (k0_pay8 (F := Ideal) x) (k0_pay9 (F := Ideal) x) 1073741824#32)
        (k0_pay14 (F := Ideal) (iota .tc S512x896 32 [1] iota_S512x896_d1_w32) (k0_pay8 (F := Ideal) x) (k0_pay9 (F := Ideal) x) 1073741824#32)
        (k0_pay16 (F := Ideal) (iota .tc S512x896 32 [1] iota_S512x896_d1_w32) (k0_pay8 (F := Ideal) x) (k0_pay9 (F := Ideal) x) 1073741824#32)
        (k0_pay17 (F := Ideal) (iota .tc S512x896 32 [1] iota_S512x896_d1_w32) (k0_pay8 (F := Ideal) x) (k0_pay9 (F := Ideal) x) 1073741824#32)
        (k0_pay18 (F := Ideal) (iota .tc S512x896 32 [1] iota_S512x896_d1_w32) (k0_pay8 (F := Ideal) x) (k0_pay9 (F := Ideal) x) 1073741824#32)
      = addi (broadcastTo S512x10 (muli (shrsi (k0_pay19 b) (broadcast S512x1 3#32)) (broadcast S512x1 6272#32)) broadcasts_S512x1_S512x10)
        (muli (positions (k0_pay2 (F := Ideal) x)) (broadcast S512x10 8#32)) := by
  rfl

/-- What a point leaves. -/
theorem out_apply (i : grid0.Coords) (r : Fin 512) (k : Fin 10) (j : Fin 4096) (q : ℕ) (hj : j.val = 512 * (i 0).val + r.val)
    (hq : leader sides (rounds sides x k.val) (ix2 r 0) = BitVec.ofNat 32 q) :
    out0_1 (F := Ideal) i x (ix3 0 r k) = BitVec.ofNat 32 (place j.val q) := by
  rw [← positions_apply] at hq
  unfold_out out0_1
  canon_tiles y h
  rw [show View.ld (Val := Elt Ideal) (e' := .f32) x r0_0 = x from View.ld_unit_lit _ _ (by decide)]
  rw [tail_eq, pay2_eq]
  have e : y = ix3 (0 : Fin 1) r k := by
    funext a
    match a with
    | ⟨0, _⟩ => exact Fin.ext (by show (y 0).val = 0; omega)
    | ⟨1, _⟩ => exact Fin.ext h1.symm
    | ⟨2, _⟩ => exact Fin.ext h2.symm
  rw [e]
  unfold k0_pay1 k0_pay19 k0_pay21
  pointwise
  rw [hq, row_eq, ← hj, group_eq, member_eq, place_eq]

/-- A row filled up with the least value has the same ten greatest. -/
theorem ranks_filled (y : Fin 784 → EReal) (z : Fin 896 → EReal) (hz : ∀ c, z c = if h : c.val < 784 then y ⟨c.val, h⟩ else low) (hy : ∀ c, low < y c) :
    Ranks low z (fun r => (order y (by decide) r).castLE (by decide)) 10 := by
  have H := ranks_order low y (by decide) hy
  have e : ∀ c : Fin 784, z (c.castLE (by decide)) = y c := fun c => (hz _).trans (dif_pos c.isLt)
  refine ⟨fun r hr => ?_, fun i j hij hj => ?_, fun c hc r hr => ?_⟩
  · rw [e]
    exact hy _
  · have h := H.order i j hij hj
    unfold Before at h ⊢
    rw [e, e]
    exact h
  · unfold Before
    rw [e]
    by_cases h : c.val < 784
    · have h' := H.rest ⟨c.val, h⟩ (fun i hi he => hc i hi (Fin.ext (Fin.ext_iff.mp he :))) r hr
      unfold Before at h'
      rw [hz, dif_pos h]
      exact h'
    · rw [hz, dif_neg h]
      exact .inl (hy _)

/-! ## The blocks of a point -/

variable (m : (ℓ : Loc nD τ sig) → Buf (Elt Ideal) ℓ) (c : Dev nD)

/-- The maxima by rows, filled up to whole vectors. -/
theorem V_v2 : V m c main_v2 = pad S4096x896 ![0, 0] ![0, 112] ![0, 0]
    (shapeCast S4096x784 (transpose S4096x49x16 [1, 0, 2] (m (c, main_arg0) : S49x4096x16.Idx → EReal) transposes_S49x4096x16_S4096x49x16_1_0_2) shapeCasts_S4096x49x16_S4096x784)
    (id (constant (F := Ideal) S_ .f32 0xFF61B1E6#32)) pads_S4096x784_S4096x896_000_01120 h_S_ := by
  simp only [V, hostOps0, hostOps0_1, List.flatten_cons, List.flatten_nil, List.cons_append, List.nil_append, List.append_nil]
  after_results
  rfl

/-- The maxima by rows, at an element. -/
theorem byRow_apply (M : S49x4096x16.Idx → EReal) (h : S49x4096x16.Transposes [1, 0, 2] S4096x49x16) (h' : S4096x49x16.ShapeCasts S4096x784) (i : Fin 4096) (q : Fin 784) :
    shapeCast S4096x784 (transpose S4096x49x16 [1, 0, 2] M h) h' (ix2 i q) = row M i q := by
  pointwise
  rfl

/-- Each window's block at a point, by the point's coordinate. -/
theorem index0 : ∀ t : Fin grid0.N, win0_0.index t = ![(grid0.coords t 0).val, 0] := by decide +kernel

/-- Each window's block at a point, by the point's coordinate. -/
theorem index1 : ∀ t : Fin grid0.N, win0_1.index t = ![(grid0.coords t 0).val, 0, 0] := by decide +kernel

/-- A point's rows. -/
theorem block0 (t : Fin cfg0.N) (r : Fin 512) (q : Fin 896) (i : Fin 4096) (hi : i.val = 512 * (grid0.coords t 0).val + r.val) :
    (iblk m c 0 t : S512x896.Idx → EReal) (ix2 r q) = if h : q.val < 784 then row (m (c, main_arg0)) i ⟨q.val, h⟩ else low := by
  blk_simp [iblk]
  rw [V_v2]
  have e0 : ((win0_0.blk t).view.emb (ix2 r q) 0).val = (grid0.coords t 0).val * 512 + r.val := by blk_simp [index0]
  have e1 : ((win0_0.blk t).view.emb (ix2 r q) 1).val = q.val := by blk_simp [index0]
  by_cases h : q.val < 784
  · rw [dif_pos h]
    refine (pad_apply_of_inside _ _ _ _ _ _ _ _ (ix2 i ⟨q.val, h⟩) fun a => ?_).trans (byRow_apply _ _ _ _ _)
    match a with
    | ⟨0, _⟩ =>
      show ((win0_0.blk t).view.emb (ix2 r q) 0).val = 0 + i.val * 1
      omega
    | ⟨1, _⟩ =>
      show ((win0_0.blk t).view.emb (ix2 r q) 1).val = 0 + q.val * 1
      omega
  · rw [dif_neg h]
    refine (pad_apply_of_not_inside _ _ _ _ _ _ _ _ (1 : Fin 2) ?_).trans rfl
    rintro ⟨-, -, h'⟩
    have h'' : (((win0_0.blk t).view.emb (ix2 r q) 1).val - 0) / 1 < 784 := h'
    omega

/-! ## The result after the run -/

/-- The result is the chosen chunks' places, if all maxima are above the least value. -/
theorem result1 (hM : ∀ y, low < (m (c, main_arg0) : S49x4096x16.Idx → EReal) y) : (dats m 0 c).arrAt 1 cfg0.N = chosen (m (c, main_arg0)) := by
  refine (dats m 0 c).arrAt_eq_of_covers 1 _ (by decide +kernel) fun t hf y => ?_
  blk_simp
  rw [after0_1]
  have y0 : (y 0).val < 1 := (y 0).isLt
  have y1 : (y 1).val < 512 := (y 1).isLt
  have y2 : (y 2).val < 10 := (y 2).isLt
  have t0 : (grid0.coords t 0).val < 8 := (grid0.coords t 0).isLt
  have e0 : ((win0_1.blk t).view.emb y 0).val = (grid0.coords t 0).val + (y 0).val := by blk_simp [index1]
  have e1 : ((win0_1.blk t).view.emb y 1).val = (y 1).val := by blk_simp [index1]
  have e2 : ((win0_1.blk t).view.emb y 2).val = (y 2).val := by blk_simp [index1]
  have hy : y = ix3 (0 : Fin 1) (⟨(y 1).val, y1⟩ : Fin 512) (⟨(y 2).val, y2⟩ : Fin 10) := by
    funext a
    match a with
    | ⟨0, _⟩ => exact Fin.ext (Nat.lt_one_iff.mp y0)
    | ⟨1, _⟩ => rfl
    | ⟨2, _⟩ => rfl
  have hj : 512 * (grid0.coords t 0).val + (y 1).val < 4096 := by omega
  refine Eq.trans (congrArg (out0_1 (F := Ideal) (grid0.coords t) (iblk m c 0 t)) hy) ?_
  refine (out_apply (iblk m c 0 t) (grid0.coords t) _ _ ⟨_, hj⟩ _ rfl (leader_rounds sides (by decide) _ _ _ 10
    (ranks_filled (row (m (c, main_arg0)) ⟨_, hj⟩) _ (fun q => block0 m c t _ q ⟨_, hj⟩ rfl) fun q => hM _) _ y2)).trans ?_
  unfold chosen
  have ej : (⟨512 * (grid0.coords t 0).val + (y 1).val, hj⟩ : Fin 4096) = ⟨512 * ((win0_1.blk t).view.emb y 0).val + ((win0_1.blk t).view.emb y 1).val, by omega⟩ :=
    Fin.ext (by show 512 * (grid0.coords t 0).val + (y 1).val = 512 * ((win0_1.blk t).view.emb y 0).val + ((win0_1.blk t).view.emb y 1).val; omega)
  exact congrArg₂ (fun (i : Fin 4096) (k : ℕ) => BitVec.ofNat 32 (place i.val (order (row (m (c, main_arg0)) i) (by decide) k).val)) ej e2.symm

end Cert.Proof.Choose

end
-- ==== Proof.Choose.RefValue.lean ====
/-
  What the choice of chunks' reference computes, element by element, over the extended reals.
-/
module

public import proofs.«01_k».proof.Proof.Choose.Value
public import proofs.«01_k».proof.Proof.Gen.ChooseReferenceIdeal.Run
public import Idealize.ShloMosaic.Lib.KernelVsHost

@[expose] public section

set_option maxRecDepth 16384

noncomputable section

namespace Cert.Proof.Choose

open Cert.ChooseReferenceIdeal Cert.ChooseReferenceIdeal.Gen Cert.Proof.Ranked
open Idealize.ShloMosaic
open Idealize.ShloMosaic.TcCoe

variable (M : S49x4096x16.Idx → EReal)

/-- The maxima by rows. -/
abbrev byRow : S4096x784.Idx → EReal :=
  shapeCast S4096x784 (transpose S4096x49x16 [1, 0, 2] M transposes_S49x4096x16_S4096x49x16_1_0_2) shapeCasts_S4096x49x16_S4096x784

/-- The rows' numbers. -/
abbrev numbers : S4096x1.Idx → BitVec 32 := broadcastInDim S4096x1 ![0] bcast_S4096_S4096x1_0 (iotaInDim S4096 32 0)

/-- A constant column. -/
abbrev column (w : BitVec 32) : S4096x1.Idx → BitVec 32 := broadcastInDim S4096x1 ![] bcast_S_S4096x1 (constantI S_ 32 w)

/-- The ten best chunks of each row. -/
abbrev best : S4096x10.Idx → BitVec 32 := (Host.topK S4096x10 1 (FloatOps.cmpfTotal (F := Ideal) (φ := .f32) .gt) (byRow M) sliceFits_S4096x784_S4096x10).2

/-- The best chunk of a round is that of the sorted order. -/
theorem best_apply (i : Fin 4096) (k : Fin 10) : best M (ix2 i k) = BitVec.ofNat 32 (order (row M i) (by decide) k.val).val := by
  refine (topK_places (by decide) (byRow M) _ i k).trans ?_
  rw [show (fun q => byRow M (ix2 i q)) = row M i from funext fun q => byRow_apply M _ _ i q]

/-- The reference's result is the chosen chunks' places. -/
theorem ref_chosen : shapeCast S8x512x10 (addi (addi (broadcastInDim S4096x10 ![0, 1] bcast_S4096x1_S4096x10_0_1 (muli (Host.divsi numbers (column 8#32)) (column 6272#32)))
      (muli (best M) (broadcastInDim S4096x10 ![] bcast_S_S4096x10 (constantI S_ 32 8#32))))
    (broadcastInDim S4096x10 ![0, 1] bcast_S4096x1_S4096x10_0_1 (Host.remsi numbers (column 8#32)))) shapeCasts_S4096x10_S8x512x10 = chosen M := by
  funext y
  have y0 : (y 0).val < 8 := (y 0).isLt
  have y1 : (y 1).val < 512 := (y 1).isLt
  have hj : 512 * (y 0).val + (y 1).val < 4096 := by omega
  refine (shapeCast_apply _ _ y (ix2 (⟨_, hj⟩ : Fin 4096) (y 2 : Fin 10)) ?_).trans ?_
  · rw [Shape.rowMajor_val_two, Shape.rowMajor_val_three]
    show (512 * (y 0).val + (y 1).val) * 10 + (y 2).val = ((y 0).val * 512 + (y 1).val) * 10 + (y 2).val
    omega
  · have e := best_apply M ⟨_, hj⟩ (y 2)
    generalize best M = b at e ⊢
    pointwise
    rw [e, divsi_eq ⟨_, hj⟩, remsi_eq ⟨_, hj⟩, place_eq]
    rfl

end Cert.Proof.Choose

end
-- ==== Proof.Choose.Algebraic.lean ====
/-
  The choice of chunks: its frames, and that over the extended reals it and its reference leave the same places.
-/
module

public import proofs.«01_k».proof.Defs
public import proofs.«01_k».proof.Proof.Choose.RefValue
public import proofs.«01_k».proof.Proof.Gen.Choose.Frame
public import proofs.«01_k».proof.Proof.Gen.ChooseReferenceIdeal
public import proofs.«01_k».proof.Proof.Gen.Pre_maxima_above
public import Idealize.ShloMosaic.Lib.ReduceAll

@[expose] public section

noncomputable section

namespace Cert.Proof.Choose

open Cert.Proof.Ranked
open Idealize.ShloMosaic Idealize.SL.Sem
open Idealize.ShloMosaic.TcCoe

/-! ## The frames -/

/-- The choice over bits runs with its arguments unchanged and its semaphores at zero. -/
theorem frame_kernel : Cert.quiescent_Choose := fun m ρ _ => Cert.Choose.Gen.frame m ρ

/-- The choice over the extended reals runs with its arguments unchanged and its semaphores at zero. -/
theorem frame_kernelIdeal : Cert.quiescent_ChooseIdeal := fun m ρ _ => Cert.ChooseIdeal.Gen.frame m ρ

/-- The same where the maxima are above the least value. -/
theorem frame_kernelIdeal_above : Cert.quiescent_ChooseIdeal_pre_maxima_above := fun m ρ _ => Cert.ChooseIdeal.Gen.frame m ρ

/-- Its reference runs with its arguments unchanged; it declares no semaphore. -/
theorem frame_referenceIdeal : Cert.quiescent_ChooseReferenceIdeal := fun m ρ _ =>
  (θ_run Cert.ChooseReferenceIdeal.defs _ _).mono (fun r h => ⟨fun c => (h c).2, sem_eq_zero_of_no_sems (by decide) r.2⟩)
    (Cert.ChooseReferenceIdeal.Value.run (F := Ideal) m ρ)

/-- The same where the maxima are above the least value. -/
theorem frame_referenceIdeal_above : Cert.quiescent_ChooseReferenceIdeal_pre_maxima_above := fun m ρ _ => frame_referenceIdeal m ρ trivial

/-! ## The equation -/

/-- The precondition, read at an element. -/
theorem above_of_pre (M : FVec Ideal Cert.Pre_maxima_above.S49x4096x16 .f32) (h : Cert.Pre_maxima_above.fn (F := Ideal) M = fun _ => 1#1)
    (y : Cert.Pre_maxima_above.S49x4096x16.Idx) : low < M y := by
  haveI : Subsingleton (Cert.Pre_maxima_above.S_.Idx) := ⟨fun a b => funext fun i => i.elim0⟩
  exact lt_of_greater _ (Host.reduce_andi_all _ _ _ _ _ (congrFun h ix0) y)

/-- The choice and its reference, run from equal arguments, end with equal places, their arguments unchanged. -/
theorem algebraic : Cert.algebraic_ChooseIdeal_ChooseReferenceIdeal_pre_maxima_above := by
  intro m g m' g' hpre hargs
  refine ⟨fun c => chosen (m (c, Cert.ChooseIdeal.main_arg0)), ?_, ?_⟩
  · refine (θ_run Cert.ChooseIdeal.defs _ _).mono (fun r h c => ?_) (Cert.ChooseIdeal.Value.run_blocks (F := Ideal) m g)
    exact ⟨(h c).1.trans (result1 m c (above_of_pre _ (hpre c))), (h c).2⟩
  · refine (θ_run Cert.ChooseReferenceIdeal.defs _ _).mono (fun r h c => ?_) (Cert.ChooseReferenceIdeal.Value.run (F := Ideal) m' g')
    refine ⟨(h c).1.trans ?_, (h c).2⟩
    rw [hargs c]
    exact ref_chosen _

end Cert.Proof.Choose

end
-- ==== Proof.Rank.Value.lean ====
/-
  What the top-k of the candidates computes, element by element, over the extended reals.
-/
module

public import proofs.«01_k».proof.Proof.Gen.RankIdeal.Value
public import proofs.«01_k».proof.Proof.Ranked.Place
public import proofs.«01_k».proof.Proof.Ranked.Round
public import proofs.«01_k».proof.Proof.Ranked.TopK
public import Idealize.ShloMosaic.Lib.Pipeline.Covers

@[expose] public section

set_option maxRecDepth 16384

noncomputable section

namespace Cert.Proof.Rank

open Cert.RankIdeal Cert.RankIdeal.Gen Cert.Proof.Ranked
open Idealize.ShloMosaic
open Idealize.ShloMosaic.TcCoe

/-! ## The specification -/

/-- Each row's place of round `k`: that of its candidate number `k` in descending order, the earlier of equal ones first. -/
def place (X : S4096x1280.Idx → EReal) (i : Fin 4096) (k : ℕ) : Fin 1280 := order (fun c => X (ix2 i c)) (by decide) k

/-- The column of the whole product that a candidate stands for: that of its chunk in its row, and its lane. -/
def columnOf (Q : S8x512x10.Idx → BitVec 32) (i : Fin 4096) (c : Fin 1280) : BitVec 32 :=
  BitVec.ofNat 32 (inRow (Q (ix3 ⟨i.val / 512, by omega⟩ ⟨i.val % 512, by omega⟩ ⟨c.val / 128, by omega⟩)) * 128 + c.val % 128)

/-- A row's greatest candidates' sum. -/
def total (X : S4096x1280.Idx → EReal) (i : Fin 4096) : EReal := ∑ k : Fin 10, X (ix2 i (place X i k.val))

/-- A candidate's weight: its share of the sum, if that is positive, else the candidate. -/
def share (s v : EReal) : EReal := if 0 < s then Ideal.div v s else v

/-- The row of an element of the results. -/
def rowOf (y : S8x512x10.Idx) : Fin 4096 := ⟨512 * (y 0).val + (y 1).val, by
  have h0 : (y 0).val < 8 := (y 0).isLt
  have h1 : (y 1).val < 512 := (y 1).isLt
  omega⟩

/-- The ten neighbours of each row. -/
def neighbours (X : S4096x1280.Idx → EReal) (Q : S8x512x10.Idx → BitVec 32) : S8x512x10.Idx → BitVec 32 := fun y =>
  columnOf Q (rowOf y) (place X (rowOf y) (y 2).val)

/-- Their weights. -/
def weights (X : S4096x1280.Idx → EReal) : S8x512x10.Idx → EReal := fun y =>
  share (total X (rowOf y)) (X (ix2 (rowOf y) (place X (rowOf y) (y 2).val)))

/-! ## The rounds of one point -/

/-- A round's side conditions. -/
theorem sides : Sides 1280 := ⟨reduces_S512x1280_S512, shapeCasts_S512_S512x1, broadcasts_S512x1_S512x1280, iota_S512x1280_d1_w32⟩

variable (x : S512x1280.Idx → EReal) (z : S1x512x10.Idx → BitVec 32)

/-- The columns the candidates of a point stand for. -/
def columns (i : grid0.Coords) : IVec S512x1280 32 := k0_pay5 (k0_pay3 (F := Ideal) i z) k0_pay4

/-- A round's greatest entries, as a column. -/
def greatestColumn (k : ℕ) : FVec Ideal S512x1 .f32 := shapeCast S512x1 (greatest sides (rounds sides x k)) shapeCasts_S512_S512x1

/-- The ten rounds' greatest entries, side by side. -/
def values : FVec Ideal S512x10 .f32 :=
  concatenate S512x10 1 [⟨S512x1, greatestColumn x 0⟩, ⟨S512x1, greatestColumn x 1⟩, ⟨S512x1, greatestColumn x 2⟩, ⟨S512x1, greatestColumn x 3⟩,
    ⟨S512x1, greatestColumn x 4⟩, ⟨S512x1, greatestColumn x 5⟩, ⟨S512x1, greatestColumn x 6⟩, ⟨S512x1, greatestColumn x 7⟩,
    ⟨S512x1, greatestColumn x 8⟩, ⟨S512x1, greatestColumn x 9⟩] concatenates_S512x1_S512x1_S512x1_S512x1_S512x1_S512x1_S512x1_S512x1_S512x1_S512x1_S512x10_d1

/-- The ten rounds' words, side by side. -/
def words (g : IVec S512x1280 32) : IVec S512x10 32 :=
  concatenate S512x10 1 [⟨S512x1, picked sides g (rounds sides x 0)⟩, ⟨S512x1, picked sides g (rounds sides x 1)⟩, ⟨S512x1, picked sides g (rounds sides x 2)⟩,
    ⟨S512x1, picked sides g (rounds sides x 3)⟩, ⟨S512x1, picked sides g (rounds sides x 4)⟩, ⟨S512x1, picked sides g (rounds sides x 5)⟩,
    ⟨S512x1, picked sides g (rounds sides x 6)⟩, ⟨S512x1, picked sides g (rounds sides x 7)⟩, ⟨S512x1, picked sides g (rounds sides x 8)⟩,
    ⟨S512x1, picked sides g (rounds sides x 9)⟩] concatenates_S512x1_S512x1_S512x1_S512x1_S512x1_S512x1_S512x1_S512x1_S512x1_S512x1_S512x10_d1

/-- One of the greatest entries. -/
theorem values_apply (r : Fin 512) (k : Fin 10) : values x (ix2 r k) = greatest sides (rounds sides x k.val) (ix1 r) := by
  have e : ∀ j : ℕ, greatestColumn x j (ix2 r 0) = greatest sides (rounds sides x j) (ix1 r) := by
    intro j
    unfold greatestColumn
    generalize greatest sides (rounds sides x j) = w
    pointwise
  rw [← e]
  unfold values
  concat_tiles i h
  all_goals
    have hk : k.val = _ := h
    rw [hk]
    refine congrArg (greatestColumn x _) (funext fun a => Fin.ext ?_)
    match a with
    | ⟨0, _⟩ => exact h0
    | ⟨1, _⟩ => exact h1

/-- One of the words. -/
theorem words_apply (g : IVec S512x1280 32) (r : Fin 512) (k : Fin 10) : words x g (ix2 r k) = picked sides g (rounds sides x k.val) (ix2 r 0) := by
  unfold words
  concat_tiles i h
  all_goals
    have hk : k.val = _ := h
    rw [hk]
    refine congrArg (picked sides g _) (funext fun a => Fin.ext ?_)
    match a with
    | ⟨0, _⟩ => exact h0
    | ⟨1, _⟩ => exact h1

/-- A point's loads are whole blocks. -/
theorem ld_eq0 : View.ld (Val := Elt Ideal) (e' := .f32) x r0_0 = x := View.ld_unit_lit _ _ (by decide)

/-- A point's loads are whole blocks. -/
theorem ld_eq1 : View.ld (Val := Elt Ideal) (e' := .i32) z r0_1 = z := View.ld_unit_lit _ _ (by decide)

/-- The words a point leaves, from the rounds. -/
theorem out2_eq (i : grid0.Coords) : out0_2 (F := Ideal) i x z =
    View.canon [⟨r0_1, k0_pay1 (words (View.ld (Val := Elt Ideal) (e' := .f32) x r0_0) (columns (View.ld (Val := Elt Ideal) (e' := .i32) z r0_1) i))⟩] := by
  rfl

/-- The weights a point leaves, from the rounds. -/
theorem out3_eq (i : grid0.Coords) : out0_3 (F := Ideal) i x z =
    View.canon [⟨r0_1, k0_pay2 (F := Ideal) (values (View.ld (Val := Elt Ideal) (e' := .f32) x r0_0))
      (multiReduction .add [1] S512 (values (View.ld (Val := Elt Ideal) (e' := .f32) x r0_0)) 0x00000000#32 reduces_S512x10_S512 (.inl rfl) rfl)⟩] := by
  rfl

/-- A candidate's lane in its chunk. -/
theorem lane_eq (r : Fin 512) (c : Fin 1280) : k0_pay4 (ix2 r c) = BitVec.ofNat 32 (c.val % 128) := by
  have h : ∀ c : Fin 1280, k0_pay4 (ix2 0 c) = BitVec.ofNat 32 (c.val % 128) := by
    unfold k0_pay4
    pointwise
    decide +kernel
  refine Eq.trans ?_ (h c)
  unfold k0_pay4
  pointwise

/-- The column that a candidate of a point stands for. -/
theorem columns_apply (i : grid0.Coords) (r : Fin 512) (c : Fin 1280) (s : Fin 10) (j : Fin 4096) (q : ℕ) (hq : q < 784) (hj : j.val = 512 * (i 0).val + r.val)
    (hs : s.val = c.val / 128) (hz : z (ix3 0 r s) = BitVec.ofNat 32 (Ranked.place j.val q)) : columns z i (ix2 r c) = BitVec.ofNat 32 (q * 128 + c.val % 128) := by
  have e : k0_pay3 (F := Ideal) i z (ix2 r c) = BitVec.ofNat 32 (q * 128) := by
    unfold k0_pay3
    pointwise
    have es : (⟨c.val / 128, by omega⟩ : Fin 10) = s := Fin.ext hs.symm
    rw [es, hz, row_eq, ← hj, group_eq, member_eq, place_sub, eighth_eq ⟨q, hq⟩, BitVec.ofNat_mul]
    rfl
  unfold columns k0_pay5
  show IntOp.addi (k0_pay3 (F := Ideal) i z (ix2 r c)) (k0_pay4 (ix2 r c)) = _
  rw [e, lane_eq, BitVec.ofNat_add]
  rfl

/-- The weights' payload at an element. -/
theorem pay2_apply (v : FVec Ideal S512x10 .f32) (r : Fin 512) (k : Fin 10) :
    k0_pay2 (F := Ideal) v (multiReduction .add [1] S512 v 0x00000000#32 reduces_S512x10_S512 (.inl rfl) rfl) (ix3 0 r k) = share (∑ j : Fin 10, v (ix2 r j)) (v (ix2 r k)) := by
  have e : multiReduction .add [1] S512 v 0x00000000#32 reduces_S512x10_S512 (.inl rfl) rfl (ix1 r) = ∑ j : Fin 10, v (ix2 r j) := by
    pointwise
  generalize multiReduction .add [1] S512 v 0x00000000#32 reduces_S512x10_S512 (.inl rfl) rfl = s at e ⊢
  unfold k0_pay2
  pointwise
  rw [e]
  unfold share
  by_cases h : 0 < ∑ j : Fin 10, v (ix2 r j)
  · simp only [if_pos h]
  · simp only [if_neg h]

/-! ## What a point leaves -/

section Point

variable (i : grid0.Coords) (j : Fin 4096) (r : Fin 512) (hj : j.val = 512 * (i 0).val + r.val) (X : S4096x1280.Idx → EReal) (hX : ∀ y, low < X y)
  (hx : ∀ c : Fin 1280, x (ix2 r c) = X (ix2 j c))
include hj hX hx

/-- The rounds' order is that of the row of candidates. -/
theorem ranks_row : Ranks low (fun c => x (ix2 r c)) (place X j) 10 := by
  have e : (fun c => x (ix2 r c)) = fun c => X (ix2 j c) := funext hx
  rw [e]
  exact ranks_order low _ (by decide) fun c => hX _

/-- The words a point leaves are the neighbours' columns. -/
theorem out2_apply (Q : S8x512x10.Idx → BitVec 32) (k : Fin 10)
    (hz : ∀ s : Fin 10, z (ix3 0 r s) = Q (ix3 ⟨j.val / 512, by omega⟩ ⟨j.val % 512, by omega⟩ s))
    (hQ : ∀ s : Fin 10, Q (ix3 ⟨j.val / 512, by omega⟩ ⟨j.val % 512, by omega⟩ s)
      = BitVec.ofNat 32 (Ranked.place j.val (inRow (Q (ix3 ⟨j.val / 512, by omega⟩ ⟨j.val % 512, by omega⟩ s))))) :
    out0_2 (F := Ideal) i x z (ix3 0 r k) = columnOf Q j (place X j k.val) := by
  have e : ∀ c : Fin 1280, columns z i (ix2 r c) = columnOf Q j c := fun c =>
    columns_apply z i r c ⟨c.val / 128, by omega⟩ j _ (inRow_lt _) hj rfl ((hz _).trans (hQ _))
  have h := picked_rounds sides (by decide) x r _ 10 (ranks_row x i j r hj X hX hx) (columns z i) k.val k.isLt (by
    rw [e]
    unfold columnOf
    have := inRow_lt (Q (ix3 ⟨j.val / 512, by omega⟩ ⟨j.val % 512, by omega⟩ ⟨(place X j k.val).val / 128, by omega⟩))
    rw [toInt_position _ (by omega)]
    omega)
  rw [← words_apply, e] at h
  rw [out2_eq]
  canon_tiles y h'
  rw [ld_eq0, ld_eq1]
  have ey : y = ix3 (0 : Fin 1) r k := by
    funext a
    match a with
    | ⟨0, _⟩ => exact Fin.ext (by show (y 0).val = 0; omega)
    | ⟨1, _⟩ => exact Fin.ext h'1.symm
    | ⟨2, _⟩ => exact Fin.ext h'2.symm
  rw [ey, ← h]
  unfold k0_pay1
  generalize words x (columns z i) = w
  pointwise

/-- The weights a point leaves are the neighbours' shares. -/
theorem out3_apply (k : Fin 10) : out0_3 (F := Ideal) i x z (ix3 0 r k) = share (total X j) (X (ix2 j (place X j k.val))) := by
  have e : ∀ k : Fin 10, values x (ix2 r k) = X (ix2 j (place X j k.val)) := fun k => by
    rw [values_apply, greatest_rounds sides (by decide) x r _ 10 (ranks_row x i j r hj X hX hx) k.val k.isLt, hx]
  rw [out3_eq]
  canon_tiles y h'
  rw [ld_eq0]
  have ey : y = ix3 (0 : Fin 1) r k := by
    funext a
    match a with
    | ⟨0, _⟩ => exact Fin.ext (by show (y 0).val = 0; omega)
    | ⟨1, _⟩ => exact Fin.ext h'1.symm
    | ⟨2, _⟩ => exact Fin.ext h'2.symm
  rw [ey, pay2_apply, e]
  exact congrArg₂ share (Finset.sum_congr rfl fun k _ => e k) rfl

end Point

/-! ## The blocks of a point -/

variable (m : (ℓ : Loc nD τ sig) → Buf (Elt Ideal) ℓ) (c : Dev nD)

/-- Each window's block at a point, by the point's coordinate. -/
theorem index0 : ∀ t : Fin grid0.N, win0_0.index t = ![(grid0.coords t 0).val, 0] := by decide +kernel

/-- Each window's block at a point, by the point's coordinate. -/
theorem index1 : ∀ t : Fin grid0.N, win0_1.index t = ![(grid0.coords t 0).val, 0, 0] := by decide +kernel

/-- Each window's block at a point, by the point's coordinate. -/
theorem index2 : ∀ t : Fin grid0.N, win0_2.index t = ![(grid0.coords t 0).val, 0, 0] := by decide +kernel

/-- Each window's block at a point, by the point's coordinate. -/
theorem index3 : ∀ t : Fin grid0.N, win0_3.index t = ![(grid0.coords t 0).val, 0, 0] := by decide +kernel

/-- A point's rows of candidates. -/
theorem block0 (t : Fin cfg0.N) (r : Fin 512) (q : Fin 1280) (i : Fin 4096) (hi : i.val = 512 * (grid0.coords t 0).val + r.val) :
    (iblk m c 0 t : S512x1280.Idx → EReal) (ix2 r q) = (m (c, main_arg0) : S4096x1280.Idx → EReal) (ix2 i q) := by
  have e0 : ((win0_0.blk t).view.emb (ix2 r q) 0).val = (grid0.coords t 0).val * 512 + r.val := by blk_simp [index0]
  have e1 : ((win0_0.blk t).view.emb (ix2 r q) 1).val = q.val := by blk_simp [index0]
  blk_simp [iblk]
  rw [V_main_arg0]
  refine congrArg (m (c, main_arg0) : S4096x1280.Idx → EReal) (funext fun a => Fin.ext ?_)
  match a with
  | ⟨0, _⟩ =>
    show ((win0_0.blk t).view.emb (ix2 r q) 0).val = i.val
    omega
  | ⟨1, _⟩ => exact e1

/-- A point's chunk numbers. -/
theorem block1 (t : Fin cfg0.N) (r : Fin 512) (s : Fin 10) (i : Fin 4096) (hi : i.val = 512 * (grid0.coords t 0).val + r.val) :
    (iblk m c 1 t : S1x512x10.Idx → BitVec 32) (ix3 0 r s) = (m (c, main_arg1) : S8x512x10.Idx → BitVec 32) (ix3 ⟨i.val / 512, by omega⟩ ⟨i.val % 512, by omega⟩ s) := by
  have e0 : ((win0_1.blk t).view.emb (ix3 0 r s) 0).val = (grid0.coords t 0).val := by
    blk_simp [index1]
    exact Nat.add_zero _
  have e1 : ((win0_1.blk t).view.emb (ix3 0 r s) 1).val = r.val := by blk_simp [index1]
  have e2 : ((win0_1.blk t).view.emb (ix3 0 r s) 2).val = s.val := by blk_simp [index1]
  blk_simp [iblk]
  rw [V_main_arg1]
  refine congrArg (m (c, main_arg1) : S8x512x10.Idx → BitVec 32) (funext fun a => Fin.ext ?_)
  match a with
  | ⟨0, _⟩ =>
    show ((win0_1.blk t).view.emb (ix3 0 r s) 0).val = i.val / 512
    omega
  | ⟨1, _⟩ =>
    show ((win0_1.blk t).view.emb (ix3 0 r s) 1).val = i.val % 512
    omega
  | ⟨2, _⟩ => exact e2

/-! ## The results after the run -/

section Results

variable (hX : ∀ y, low < (m (c, main_arg0) : S4096x1280.Idx → EReal) y)
include hX

/-- The first result is the neighbours, if every chunk number is of its own row and all candidates are above the least value. -/
theorem result2 (hQ : ∀ (i : Fin 4096) (s : Fin 10), (m (c, main_arg1) : S8x512x10.Idx → BitVec 32) (ix3 ⟨i.val / 512, by omega⟩ ⟨i.val % 512, by omega⟩ s)
      = BitVec.ofNat 32 (Ranked.place i.val (inRow ((m (c, main_arg1) : S8x512x10.Idx → BitVec 32) (ix3 ⟨i.val / 512, by omega⟩ ⟨i.val % 512, by omega⟩ s))))) :
    (dats m 0 c).arrAt 2 cfg0.N = neighbours (m (c, main_arg0)) (m (c, main_arg1)) := by
  refine (dats m 0 c).arrAt_eq_of_covers 2 _ (by decide +kernel) fun t hf y => ?_
  blk_simp
  rw [after0_2]
  have y0 : (y 0).val < 1 := (y 0).isLt
  have y1 : (y 1).val < 512 := (y 1).isLt
  have y2 : (y 2).val < 10 := (y 2).isLt
  have e0 : ((win0_2.blk t).view.emb y 0).val = (grid0.coords t 0).val + (y 0).val := by blk_simp [index2]
  have e1 : ((win0_2.blk t).view.emb y 1).val = (y 1).val := by blk_simp [index2]
  have e2 : ((win0_2.blk t).view.emb y 2).val = (y 2).val := by blk_simp [index2]
  have hy : y = ix3 (0 : Fin 1) (⟨(y 1).val, y1⟩ : Fin 512) (⟨(y 2).val, y2⟩ : Fin 10) := by
    funext a
    match a with
    | ⟨0, _⟩ => exact Fin.ext (Nat.lt_one_iff.mp y0)
    | ⟨1, _⟩ => rfl
    | ⟨2, _⟩ => rfl
  have hj : (rowOf ((win0_2.blk t).view.emb y)).val = 512 * (grid0.coords t 0).val + (y 1).val := by
    show 512 * ((win0_2.blk t).view.emb y 0).val + ((win0_2.blk t).view.emb y 1).val = _
    omega
  refine Eq.trans (congrArg (out0_2 (F := Ideal) (grid0.coords t) (iblk m c 0 t) (iblk m c 1 t)) hy) ?_
  refine (out2_apply _ _ (grid0.coords t) _ ⟨(y 1).val, y1⟩ hj (m (c, main_arg0)) hX (fun q => block0 m c t _ q _ hj) (m (c, main_arg1)) ⟨(y 2).val, y2⟩
    (fun s => block1 m c t _ s _ hj) fun s => hQ _ s).trans ?_
  unfold neighbours
  rw [e2]

/-- The second result is their weights, if all candidates are above the least value. -/
theorem result3 : (dats m 0 c).arrAt 3 cfg0.N = weights (m (c, main_arg0)) := by
  refine (dats m 0 c).arrAt_eq_of_covers 3 _ (by decide +kernel) fun t hf y => ?_
  blk_simp
  rw [after0_3]
  have y0 : (y 0).val < 1 := (y 0).isLt
  have y1 : (y 1).val < 512 := (y 1).isLt
  have y2 : (y 2).val < 10 := (y 2).isLt
  have e0 : ((win0_3.blk t).view.emb y 0).val = (grid0.coords t 0).val + (y 0).val := by blk_simp [index3]
  have e1 : ((win0_3.blk t).view.emb y 1).val = (y 1).val := by blk_simp [index3]
  have e2 : ((win0_3.blk t).view.emb y 2).val = (y 2).val := by blk_simp [index3]
  have hy : y = ix3 (0 : Fin 1) (⟨(y 1).val, y1⟩ : Fin 512) (⟨(y 2).val, y2⟩ : Fin 10) := by
    funext a
    match a with
    | ⟨0, _⟩ => exact Fin.ext (Nat.lt_one_iff.mp y0)
    | ⟨1, _⟩ => rfl
    | ⟨2, _⟩ => rfl
  have hj : (rowOf ((win0_3.blk t).view.emb y)).val = 512 * (grid0.coords t 0).val + (y 1).val := by
    show 512 * ((win0_3.blk t).view.emb y 0).val + ((win0_3.blk t).view.emb y 1).val = _
    omega
  refine Eq.trans (congrArg (out0_3 (F := Ideal) (grid0.coords t) (iblk m c 0 t) (iblk m c 1 t)) hy) ?_
  refine (out3_apply _ _ (grid0.coords t) _ ⟨(y 1).val, y1⟩ hj (m (c, main_arg0)) hX (fun q => block0 m c t _ q _ hj) ⟨(y 2).val, y2⟩).trans ?_
  unfold weights
  rw [e2]

end Results

end Cert.Proof.Rank

end
-- ==== Proof.Rank.RefValue.lean ====
/-
  What the top-k's reference computes, element by element, over the extended reals.
-/
module

public import proofs.«01_k».proof.Proof.RefValue
public import proofs.«01_k».proof.Proof.Rank.Value
public import proofs.«01_k».proof.Proof.Gen.RankReferenceIdeal.Run
public import Idealize.ShloMosaic.Lib.KernelVsHost

@[expose] public section

set_option maxRecDepth 16384

noncomputable section

namespace Cert.Proof.Rank

open Cert.RankReferenceIdeal Cert.RankReferenceIdeal.Gen Cert.Proof.Ranked
open Idealize.ShloMosaic
open Idealize.ShloMosaic.TcCoe

variable (X : S4096x1280.Idx → EReal) (Q : S8x512x10.Idx → BitVec 32)

/-! ## The ten greatest -/

/-- Their places in the row. -/
abbrev places : IVec S4096x10 32 := (Host.topK S4096x10 1 (FloatOps.cmpfTotal (F := Ideal) (φ := .f32) .gt) X sliceFits_S4096x1280_S4096x10).2

/-- The entries themselves. -/
abbrev entries : FVec Ideal S4096x10 .f32 := (Host.topK S4096x10 1 (FloatOps.cmpfTotal (F := Ideal) (φ := .f32) .gt) X sliceFits_S4096x1280_S4096x10).1

/-- A place is that of the sorted order. -/
theorem places_apply (i : Fin 4096) (k : Fin 10) : places X (ix2 i k) = BitVec.ofNat 32 (place X i k.val).val :=
  topK_places (by decide) X _ i k

/-- An entry is that of the sorted order. -/
theorem entries_apply (i : Fin 4096) (k : Fin 10) : entries X (ix2 i k) = X (ix2 i (place X i k.val)) :=
  topK_values (by decide) X _ i k

/-- Places lie in the row. -/
theorem places_lt (y : S4096x10.Idx) : (places X y).toNat < 1280 := by
  have e : y = ix2 (y 0 : Fin 4096) (y 1 : Fin 10) := by funext a; fin_cases a <;> rfl
  have h : places X y = BitVec.ofNat 32 (place X (y 0 : Fin 4096) (y 1 : Fin 10).val).val := (congrArg (places X) e).trans (places_apply X (y 0) (y 1))
  rw [h, BitVec.toNat_ofNat]
  exact lt_of_le_of_lt (Nat.mod_le _ _) (Fin.isLt _)

/-! ## The columns that they stand for -/

/-- The columns of all candidates. -/
abbrev candidateColumns : IVec S4096x1280 32 :=
  shapeCast S4096x1280 (addi (broadcastInDim S4096x10x128 ![0, 1, 2] bcast_S4096x10x1_S4096x10x128_0_1_2 (muli (broadcastInDim S4096x10x1 ![0, 1] bcast_S4096x10_S4096x10x1_0_1
      (Host.divsi (Host.remsi (shapeCast S4096x10 Q shapeCasts_S8x512x10_S4096x10) (broadcastInDim S4096x10 ![] bcast_S_S4096x10 (constantI S_ 32 6272#32)))
        (broadcastInDim S4096x10 ![] bcast_S_S4096x10 (constantI S_ 32 8#32)))) (broadcastInDim S4096x10x1 ![] bcast_S_S4096x10x1 (constantI S_ 32 128#32))))
    (broadcastInDim S4096x10x128 ![0, 1, 2] bcast_S1x1x128_S4096x10x128_0_1_2 (broadcastInDim S1x1x128 ![2] bcast_S128_S1x1x128_2 (iotaInDim S128 32 0))))
    shapeCasts_S4096x10x128_S4096x1280

/-- One of them, from a chunk number that is not negative. -/
theorem candidateColumns_apply (hQ : ∀ y, (Q y).msb = false) (i : Fin 4096) (c : Fin 1280) : candidateColumns Q (ix2 i c) = columnOf Q i c := by
  unfold candidateColumns
  pointwise
  rw [inRow_eq _ (hQ _)]
  unfold columnOf
  rw [BitVec.ofNat_add, BitVec.ofNat_mul]
  rfl

/-- The places as the reference reads them, as a column of numbers. -/
abbrev numbers (P : IVec S4096x10 32) : IVec S4096x10x1 32 :=
  shapeCast S4096x10x1 (select (cmpi .slt P (broadcastInDim S4096x10 ![] bcast_S_S4096x10 (constantI S_ 32 0#32)))
    (addi P (broadcastInDim S4096x10 ![] bcast_S_S4096x10 (constantI S_ 32 1280#32))) P) shapeCasts_S4096x10_S4096x10x1

/-- The words of a table at places in its rows. -/
abbrev taken (C : IVec S4096x1280 32) (P : IVec S4096x10 32) : IVec S4096x10 32 :=
  select (Host.reduce IntOp.andi (andi (cmpi .sge (numbers P) (broadcastInDim S4096x10x1 ![] bcast_S_S4096x10x1 (constantI S_ 32 0#32)))
      (cmpi .sle (numbers P) (broadcastInDim S4096x10x1 ![0, 1, 2] bcast_S1x1x1_S4096x10x1_0_1_2 (broadcastInDim S1x1x1 ![2] bcast_S1_S1x1x1_2 (constantI S1 32 1279#32)))))
      (constantI S_ 1 1#1) reducesTo_S4096x10x1_S4096x10_d2 h_S_)
    (Host.gather gather_S4096x1280_S4096x10x1_S4096x10_n_1_0_0_1_2_11 C (numbers P)) (broadcastInDim S4096x10 ![] bcast_S_S4096x10 (constantI S_ 32 2147483648#32))

/-- The gather at an element: the row's own word at the place that the number names. -/
theorem gather_apply (C : IVec S4096x1280 32) (N : IVec S4096x10x1 32) (y : S4096x10.Idx) (q : Fin 1280) (h : N (ix3 (y 0) (y 1) 0) = BitVec.ofNat 32 q.val) :
    Host.gather gather_S4096x1280_S4096x10x1_S4096x10_n_1_0_0_1_2_11 C N y = C (ix2 (y 0) q) := by
  have hk : min (N (ix3 (y 0) (y 1) 0)).toInt.toNat 1279 = q.val := by
    rw [h, toInt_position _ (by omega)]
    omega
  unfold Host.gather
  congr 1
  funext a
  refine Fin.ext ?_
  show GatherDims.start _ y N a + GatherDims.batchCoord _ y a + GatherDims.offCoord _ y a = _
  have ho : ∀ a, GatherDims.offCoord gather_S4096x1280_S4096x10x1_S4096x10_n_1_0_0_1_2_11 y a = 0 := fun a =>
    GatherDims.offCoord_eq_zero _ _ _ fun h => by
      have h' := (GatherDims.mem_sKept _ _).mp h
      match a with
      | ⟨0, _⟩ => exact h'.2 (List.mem_singleton.mpr rfl)
      | ⟨1, _⟩ => exact h'.1 (List.mem_singleton.mpr rfl)
  rw [ho, Nat.add_zero]
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl), Nat.zero_add]
    unfold GatherDims.batchCoord
    rw [dif_pos (show (0 : Fin 2) ∈ gather_S4096x1280_S4096x10x1_S4096x10_n_1_0_0_1_2_11.operandBatchingDims from List.mem_singleton.mpr rfl)]
    rfl
  · rw [GatherDims.batchCoord_eq_zero _ _ _ (show (1 : Fin 2) ∉ gather_S4096x1280_S4096x10x1_S4096x10_n_1_0_0_1_2_11.operandBatchingDims from by decide), Nat.add_zero]
    unfold GatherDims.start
    rw [dif_pos (show (1 : Fin 2) ∈ gather_S4096x1280_S4096x10x1_S4096x10_n_1_0_0_1_2_11.startIndexMap from List.mem_singleton.mpr rfl)]
    have hsi : gather_S4096x1280_S4096x10x1_S4096x10_n_1_0_0_1_2_11.siIdx y ⟨List.idxOf (1 : Fin 2) gather_S4096x1280_S4096x10x1_S4096x10_n_1_0_0_1_2_11.startIndexMap,
        List.idxOf_lt_length_iff.2 (List.mem_singleton.mpr rfl)⟩ = ix3 (y 0) (y 1) 0 := by
      funext b; refine Fin.ext ?_
      match b with
      | ⟨0, _⟩ => rfl
      | ⟨1, _⟩ => rfl
      | ⟨2, _⟩ => rfl
    exact (congrArg (fun i => min (N i).toInt.toNat 1279) hsi).trans hk

/-- The words at places that lie in the rows. -/
theorem taken_apply (C : IVec S4096x1280 32) (P : IVec S4096x10 32) (h : ∀ y, (P y).toNat < 1280) (i : Fin 4096) (k : Fin 10) (q : Fin 1280)
    (hq : P (ix2 i k) = BitVec.ofNat 32 q.val) : taken C P (ix2 i k) = C (ix2 i q) := by
  have hw := Ref.wrapped (n := 1280) (by decide) P (broadcastInDim S4096x10 ![] bcast_S_S4096x10 (constantI S_ 32 0#32)) (broadcastInDim S4096x10 ![] bcast_S_S4096x10 (constantI S_ 32 1280#32)) (fun _ => rfl) h
  have hn : numbers P = shapeCast S4096x10x1 P shapeCasts_S4096x10_S4096x10x1 := congrArg (fun p => shapeCast S4096x10x1 p shapeCasts_S4096x10_S4096x10x1) hw
  have hin : ∀ y : S4096x10x1.Idx, andi (cmpi .sge (shapeCast S4096x10x1 P shapeCasts_S4096x10_S4096x10x1) (broadcastInDim S4096x10x1 ![] bcast_S_S4096x10x1 (constantI S_ 32 0#32)))
      (cmpi .sle (shapeCast S4096x10x1 P shapeCasts_S4096x10_S4096x10x1)
        (broadcastInDim S4096x10x1 ![0, 1, 2] bcast_S1x1x1_S4096x10x1_0_1_2 (broadcastInDim S1x1x1 ![2] bcast_S1_S1x1x1_2 (constantI S1 32 1279#32)))) y = 1#1 := fun y =>
    Ref.within (shapeCast S4096x10x1 P shapeCasts_S4096x10_S4096x10x1 y) 1279#32 (by decide) (Nat.le_of_lt_succ (h (Shape.reshapeEquiv shapeCasts_S4096x10_S4096x10x1 y)))
  unfold taken
  rw [hn]
  refine (Ref.select_of_one _ _ _ _ (Host.reduce_andi_one _ (constantI S_ 1 1#1) reducesTo_S4096x10x1_S4096x10_d2 h_S_ _ rfl hin)).trans
    (gather_apply C _ _ q (Eq.trans ?_ hq))
  refine shapeCast_apply _ _ _ _ ?_
  rw [Shape.rowMajor_val_two, Shape.rowMajor_val_three]
  show i.val * 10 + k.val = (i.val * 10 + k.val) * 1 + 0
  omega

/-! ## The results -/

/-- A table of ten entries to a row, in groups of 512 rows. -/
theorem grouped {α : Type} (a : S4096x10.Idx → α) (y : S8x512x10.Idx) : shapeCast S8x512x10 a shapeCasts_S4096x10_S8x512x10 y = a (ix2 (rowOf y) (y 2 : Fin 10)) := by
  refine shapeCast_apply _ _ _ _ ?_
  rw [Shape.rowMajor_val_two, Shape.rowMajor_val_three]
  show (512 * (y 0).val + (y 1).val) * 10 + (y 2).val = ((y 0).val * 512 + (y 1).val) * 10 + (y 2).val
  omega

/-- The reference's first result is the neighbours, from chunk numbers that are not negative. -/
theorem ref_neighbours (hQ : ∀ y, (Q y).msb = false) : shapeCast S8x512x10 (taken (candidateColumns Q) (places X)) shapeCasts_S4096x10_S8x512x10 = neighbours X Q := by
  funext y
  exact (grouped _ y).trans ((taken_apply _ _ (places_lt X) _ _ _ (places_apply X _ _)).trans (candidateColumns_apply Q hQ _ _))

/-- The reference's sums. -/
abbrev sums (v : FVec Ideal S4096x10 .f32) : FVec Ideal S4096x1 .f32 :=
  broadcastInDim S4096x1 ![0] bcast_S4096_S4096x1_0 (Host.reduceAdd v (constant S_ .f32 0x00000000#32) reducesTo_S4096x10_S4096_d1 h_S_)

/-- The reference's shares. -/
abbrev shares (v : FVec Ideal S4096x10 .f32) : FVec Ideal S4096x10 .f32 :=
  select (broadcastInDim S4096x10 ![0, 1] bcast_S4096x1_S4096x10_0_1 (cmpf .ogt (sums v) (broadcastInDim S4096x1 ![] bcast_S_S4096x1 (constant S_ .f32 0x00000000#32))))
    (Host.divf v (broadcastInDim S4096x10 ![0, 1] bcast_S4096x1_S4096x10_0_1 (select (cmpf .ogt (sums v) (broadcastInDim S4096x1 ![] bcast_S_S4096x1 (constant S_ .f32 0x00000000#32))) (sums v)
      (broadcastInDim S4096x1 ![] bcast_S_S4096x1 (id (constant S_ .f32 0x3F800000#32)))))) v

/-- A sum. -/
theorem sums_apply (v : FVec Ideal S4096x10 .f32) (i : Fin 4096) : sums v (ix2 i 0) = ∑ k : Fin 10, v (ix2 i k) := by
  unfold sums
  pointwise

/-- A share. -/
theorem shares_apply (v : FVec Ideal S4096x10 .f32) (i : Fin 4096) (k : Fin 10) : shares v (ix2 i k) = share (∑ k : Fin 10, v (ix2 i k)) (v (ix2 i k)) := by
  have e := sums_apply v i
  unfold shares
  generalize sums v = s at e ⊢
  pointwise
  rw [e]
  unfold share
  by_cases h : 0 < ∑ j : Fin 10, v (ix2 i j)
  · simp only [if_pos h]
  · simp only [if_neg h]

/-- The reference's second result is the weights. -/
theorem ref_weights : shapeCast S8x512x10 (shares (entries X)) shapeCasts_S4096x10_S8x512x10 = weights X := by
  funext y
  refine (grouped _ y).trans ((shares_apply _ _ _).trans ?_)
  exact congrArg₂ share (Finset.sum_congr rfl fun k _ => entries_apply X _ k) (entries_apply X _ _)

end Cert.Proof.Rank

end
-- ==== Proof.Rank.Algebraic.lean ====
/-
  The top-k of the candidates: its frames, and that over the extended reals it and its reference leave the same neighbours and
  weights.
-/
module

public import proofs.«01_k».proof.Defs
public import proofs.«01_k».proof.Proof.Rank.RefValue
public import proofs.«01_k».proof.Proof.Gen.Rank.Frame
public import proofs.«01_k».proof.Proof.Gen.RankReferenceIdeal
public import proofs.«01_k».proof.Proof.Gen.Pre_own_chunks
public import Idealize.ShloMosaic.Lib.ReduceAll

@[expose] public section

noncomputable section

namespace Cert.Proof.Rank

open Cert.Proof.Ranked
open Idealize.ShloMosaic Idealize.SL.Sem
open Idealize.ShloMosaic.TcCoe

/-! ## The frames -/

/-- The top-k over bits runs with its arguments unchanged and its semaphores at zero. -/
theorem frame_kernel : Cert.quiescent_Rank := fun m ρ _ => Cert.Rank.Gen.frame m ρ

/-- The top-k over the extended reals runs with its arguments unchanged and its semaphores at zero. -/
theorem frame_kernelIdeal : Cert.quiescent_RankIdeal := fun m ρ _ => Cert.RankIdeal.Gen.frame m ρ

/-- The same where the chunks are each row's own and the candidates above the least value. -/
theorem frame_kernelIdeal_own : Cert.quiescent_RankIdeal_pre_own_chunks := fun m ρ _ => Cert.RankIdeal.Gen.frame m ρ

/-- Its reference runs with its arguments unchanged; it declares no semaphore. -/
theorem frame_referenceIdeal : Cert.quiescent_RankReferenceIdeal := fun m ρ _ =>
  (θ_run Cert.RankReferenceIdeal.defs _ _).mono (fun r h => ⟨fun c => (h c).2.2, sem_eq_zero_of_no_sems (by decide) r.2⟩)
    (Cert.RankReferenceIdeal.Value.run (F := Ideal) m ρ)

/-- The same where the chunks are each row's own and the candidates above the least value. -/
theorem frame_referenceIdeal_own : Cert.quiescent_RankReferenceIdeal_pre_own_chunks := fun m ρ _ => frame_referenceIdeal m ρ trivial

/-! ## The equation -/

/-- Both of two conditions hold if their conjunction does. -/
theorem both (a b : BitVec 1) (h : IntOp.andi a b = 1#1) : a = 1#1 ∧ b = 1#1 := by
  revert a b
  decide

/-- Two words that compare as equal are. -/
theorem eq_of_cmpi (a b : BitVec 32) (h : IntOp.cmpi .eq a b = 1#1) : a = b := by
  have e : IntOp.cmpi .eq a b = BitVec.ofBool (a == b) := rfl
  rw [e] at h
  by_contra h'
  rw [beq_eq_false_iff_ne.mpr h'] at h
  exact absurd h (by decide)

variable (X : FVec Ideal Cert.Pre_own_chunks.S4096x1280 .f32) (Q : IVec Cert.Pre_own_chunks.S8x512x10 32)

/-- The precondition, read at an element of each argument. -/
theorem of_pre (h : Cert.Pre_own_chunks.fn (F := Ideal) X Q = fun _ => 1#1) :
    (∀ y, low < X y) ∧ ∀ (i : Fin 4096) (s : Fin 10), (Q (ix3 ⟨i.val / 512, by omega⟩ ⟨i.val % 512, by omega⟩ s)).msb = false
      ∧ Q (ix3 ⟨i.val / 512, by omega⟩ ⟨i.val % 512, by omega⟩ s)
        = BitVec.ofNat 32 (Ranked.place i.val (inRow (Q (ix3 ⟨i.val / 512, by omega⟩ ⟨i.val % 512, by omega⟩ s)))) := by
  haveI : Subsingleton (Cert.Pre_own_chunks.S_.Idx) := ⟨fun a b => funext fun i => i.elim0⟩
  obtain ⟨hq, hx⟩ := both _ _ (congrFun h ix0)
  refine ⟨fun y => lt_of_greater _ (Host.reduce_andi_all _ _ _ _ _ hx y), fun i s => ?_⟩
  have hy := Host.reduce_andi_all _ _ _ _ _ hq (ix3 (⟨i.val / 512, by omega⟩ : Fin 8) (⟨i.val % 512, by omega⟩ : Fin 512) s)
  obtain ⟨h0, h1⟩ := both _ _ hy
  obtain ⟨hd, hr⟩ := both _ _ h1
  have hm := msb_of_sge _ h0
  refine ⟨hm, eq_place _ i hm ((eq_of_cmpi _ _ hd).trans ?_) ((eq_of_cmpi _ _ hr).trans ?_)⟩
  all_goals
    pointwise

/-- No chunk number is negative, then. -/
theorem msb_of_pre (h : Cert.Pre_own_chunks.fn (F := Ideal) X Q = fun _ => 1#1) (y : Cert.Pre_own_chunks.S8x512x10.Idx) : (Q y).msb = false := by
  have y0 : (y 0).val < 8 := (y 0).isLt
  have y1 : (y 1).val < 512 := (y 1).isLt
  have e : y = ix3 (⟨(512 * (y 0).val + (y 1).val) / 512, by omega⟩ : Fin 8) (⟨(512 * (y 0).val + (y 1).val) % 512, by omega⟩ : Fin 512) (y 2 : Fin 10) := by
    funext a
    match a with
    | ⟨0, _⟩ => exact Fin.ext (by show (y 0).val = (512 * (y 0).val + (y 1).val) / 512; omega)
    | ⟨1, _⟩ => exact Fin.ext (by show (y 1).val = (512 * (y 0).val + (y 1).val) % 512; omega)
    | ⟨2, _⟩ => rfl
  exact (congrArg (fun y => (Q y).msb) e).trans ((of_pre X Q h).2 ⟨512 * (y 0).val + (y 1).val, by omega⟩ (y 2)).1

/-- The top-k and its reference, run from equal arguments, end with equal neighbours and weights, their arguments unchanged. -/
theorem algebraic : Cert.algebraic_RankIdeal_RankReferenceIdeal_pre_own_chunks := by
  intro m g m' g' hpre hargs
  refine ⟨fun c => neighbours (m (c, Cert.RankIdeal.main_arg0)) (m (c, Cert.RankIdeal.main_arg1)), fun c => weights (m (c, Cert.RankIdeal.main_arg0)), ?_, ?_⟩
  · refine (θ_run Cert.RankIdeal.defs _ _).mono (fun r h c => ?_) (Cert.RankIdeal.Value.run_blocks (F := Ideal) m g)
    have hp := of_pre _ _ (hpre c)
    exact ⟨(h c).1.trans (result2 m c hp.1 fun i s => (hp.2 i s).2), (h c).2.1.trans (result3 m c hp.1), (h c).2.2⟩
  · refine (θ_run Cert.RankReferenceIdeal.defs _ _).mono (fun r h c => ?_) (Cert.RankReferenceIdeal.Value.run (F := Ideal) m' g')
    refine ⟨(h c).1.trans ?_, (h c).2.1.trans ?_, (h c).2.2⟩
    · rw [(hargs c).1, (hargs c).2]
      exact ref_neighbours _ _ (msb_of_pre _ _ (hpre c))
    · rw [(hargs c).1]
      exact ref_weights _

end Cert.Proof.Rank

end
-- ==== Proof.lean ====
/-
  The claims, put together.
-/
module

public import proofs.«01_k».proof.Defs
public import proofs.«01_k».proof.Proof.Frames
public import proofs.«01_k».proof.Proof.Algebraic
public import proofs.«01_k».proof.Proof.Chunks.Algebraic
public import proofs.«01_k».proof.Proof.Scores.Algebraic
public import proofs.«01_k».proof.Proof.Choose.Algebraic
public import proofs.«01_k».proof.Proof.Rank.Algebraic
public import proofs.«01_k».proof.Proof.Gen.ReferenceIdeal.Run
public import proofs.«01_k».proof.Proof.Gen.Chunks
public import proofs.«01_k».proof.Proof.Gen.ChunksIdeal
public import proofs.«01_k».proof.Proof.Gen.ChunksIdeal.Skeleton
public import proofs.«01_k».proof.Proof.Gen.ChunksReferenceIdeal.Run
public import proofs.«01_k».proof.Proof.Gen.Pre_chunks_in_range
public import proofs.«01_k».proof.Proof.Gen.Scores
public import proofs.«01_k».proof.Proof.Gen.Scores.Frame
public import proofs.«01_k».proof.Proof.Gen.ScoresIdeal.Value
public import proofs.«01_k».proof.Proof.Gen.ScoresReferenceIdeal.Run
public import proofs.«01_k».proof.Proof.Gen.Choose
public import proofs.«01_k».proof.Proof.Gen.Choose.Frame
public import proofs.«01_k».proof.Proof.Gen.ChooseIdeal.Value
public import proofs.«01_k».proof.Proof.Gen.ChooseReferenceIdeal.Run
public import proofs.«01_k».proof.Proof.Gen.Pre_maxima_above
public import proofs.«01_k».proof.Proof.Gen.Rank
public import proofs.«01_k».proof.Proof.Gen.Rank.Frame
public import proofs.«01_k».proof.Proof.Gen.RankIdeal.Value
public import proofs.«01_k».proof.Proof.Gen.RankReferenceIdeal.Run
public import proofs.«01_k».proof.Proof.Gen.Pre_own_chunks

@[expose] public section

noncomputable section

namespace Cert.Proof

/-- Everything that the statement claims. -/
theorem claim : Cert.Claim :=
  ⟨Cert.Kernel.Gen.facts, Cert.KernelIdeal.Gen.facts, Cert.ReferenceIdeal.Gen.facts,
    Cert.Chunks.Gen.facts, Cert.ChunksIdeal.Gen.facts, Cert.ChunksReferenceIdeal.Gen.facts,
    Cert.Scores.Gen.facts, Cert.ScoresIdeal.Gen.facts, Cert.ScoresReferenceIdeal.Gen.facts,
    Cert.Choose.Gen.facts, Cert.ChooseIdeal.Gen.facts, Cert.ChooseReferenceIdeal.Gen.facts,
    Cert.Rank.Gen.facts, Cert.RankIdeal.Gen.facts, Cert.RankReferenceIdeal.Gen.facts,
    Cert.Pre_in_range.Gen.facts, Cert.Pre_chunks_in_range.Gen.facts, Cert.Pre_maxima_above.Gen.facts,
    Cert.Pre_own_chunks.Gen.facts,
    frame_kernel, frame_kernelIdeal, frame_referenceIdeal, frame_referenceIdeal_in_range,
    Chunks.frame_kernel, Chunks.frame_kernelIdeal, Chunks.frame_referenceIdeal, Chunks.frame_referenceIdeal_in_range,
    Scores.frame_kernel, Scores.frame_kernelIdeal, Scores.frame_referenceIdeal,
    Choose.frame_kernel, Choose.frame_kernelIdeal, Choose.frame_kernelIdeal_above, Choose.frame_referenceIdeal, Choose.frame_referenceIdeal_above,
    Rank.frame_kernel, Rank.frame_kernelIdeal, Rank.frame_kernelIdeal_own, Rank.frame_referenceIdeal, Rank.frame_referenceIdeal_own,
    trivial, algebraic, trivial, Chunks.algebraic, trivial, Scores.algebraic, trivial, Choose.algebraic, trivial, Rank.algebraic⟩

end Cert.Proof

end
